-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v277_0)) (v1 : (c : Dev Cert.KernelIdeal.nD) → Buf (Elt Ideal) ((c.tc : Thread Cert.KernelIdeal.nD Cert.KernelIdeal.τ).loc Cert.KernelIdeal.main_v277_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v277_0) = v0 c
          ∧ r.2.mem ((c.tc : Thread Cert.KernelIdeal.nD Cert.KernelIdeal.τ).loc Cert.KernelIdeal.main_v277_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v16)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v54) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x4x1024x3072 : Shape := ⟨4, ![4, 4, 1024, 3072]⟩
abbrev S32x16 : Shape := ⟨2, ![32, 16]⟩
abbrev S_ : Shape := ⟨0, ![]⟩
abbrev S1x1x1x3072 : Shape := ⟨4, ![1, 1, 1, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x128x256 : Shape := ⟨3, ![16, 128, 256]⟩
abbrev S1x128x256 : Shape := ⟨3, ![1, 128, 256]⟩
abbrev S1x16 : Shape := ⟨2, ![1, 16]⟩
abbrev S16 : Shape := ⟨1, ![16]⟩
abbrev S16x1x1 : Shape := ⟨3, ![16, 1, 1]⟩
abbrev S4x4x1024x1024 : Shape := ⟨4, ![4, 4, 1024, 1024]⟩
abbrev S4x4x1024x128 : Shape := ⟨4, ![4, 4, 1024, 128]⟩
abbrev S1x1x512x1024 : Shape := ⟨4, ![1, 1, 512, 1024]⟩
abbrev S1x1x128x1024 : Shape := ⟨4, ![1, 1, 128, 1024]⟩
abbrev S1x1x512x128 : Shape := ⟨4, ![1, 1, 512, 128]⟩
abbrev S1x128 : Shape := ⟨2, ![1, 128]⟩
abbrev S1x512x128 : Shape := ⟨3, ![1, 512, 128]⟩
abbrev S256x256 : Shape := ⟨2, ![256, 256]⟩
abbrev S256x128 : Shape := ⟨2, ![256, 128]⟩
abbrev S1x1x128x128 : Shape := ⟨4, ![1, 1, 128, 128]⟩
abbrev S128x128 : Shape := ⟨2, ![128, 128]⟩
abbrev S1x1x256x128 : Shape := ⟨4, ![1, 1, 256, 128]⟩
abbrev S256x1 : Shape := ⟨2, ![256, 1]⟩

abbrev nBuf : Space → Nat
  | .hbm => 404
  | .vmem => 15
  | .smem => 0
  | _ => 0

abbrev hbmTy0_0 (i : Nat) : BufTy := match i % 128 with
  | 0 => ⟨S4x4x1024x3072, .f32⟩
  | 1 => ⟨S32x16, .f32⟩
  | 2 => ⟨S_, .f32⟩
  | 3 => ⟨S_, .f32⟩
  | 4 => ⟨S_, .f32⟩
  | 5 => ⟨S_, .f32⟩
  | 6 => ⟨S1x1x1x3072, .i32⟩
  | 7 => ⟨S_, .i32⟩
  | 8 => ⟨S1x1x1x3072, .i32⟩
  | 9 => ⟨S1x1x1x3072, .i1⟩
  | 10 => ⟨S_, .f32⟩
  | 11 => ⟨S_, .f32⟩
  | 12 => ⟨S_, .f32⟩
  | 13 => ⟨S_, .f32⟩
  | 14 => ⟨S1x1x1x3072, .f32⟩
  | 15 => ⟨S1x1x1x3072, .f32⟩
  | 16 => ⟨S1x1x1x3072, .f32⟩
  | 17 => ⟨S4x4x1024x3072, .f32⟩
  | 18 => ⟨S4x4x1024x3072, .f32⟩
  | 19 => ⟨S4x4x1024x3072, .bf16⟩
  | 20 => ⟨S128, .i32⟩
  | 21 => ⟨S128x1, .i32⟩
  | 22 => ⟨S256, .i32⟩
  | 23 => ⟨S1x256, .i32⟩
  | 24 => ⟨S_, .i32⟩
  | 25 => ⟨S128x1, .i32⟩
  | 26 => ⟨S128x1, .i32⟩
  | 27 => ⟨S128x256, .i32⟩
  | 28 => ⟨S128x256, .i32⟩
  | 29 => ⟨S128x256, .i32⟩
  | 30 => ⟨S_, .i32⟩
  | 31 => ⟨S128x256, .i32⟩
  | 32 => ⟨S128x256, .i1⟩
  | 33 => ⟨S_, .i32⟩
  | 34 => ⟨S128x256, .i32⟩
  | 35 => ⟨S128x256, .i1⟩
  | 36 => ⟨S128x256, .i1⟩
  | 37 => ⟨S_, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S_, .i32⟩
  | 44 => ⟨S128x256, .i32⟩
  | 45 => ⟨S128x256, .i32⟩
  | 46 => ⟨S128x256, .f32⟩
  | 47 => ⟨S_, .f32⟩
  | 48 => ⟨S128x256, .f32⟩
  | 49 => ⟨S128x256, .f32⟩
  | 50 => ⟨S128x256, .f32⟩
  | 51 => ⟨S_, .f32⟩
  | 52 => ⟨S128x256, .f32⟩
  | 53 => ⟨S128x256, .f32⟩
  | 54 => ⟨S_, .f32⟩
  | 55 => ⟨S128x256, .f32⟩
  | 56 => ⟨S128x256, .f32⟩
  | 57 => ⟨S128x256, .i32⟩
  | 58 => ⟨S_, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S_, .i32⟩
  | 65 => ⟨S128x256, .i32⟩
  | 66 => ⟨S128x256, .i32⟩
  | 67 => ⟨S128x256, .i32⟩
  | 68 => ⟨S_, .f32⟩
  | 69 => ⟨S16x128x256, .f32⟩
  | 70 => ⟨S_, .i32⟩
  | 71 => ⟨S128x256, .i32⟩
  | 72 => ⟨S128x256, .i1⟩
  | 73 => ⟨S1x128x256, .i1⟩
  | 74 => ⟨S1x16, .f32⟩
  | 75 => ⟨S16, .f32⟩
  | 76 => ⟨S16x1x1, .f32⟩
  | 77 => ⟨S16x128x256, .i1⟩
  | 78 => ⟨S16x128x256, .f32⟩
  | 79 => ⟨S16x128x256, .f32⟩
  | 80 => ⟨S_, .i32⟩
  | 81 => ⟨S128x256, .i32⟩
  | 82 => ⟨S128x256, .i1⟩
  | 83 => ⟨S1x128x256, .i1⟩
  | 84 => ⟨S1x16, .f32⟩
  | 85 => ⟨S16, .f32⟩
  | 86 => ⟨S16x1x1, .f32⟩
  | 87 => ⟨S16x128x256, .i1⟩
  | 88 => ⟨S16x128x256, .f32⟩
  | 89 => ⟨S16x128x256, .f32⟩
  | 90 => ⟨S_, .i32⟩
  | 91 => ⟨S128x256, .i32⟩
  | 92 => ⟨S128x256, .i1⟩
  | 93 => ⟨S1x128x256, .i1⟩
  | 94 => ⟨S1x16, .f32⟩
  | 95 => ⟨S16, .f32⟩
  | 96 => ⟨S16x1x1, .f32⟩
  | 97 => ⟨S16x128x256, .i1⟩
  | 98 => ⟨S16x128x256, .f32⟩
  | 99 => ⟨S16x128x256, .f32⟩
  | 100 => ⟨S_, .i32⟩
  | 101 => ⟨S128x256, .i32⟩
  | 102 => ⟨S128x256, .i1⟩
  | 103 => ⟨S1x128x256, .i1⟩
  | 104 => ⟨S1x16, .f32⟩
  | 105 => ⟨S16, .f32⟩
  | 106 => ⟨S16x1x1, .f32⟩
  | 107 => ⟨S16x128x256, .i1⟩
  | 108 => ⟨S16x128x256, .f32⟩
  | 109 => ⟨S16x128x256, .f32⟩
  | 110 => ⟨S_, .i32⟩
  | 111 => ⟨S128x256, .i32⟩
  | 112 => ⟨S128x256, .i1⟩
  | 113 => ⟨S1x128x256, .i1⟩
  | 114 => ⟨S1x16, .f32⟩
  | 115 => ⟨S16, .f32⟩
  | 116 => ⟨S16x1x1, .f32⟩
  | 117 => ⟨S16x128x256, .i1⟩
  | 118 => ⟨S16x128x256, .f32⟩
  | 119 => ⟨S16x128x256, .f32⟩
  | 120 => ⟨S_, .i32⟩
  | 121 => ⟨S128x256, .i32⟩
  | 122 => ⟨S128x256, .i1⟩
  | 123 => ⟨S1x128x256, .i1⟩
  | 124 => ⟨S1x16, .f32⟩
  | 125 => ⟨S16, .f32⟩
  | 126 => ⟨S16x1x1, .f32⟩
  | 127 => ⟨S16x128x256, .i1⟩
  | _ => ⟨S4x4x1024x3072, .f32⟩

abbrev hbmTy0_1 (i : Nat) : BufTy := match i % 128 with
  | 0 => ⟨S16x128x256, .f32⟩
  | 1 => ⟨S16x128x256, .f32⟩
  | 2 => ⟨S_, .i32⟩
  | 3 => ⟨S128x256, .i32⟩
  | 4 => ⟨S128x256, .i1⟩
  | 5 => ⟨S1x128x256, .i1⟩
  | 6 => ⟨S1x16, .f32⟩
  | 7 => ⟨S16, .f32⟩
  | 8 => ⟨S16x1x1, .f32⟩
  | 9 => ⟨S16x128x256, .i1⟩
  | 10 => ⟨S16x128x256, .f32⟩
  | 11 => ⟨S16x128x256, .f32⟩
  | 12 => ⟨S_, .i32⟩
  | 13 => ⟨S128x256, .i32⟩
  | 14 => ⟨S128x256, .i1⟩
  | 15 => ⟨S1x128x256, .i1⟩
  | 16 => ⟨S1x16, .f32⟩
  | 17 => ⟨S16, .f32⟩
  | 18 => ⟨S16x1x1, .f32⟩
  | 19 => ⟨S16x128x256, .i1⟩
  | 20 => ⟨S16x128x256, .f32⟩
  | 21 => ⟨S16x128x256, .f32⟩
  | 22 => ⟨S_, .i32⟩
  | 23 => ⟨S128x256, .i32⟩
  | 24 => ⟨S128x256, .i1⟩
  | 25 => ⟨S1x128x256, .i1⟩
  | 26 => ⟨S1x16, .f32⟩
  | 27 => ⟨S16, .f32⟩
  | 28 => ⟨S16x1x1, .f32⟩
  | 29 => ⟨S16x128x256, .i1⟩
  | 30 => ⟨S16x128x256, .f32⟩
  | 31 => ⟨S16x128x256, .f32⟩
  | 32 => ⟨S_, .i32⟩
  | 33 => ⟨S128x256, .i32⟩
  | 34 => ⟨S128x256, .i1⟩
  | 35 => ⟨S1x128x256, .i1⟩
  | 36 => ⟨S1x16, .f32⟩
  | 37 => ⟨S16, .f32⟩
  | 38 => ⟨S16x1x1, .f32⟩
  | 39 => ⟨S16x128x256, .i1⟩
  | 40 => ⟨S16x128x256, .f32⟩
  | 41 => ⟨S16x128x256, .f32⟩
  | 42 => ⟨S_, .i32⟩
  | 43 => ⟨S128x256, .i32⟩
  | 44 => ⟨S128x256, .i1⟩
  | 45 => ⟨S1x128x256, .i1⟩
  | 46 => ⟨S1x16, .f32⟩
  | 47 => ⟨S16, .f32⟩
  | 48 => ⟨S16x1x1, .f32⟩
  | 49 => ⟨S16x128x256, .i1⟩
  | 50 => ⟨S16x128x256, .f32⟩
  | 51 => ⟨S16x128x256, .f32⟩
  | 52 => ⟨S_, .i32⟩
  | 53 => ⟨S128x256, .i32⟩
  | 54 => ⟨S128x256, .i1⟩
  | 55 => ⟨S1x128x256, .i1⟩
  | 56 => ⟨S1x16, .f32⟩
  | 57 => ⟨S16, .f32⟩
  | 58 => ⟨S16x1x1, .f32⟩
  | 59 => ⟨S16x128x256, .i1⟩
  | 60 => ⟨S16x128x256, .f32⟩
  | 61 => ⟨S16x128x256, .f32⟩
  | 62 => ⟨S_, .i32⟩
  | 63 => ⟨S128x256, .i32⟩
  | 64 => ⟨S128x256, .i1⟩
  | 65 => ⟨S1x128x256, .i1⟩
  | 66 => ⟨S1x16, .f32⟩
  | 67 => ⟨S16, .f32⟩
  | 68 => ⟨S16x1x1, .f32⟩
  | 69 => ⟨S16x128x256, .i1⟩
  | 70 => ⟨S16x128x256, .f32⟩
  | 71 => ⟨S16x128x256, .f32⟩
  | 72 => ⟨S_, .i32⟩
  | 73 => ⟨S128x256, .i32⟩
  | 74 => ⟨S128x256, .i1⟩
  | 75 => ⟨S1x128x256, .i1⟩
  | 76 => ⟨S1x16, .f32⟩
  | 77 => ⟨S16, .f32⟩
  | 78 => ⟨S16x1x1, .f32⟩
  | 79 => ⟨S16x128x256, .i1⟩
  | 80 => ⟨S16x128x256, .f32⟩
  | 81 => ⟨S16x128x256, .f32⟩
  | 82 => ⟨S_, .i32⟩
  | 83 => ⟨S128x256, .i32⟩
  | 84 => ⟨S128x256, .i1⟩
  | 85 => ⟨S1x128x256, .i1⟩
  | 86 => ⟨S1x16, .f32⟩
  | 87 => ⟨S16, .f32⟩
  | 88 => ⟨S16x1x1, .f32⟩
  | 89 => ⟨S16x128x256, .i1⟩
  | 90 => ⟨S16x128x256, .f32⟩
  | 91 => ⟨S16x128x256, .f32⟩
  | 92 => ⟨S_, .i32⟩
  | 93 => ⟨S128x256, .i32⟩
  | 94 => ⟨S128x256, .i1⟩
  | 95 => ⟨S1x128x256, .i1⟩
  | 96 => ⟨S1x16, .f32⟩
  | 97 => ⟨S16, .f32⟩
  | 98 => ⟨S16x1x1, .f32⟩
  | 99 => ⟨S16x128x256, .i1⟩
  | 100 => ⟨S16x128x256, .f32⟩
  | 101 => ⟨S16x128x256, .f32⟩
  | 102 => ⟨S_, .i32⟩
  | 103 => ⟨S128x256, .i32⟩
  | 104 => ⟨S128x256, .i1⟩
  | 105 => ⟨S1x128x256, .i1⟩
  | 106 => ⟨S1x16, .f32⟩
  | 107 => ⟨S16, .f32⟩
  | 108 => ⟨S16x1x1, .f32⟩
  | 109 => ⟨S16x128x256, .i1⟩
  | 110 => ⟨S16x128x256, .f32⟩
  | 111 => ⟨S16x128x256, .f32⟩
  | 112 => ⟨S_, .i32⟩
  | 113 => ⟨S128x256, .i32⟩
  | 114 => ⟨S128x256, .i1⟩
  | 115 => ⟨S1x128x256, .i1⟩
  | 116 => ⟨S1x16, .f32⟩
  | 117 => ⟨S16, .f32⟩
  | 118 => ⟨S16x1x1, .f32⟩
  | 119 => ⟨S16x128x256, .i1⟩
  | 120 => ⟨S16x128x256, .f32⟩
  | 121 => ⟨S16x128x256, .f32⟩
  | 122 => ⟨S_, .i32⟩
  | 123 => ⟨S128x256, .i32⟩
  | 124 => ⟨S128x256, .i1⟩
  | 125 => ⟨S1x128x256, .i1⟩
  | 126 => ⟨S1x16, .f32⟩
  | 127 => ⟨S16, .f32⟩
  | _ => ⟨S4x4x1024x3072, .f32⟩

abbrev hbmTy0_2 (i : Nat) : BufTy := match i % 128 with
  | 0 => ⟨S16x1x1, .f32⟩
  | 1 => ⟨S16x128x256, .i1⟩
  | 2 => ⟨S16x128x256, .f32⟩
  | 3 => ⟨S16x128x256, .f32⟩
  | 4 => ⟨S_, .i32⟩
  | 5 => ⟨S128x256, .i32⟩
  | 6 => ⟨S128x256, .i1⟩
  | 7 => ⟨S1x128x256, .i1⟩
  | 8 => ⟨S1x16, .f32⟩
  | 9 => ⟨S16, .f32⟩
  | 10 => ⟨S16x1x1, .f32⟩
  | 11 => ⟨S16x128x256, .i1⟩
  | 12 => ⟨S16x128x256, .f32⟩
  | 13 => ⟨S16x128x256, .f32⟩
  | 14 => ⟨S_, .i32⟩
  | 15 => ⟨S128x256, .i32⟩
  | 16 => ⟨S128x256, .i1⟩
  | 17 => ⟨S1x128x256, .i1⟩
  | 18 => ⟨S1x16, .f32⟩
  | 19 => ⟨S16, .f32⟩
  | 20 => ⟨S16x1x1, .f32⟩
  | 21 => ⟨S16x128x256, .i1⟩
  | 22 => ⟨S16x128x256, .f32⟩
  | 23 => ⟨S16x128x256, .f32⟩
  | 24 => ⟨S_, .i32⟩
  | 25 => ⟨S128x256, .i32⟩
  | 26 => ⟨S128x256, .i1⟩
  | 27 => ⟨S1x128x256, .i1⟩
  | 28 => ⟨S1x16, .f32⟩
  | 29 => ⟨S16, .f32⟩
  | 30 => ⟨S16x1x1, .f32⟩
  | 31 => ⟨S16x128x256, .i1⟩
  | 32 => ⟨S16x128x256, .f32⟩
  | 33 => ⟨S16x128x256, .f32⟩
  | 34 => ⟨S_, .i32⟩
  | 35 => ⟨S128x256, .i32⟩
  | 36 => ⟨S128x256, .i1⟩
  | 37 => ⟨S1x128x256, .i1⟩
  | 38 => ⟨S1x16, .f32⟩
  | 39 => ⟨S16, .f32⟩
  | 40 => ⟨S16x1x1, .f32⟩
  | 41 => ⟨S16x128x256, .i1⟩
  | 42 => ⟨S16x128x256, .f32⟩
  | 43 => ⟨S16x128x256, .f32⟩
  | 44 => ⟨S_, .i32⟩
  | 45 => ⟨S128x256, .i32⟩
  | 46 => ⟨S128x256, .i1⟩
  | 47 => ⟨S1x128x256, .i1⟩
  | 48 => ⟨S1x16, .f32⟩
  | 49 => ⟨S16, .f32⟩
  | 50 => ⟨S16x1x1, .f32⟩
  | 51 => ⟨S16x128x256, .i1⟩
  | 52 => ⟨S16x128x256, .f32⟩
  | 53 => ⟨S16x128x256, .f32⟩
  | 54 => ⟨S_, .i32⟩
  | 55 => ⟨S128x256, .i32⟩
  | 56 => ⟨S128x256, .i1⟩
  | 57 => ⟨S1x128x256, .i1⟩
  | 58 => ⟨S1x16, .f32⟩
  | 59 => ⟨S16, .f32⟩
  | 60 => ⟨S16x1x1, .f32⟩
  | 61 => ⟨S16x128x256, .i1⟩
  | 62 => ⟨S16x128x256, .f32⟩
  | 63 => ⟨S16x128x256, .f32⟩
  | 64 => ⟨S_, .i32⟩
  | 65 => ⟨S128x256, .i32⟩
  | 66 => ⟨S128x256, .i1⟩
  | 67 => ⟨S1x128x256, .i1⟩
  | 68 => ⟨S1x16, .f32⟩
  | 69 => ⟨S16, .f32⟩
  | 70 => ⟨S16x1x1, .f32⟩
  | 71 => ⟨S16x128x256, .i1⟩
  | 72 => ⟨S16x128x256, .f32⟩
  | 73 => ⟨S16x128x256, .f32⟩
  | 74 => ⟨S_, .i32⟩
  | 75 => ⟨S128x256, .i32⟩
  | 76 => ⟨S128x256, .i1⟩
  | 77 => ⟨S1x128x256, .i1⟩
  | 78 => ⟨S1x16, .f32⟩
  | 79 => ⟨S16, .f32⟩
  | 80 => ⟨S16x1x1, .f32⟩
  | 81 => ⟨S16x128x256, .i1⟩
  | 82 => ⟨S16x128x256, .f32⟩
  | 83 => ⟨S16x128x256, .f32⟩
  | 84 => ⟨S_, .i32⟩
  | 85 => ⟨S128x256, .i32⟩
  | 86 => ⟨S128x256, .i1⟩
  | 87 => ⟨S1x128x256, .i1⟩
  | 88 => ⟨S1x16, .f32⟩
  | 89 => ⟨S16, .f32⟩
  | 90 => ⟨S16x1x1, .f32⟩
  | 91 => ⟨S16x128x256, .i1⟩
  | 92 => ⟨S16x128x256, .f32⟩
  | 93 => ⟨S16x128x256, .f32⟩
  | 94 => ⟨S_, .i32⟩
  | 95 => ⟨S128x256, .i32⟩
  | 96 => ⟨S128x256, .i1⟩
  | 97 => ⟨S1x128x256, .i1⟩
  | 98 => ⟨S1x16, .f32⟩
  | 99 => ⟨S16, .f32⟩
  | 100 => ⟨S16x1x1, .f32⟩
  | 101 => ⟨S16x128x256, .i1⟩
  | 102 => ⟨S16x128x256, .f32⟩
  | 103 => ⟨S16x128x256, .f32⟩
  | 104 => ⟨S_, .i32⟩
  | 105 => ⟨S128x256, .i32⟩
  | 106 => ⟨S128x256, .i1⟩
  | 107 => ⟨S1x128x256, .i1⟩
  | 108 => ⟨S1x16, .f32⟩
  | 109 => ⟨S16, .f32⟩
  | 110 => ⟨S16x1x1, .f32⟩
  | 111 => ⟨S16x128x256, .i1⟩
  | 112 => ⟨S16x128x256, .f32⟩
  | 113 => ⟨S16x128x256, .f32⟩
  | 114 => ⟨S_, .i32⟩
  | 115 => ⟨S128x256, .i32⟩
  | 116 => ⟨S128x256, .i1⟩
  | 117 => ⟨S1x128x256, .i1⟩
  | 118 => ⟨S1x16, .f32⟩
  | 119 => ⟨S16, .f32⟩
  | 120 => ⟨S16x1x1, .f32⟩
  | 121 => ⟨S16x128x256, .i1⟩
  | 122 => ⟨S16x128x256, .f32⟩
  | 123 => ⟨S16x128x256, .f32⟩
  | 124 => ⟨S_, .i32⟩
  | 125 => ⟨S128x256, .i32⟩
  | 126 => ⟨S128x256, .i1⟩
  | 127 => ⟨S1x128x256, .i1⟩
  | _ => ⟨S4x4x1024x3072, .f32⟩

abbrev hbmTy0_3 (i : Nat) : BufTy := match i % 128 with
  | 0 => ⟨S1x16, .f32⟩
  | 1 => ⟨S16, .f32⟩
  | 2 => ⟨S16x1x1, .f32⟩
  | 3 => ⟨S16x128x256, .i1⟩
  | 4 => ⟨S16x128x256, .f32⟩
  | 5 => ⟨S16x128x256, .f32⟩
  | 6 => ⟨S1x128x256, .i1⟩
  | 7 => ⟨S_, .f32⟩
  | 8 => ⟨S_, .f32⟩
  | 9 => ⟨S_, .f32⟩
  | 10 => ⟨S_, .f32⟩
  | 11 => ⟨S16x128x256, .f32⟩
  | 12 => ⟨S16x128x256, .f32⟩
  | 13 => ⟨S_, .f32⟩
  | 14 => ⟨S_, .f32⟩
  | 15 => ⟨S16x128x256, .i1⟩
  | 16 => ⟨S16x128x256, .f32⟩
  | 17 => ⟨S16x128x256, .f32⟩
  | 18 => ⟨S4x4x1024x1024, .bf16⟩
  | 19 => ⟨S4x4x1024x128, .f32⟩
  | _ => ⟨S4x4x1024x3072, .f32⟩

abbrev hbmTy (i : Nat) : BufTy := match i / 128 with
  | 0 => hbmTy0_0 i
  | 1 => hbmTy0_1 i
  | 2 => hbmTy0_2 i
  | 3 => hbmTy0_3 i
  | _ => ⟨S4x4x1024x3072, .f32⟩

abbrev bufTy : (tb : Table) → Fin (tcTables nBuf tb) → BufTy
  | .hbm, ⟨i, _⟩ => hbmTy i
  | .local _ .vmem, ⟨0, _⟩ => ⟨S1x1x512x1024, .bf16⟩
  | .local _ .vmem, ⟨1, _⟩ => ⟨S1x1x512x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S1x1x128x1024, .bf16⟩
  | .local _ .vmem, ⟨7, _⟩ => ⟨S1x1x128x1024, .bf16⟩
  | .local _ .vmem, ⟨8, _⟩ => ⟨S1x1x128x1024, .bf16⟩
  | .local _ .vmem, ⟨9, _⟩ => ⟨S1x1x128x1024, .bf16⟩
  | .local _ .vmem, ⟨10, _⟩ => ⟨S16x128x256, .f32⟩
  | .local _ .vmem, ⟨11, _⟩ => ⟨S1x1x512x1024, .bf16⟩
  | .local _ .vmem, ⟨12, _⟩ => ⟨S1x1x512x1024, .bf16⟩
  | .local _ .vmem, ⟨13, _⟩ => ⟨S1x1x512x128, .f32⟩
  | .local _ .vmem, ⟨14, _⟩ => ⟨S1x1x512x128, .f32⟩
  | _, _ => ⟨S4x4x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_12 : Ref sig .tc := ⟨.hbm, 58, rfl⟩
abbrev main_v39 : Ref sig .tc := ⟨.hbm, 59, rfl⟩
abbrev main_v40 : Ref sig .tc := ⟨.hbm, 60, rfl⟩
abbrev main_c_13 : Ref sig .tc := ⟨.hbm, 61, rfl⟩
abbrev main_v41 : Ref sig .tc := ⟨.hbm, 62, rfl⟩
abbrev main_v42 : Ref sig .tc := ⟨.hbm, 63, rfl⟩
abbrev main_c_14 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_c_16 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call2_v0 : Ref sig .tc := ⟨.hbm, 77, rfl⟩
abbrev main_call2_v1 : Ref sig .tc := ⟨.hbm, 78, rfl⟩
abbrev main_v53 : Ref sig .tc := ⟨.hbm, 79, rfl⟩
abbrev main_c_17 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call3_v0 : Ref sig .tc := ⟨.hbm, 87, rfl⟩
abbrev main_call3_v1 : Ref sig .tc := ⟨.hbm, 88, rfl⟩
abbrev main_v60 : Ref sig .tc := ⟨.hbm, 89, rfl⟩
abbrev main_c_18 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call4_v0 : Ref sig .tc := ⟨.hbm, 97, rfl⟩
abbrev main_call4_v1 : Ref sig .tc := ⟨.hbm, 98, rfl⟩
abbrev main_v67 : Ref sig .tc := ⟨.hbm, 99, rfl⟩
abbrev main_c_19 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call5_v0 : Ref sig .tc := ⟨.hbm, 107, rfl⟩
abbrev main_call5_v1 : Ref sig .tc := ⟨.hbm, 108, rfl⟩
abbrev main_v74 : Ref sig .tc := ⟨.hbm, 109, rfl⟩
abbrev main_c_20 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call6_v0 : Ref sig .tc := ⟨.hbm, 117, rfl⟩
abbrev main_call6_v1 : Ref sig .tc := ⟨.hbm, 118, rfl⟩
abbrev main_v81 : Ref sig .tc := ⟨.hbm, 119, rfl⟩
abbrev main_c_21 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call7_v0 : Ref sig .tc := ⟨.hbm, 127, rfl⟩
abbrev main_call7_v1 : Ref sig .tc := ⟨.hbm, 128, rfl⟩
abbrev main_v88 : Ref sig .tc := ⟨.hbm, 129, rfl⟩
abbrev main_c_22 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call8_v0 : Ref sig .tc := ⟨.hbm, 137, rfl⟩
abbrev main_call8_v1 : Ref sig .tc := ⟨.hbm, 138, rfl⟩
abbrev main_v95 : Ref sig .tc := ⟨.hbm, 139, rfl⟩
abbrev main_c_23 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call9_v0 : Ref sig .tc := ⟨.hbm, 147, rfl⟩
abbrev main_call9_v1 : Ref sig .tc := ⟨.hbm, 148, rfl⟩
abbrev main_v102 : Ref sig .tc := ⟨.hbm, 149, rfl⟩
abbrev main_c_24 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_call10_v0 : Ref sig .tc := ⟨.hbm, 157, rfl⟩
abbrev main_call10_v1 : Ref sig .tc := ⟨.hbm, 158, rfl⟩
abbrev main_v109 : Ref sig .tc := ⟨.hbm, 159, rfl⟩
abbrev main_c_25 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call11_v0 : Ref sig .tc := ⟨.hbm, 167, rfl⟩
abbrev main_call11_v1 : Ref sig .tc := ⟨.hbm, 168, rfl⟩
abbrev main_v116 : Ref sig .tc := ⟨.hbm, 169, rfl⟩
abbrev main_c_26 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_call12_v0 : Ref sig .tc := ⟨.hbm, 177, rfl⟩
abbrev main_call12_v1 : Ref sig .tc := ⟨.hbm, 178, rfl⟩
abbrev main_v123 : Ref sig .tc := ⟨.hbm, 179, rfl⟩
abbrev main_c_27 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_call13_v0 : Ref sig .tc := ⟨.hbm, 187, rfl⟩
abbrev main_call13_v1 : Ref sig .tc := ⟨.hbm, 188, rfl⟩
abbrev main_v130 : Ref sig .tc := ⟨.hbm, 189, rfl⟩
abbrev main_c_28 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_call14_v0 : Ref sig .tc := ⟨.hbm, 197, rfl⟩
abbrev main_call14_v1 : Ref sig .tc := ⟨.hbm, 198, rfl⟩
abbrev main_v137 : Ref sig .tc := ⟨.hbm, 199, rfl⟩
abbrev main_c_29 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_call15_v0 : Ref sig .tc := ⟨.hbm, 207, rfl⟩
abbrev main_call15_v1 : Ref sig .tc := ⟨.hbm, 208, rfl⟩
abbrev main_v144 : Ref sig .tc := ⟨.hbm, 209, rfl⟩
abbrev main_c_30 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_call16_v0 : Ref sig .tc := ⟨.hbm, 217, rfl⟩
abbrev main_call16_v1 : Ref sig .tc := ⟨.hbm, 218, rfl⟩
abbrev main_v151 : Ref sig .tc := ⟨.hbm, 219, rfl⟩
abbrev main_c_31 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_call17_v0 : Ref sig .tc := ⟨.hbm, 227, rfl⟩
abbrev main_call17_v1 : Ref sig .tc := ⟨.hbm, 228, rfl⟩
abbrev main_v158 : Ref sig .tc := ⟨.hbm, 229, rfl⟩
abbrev main_c_32 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_call18_v0 : Ref sig .tc := ⟨.hbm, 237, rfl⟩
abbrev main_call18_v1 : Ref sig .tc := ⟨.hbm, 238, rfl⟩
abbrev main_v165 : Ref sig .tc := ⟨.hbm, 239, rfl⟩
abbrev main_c_33 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_call19_v0 : Ref sig .tc := ⟨.hbm, 247, rfl⟩
abbrev main_call19_v1 : Ref sig .tc := ⟨.hbm, 248, rfl⟩
abbrev main_v172 : Ref sig .tc := ⟨.hbm, 249, rfl⟩
abbrev main_c_34 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_call20_v0 : Ref sig .tc := ⟨.hbm, 257, rfl⟩
abbrev main_call20_v1 : Ref sig .tc := ⟨.hbm, 258, rfl⟩
abbrev main_v179 : Ref sig .tc := ⟨.hbm, 259, rfl⟩
abbrev main_c_35 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_call21_v0 : Ref sig .tc := ⟨.hbm, 267, rfl⟩
abbrev main_call21_v1 : Ref sig .tc := ⟨.hbm, 268, rfl⟩
abbrev main_v186 : Ref sig .tc := ⟨.hbm, 269, rfl⟩
abbrev main_c_36 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_call22_v0 : Ref sig .tc := ⟨.hbm, 277, rfl⟩
abbrev main_call22_v1 : Ref sig .tc := ⟨.hbm, 278, rfl⟩
abbrev main_v193 : Ref sig .tc := ⟨.hbm, 279, rfl⟩
abbrev main_c_37 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_call23_v0 : Ref sig .tc := ⟨.hbm, 287, rfl⟩
abbrev main_call23_v1 : Ref sig .tc := ⟨.hbm, 288, rfl⟩
abbrev main_v200 : Ref sig .tc := ⟨.hbm, 289, rfl⟩
abbrev main_c_38 : Ref sig .tc := ⟨.hbm, 290, rfl⟩
abbrev main_v201 : Ref sig .tc := ⟨.hbm, 291, rfl⟩
abbrev main_v202 : Ref sig .tc := ⟨.hbm, 292, rfl⟩
abbrev main_v203 : Ref sig .tc := ⟨.hbm, 293, rfl⟩
abbrev main_v204 : Ref sig .tc := ⟨.hbm, 294, rfl⟩
abbrev main_v205 : Ref sig .tc := ⟨.hbm, 295, rfl⟩
abbrev main_v206 : Ref sig .tc := ⟨.hbm, 296, rfl⟩
abbrev main_call24_v0 : Ref sig .tc := ⟨.hbm, 297, rfl⟩
abbrev main_call24_v1 : Ref sig .tc := ⟨.hbm, 298, rfl⟩
abbrev main_v207 : Ref sig .tc := ⟨.hbm, 299, rfl⟩
abbrev main_c_39 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_call25_v0 : Ref sig .tc := ⟨.hbm, 307, rfl⟩
abbrev main_call25_v1 : Ref sig .tc := ⟨.hbm, 308, rfl⟩
abbrev main_v214 : Ref sig .tc := ⟨.hbm, 309, rfl⟩
abbrev main_c_40 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_call26_v0 : Ref sig .tc := ⟨.hbm, 317, rfl⟩
abbrev main_call26_v1 : Ref sig .tc := ⟨.hbm, 318, rfl⟩
abbrev main_v221 : Ref sig .tc := ⟨.hbm, 319, rfl⟩
abbrev main_c_41 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_call27_v0 : Ref sig .tc := ⟨.hbm, 327, rfl⟩
abbrev main_call27_v1 : Ref sig .tc := ⟨.hbm, 328, rfl⟩
abbrev main_v228 : Ref sig .tc := ⟨.hbm, 329, rfl⟩
abbrev main_c_42 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩
abbrev main_call28_v0 : Ref sig .tc := ⟨.hbm, 337, rfl⟩
abbrev main_call28_v1 : Ref sig .tc := ⟨.hbm, 338, rfl⟩
abbrev main_v235 : Ref sig .tc := ⟨.hbm, 339, rfl⟩
abbrev main_c_43 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_call29_v0 : Ref sig .tc := ⟨.hbm, 347, rfl⟩
abbrev main_call29_v1 : Ref sig .tc := ⟨.hbm, 348, rfl⟩
abbrev main_v242 : Ref sig .tc := ⟨.hbm, 349, rfl⟩
abbrev main_c_44 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_call30_v0 : Ref sig .tc := ⟨.hbm, 357, rfl⟩
abbrev main_call30_v1 : Ref sig .tc := ⟨.hbm, 358, rfl⟩
abbrev main_v249 : Ref sig .tc := ⟨.hbm, 359, rfl⟩
abbrev main_c_45 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_call31_v0 : Ref sig .tc := ⟨.hbm, 367, rfl⟩
abbrev main_call31_v1 : Ref sig .tc := ⟨.hbm, 368, rfl⟩
abbrev main_v256 : Ref sig .tc := ⟨.hbm, 369, rfl⟩
abbrev main_c_46 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_call32_v0 : Ref sig .tc := ⟨.hbm, 377, rfl⟩
abbrev main_call32_v1 : Ref sig .tc := ⟨.hbm, 378, rfl⟩
abbrev main_v263 : Ref sig .tc := ⟨.hbm, 379, rfl⟩
abbrev main_c_47 : Ref sig .tc := ⟨.hbm, 380, rfl⟩
abbrev main_v264 : Ref sig .tc := ⟨.hbm, 381, rfl⟩
abbrev main_v265 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_call33_v0 : Ref sig .tc := ⟨.hbm, 387, rfl⟩
abbrev main_call33_v1 : Ref sig .tc := ⟨.hbm, 388, rfl⟩
abbrev main_v270 : Ref sig .tc := ⟨.hbm, 389, rfl⟩
abbrev main_v271 : Ref sig .tc := ⟨.hbm, 390, rfl⟩
abbrev main_cst_48 : Ref sig .tc := ⟨.hbm, 391, rfl⟩
abbrev main_v272 : Ref sig .tc := ⟨.hbm, 392, rfl⟩
abbrev main_cst_49 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_cst_50 : Ref sig .tc := ⟨.hbm, 397, rfl⟩
abbrev main_call34_v0 : Ref sig .tc := ⟨.hbm, 398, rfl⟩
abbrev main_call34_v1 : Ref sig .tc := ⟨.hbm, 399, rfl⟩
abbrev main_call34_v2 : Ref sig .tc := ⟨.hbm, 400, rfl⟩
abbrev main_v276 : Ref sig .tc := ⟨.hbm, 401, rfl⟩
abbrev main_v277_0 : Ref sig .tc := ⟨.hbm, 402, rfl⟩
abbrev main_v277_1 : Ref sig .tc := ⟨.hbm, 403, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 2], ![false, false, false]⟩

@[reducible] def k0_t1_loop : Scf.Loop 32 :=
  let c0_i32_6 : BitVec 32 := 0#32
  let c4_i32 : BitVec 32 := 4#32
  let v15 : BitVec 32 := Scalar.addi c0_i32_6 c4_i32
  let c1_i32 : BitVec 32 := 1#32
  ⟨c0_i32_6, v15, c1_i32⟩
def k0_mult1 (k0_t1 : Fin k0_t1_loop.trips) : BitVec 32 :=
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let c0_i32_8 : BitVec 32 := 0#32
  let v17 : BitVec 32 := Scalar.addi v16 c0_i32_8
  let c128_i32_9 : BitVec 32 := 128#32
  let v18 : BitVec 32 := Scalar.muli v17 c128_i32_9
  v18
def k0_off1 (k0_t1 : Fin k0_t1_loop.trips) (c0_i32_8 : BitVec 32) : Fin 3 → Nat :=
  let c2_i32_10 : BitVec 32 := 2#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let v20 : BitVec 32 := Scalar.muli c2_i32_10 v17
  let v21 : Index := Scalar.indexCast v20
  let c0_11 : Index := 0#32
  let c0_12 : Index := 0#32
  ![v21.toNat, 0, 0]
def k0_off2 (k0_t1 : Fin k0_t1_loop.trips) (c0_i32_8 : BitVec 32) : Fin 3 → Nat :=
  let c2_i32_13 : BitVec 32 := 2#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let v24 : BitVec 32 := Scalar.muli c2_i32_13 v17
  let c1_i32_14 : BitVec 32 := 1#32
  let v25 : BitVec 32 := Scalar.addi v24 c1_i32_14
  let v26 : Index := Scalar.indexCast v25
  let c0_15 : Index := 0#32
  let c0_16 : Index := 0#32
  ![v26.toNat, 0, 0]
def k0_mult2 (k0_t1 : Fin k0_t1_loop.trips) : BitVec 32 :=
  let c2_i32_18 : BitVec 32 := 2#32
  let c0_i32_6 : BitVec 32 := 0#32
  let c1_i32 : BitVec 32 := 1#32
  let arg11 : BitVec 32 := Scf.iv c0_i32_6 c1_i32 k0_t1
  let v31 : BitVec 32 := Scalar.muli c2_i32_18 arg11
  let c1_i32_19 : BitVec 32 := 1#32
  let v32 : BitVec 32 := Scalar.addi v31 c1_i32_19
  let c128_i32_20 : BitVec 32 := 128#32
  let v33 : BitVec 32 := Scalar.muli v32 c128_i32_20
  v33
def k0_off3 (k0_t1 : Fin k0_t1_loop.trips) (c0_i32_8 : BitVec 32) : Fin 4 → Nat :=
  let c0_29 : Index := 0#32
  let c0_30 : Index := 0#32
  let c0_31 : Index := 0#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v46 : Index := Scalar.indexCast v19
  ![0, 0, 0, v46.toNat]
def k0_off4 (k0_t1 : Fin k0_t1_loop.trips) (c0_i32_8 : BitVec 32) : Fin 4 → Nat :=
  let c0_32 : Index := 0#32
  let c0_33 : Index := 0#32
  let c0_34 : Index := 0#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v49 : Index := Scalar.indexCast v19
  ![0, 0, 0, v49.toNat]
def k0_off5 (k0_t1 : Fin k0_t1_loop.trips) (c0_i32_8 : BitVec 32) : Fin 4 → Nat :=
  let c0_46 : Index := 0#32
  let c0_47 : Index := 0#32
  let c128 : Index := 128#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v75 : Index := Scalar.indexCast v19
  ![0, 0, 128, v75.toNat]
def k0_off6 (k0_t1 : Fin k0_t1_loop.trips) (c0_i32_8 : BitVec 32) : Fin 4 → Nat :=
  let c0_48 : Index := 0#32
  let c0_49 : Index := 0#32
  let c0_50 : Index := 0#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v78 : Index := Scalar.indexCast v19
  ![0, 0, 0, v78.toNat]
def k0_off7 (k0_t1 : Fin k0_t1_loop.trips) (c0_i32_8 : BitVec 32) : Fin 4 → Nat :=
  let c0_56 : Index := 0#32
  let c0_57 : Index := 0#32
  let c256 : Index := 256#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v94 : Index := Scalar.indexCast v19
  ![0, 0, 256, v94.toNat]
def k0_off8 (k0_t1 : Fin k0_t1_loop.trips) (c0_i32_8 : BitVec 32) : Fin 4 → Nat :=
  let c0_58 : Index := 0#32
  let c0_59 : Index := 0#32
  let c128_60 : Index := 128#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v97 : Index := Scalar.indexCast v19
  ![0, 0, 128, v97.toNat]
def k0_off9 (k0_t1 : Fin k0_t1_loop.trips) (c0_i32_8 : BitVec 32) : Fin 4 → Nat :=
  let c0_66 : Index := 0#32
  let c0_67 : Index := 0#32
  let c384 : Index := 384#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v113 : Index := Scalar.indexCast v19
  ![0, 0, 384, v113.toNat]
def k0_off10 (k0_t1 : Fin k0_t1_loop.trips) (c0_i32_8 : BitVec 32) : Fin 4 → Nat :=
  let c0_68 : Index := 0#32
  let c0_69 : Index := 0#32
  let c256_70 : Index := 256#32
  let c2_i32 : BitVec 32 := 2#32
  let c0_i32_6 : BitVec 32 := 0#32
  let c1_i32 : BitVec 32 := 1#32
  let arg11 : BitVec 32 := Scf.iv c0_i32_6 c1_i32 k0_t1
  let v16 : BitVec 32 := Scalar.muli c2_i32 arg11
  let v17 : BitVec 32 := Scalar.addi v16 c0_i32_8
  let c128_i32_9 : BitVec 32 := 128#32
  let v18 : BitVec 32 := Scalar.muli v17 c128_i32_9
  let v19 : BitVec 32 := v18
  let v116 : Index := Scalar.indexCast v19
  ![0, 0, 256, v116.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S16x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4x4x1024x3072 : Shape := ⟨4, ![4, 4, 1024, 3072]⟩
abbrev S32x16 : Shape := ⟨2, ![32, 16]⟩
abbrev S4x4x1024x3x16x64 : Shape := ⟨6, ![4, 4, 1024, 3, 16, 64]⟩
abbrev S3x4x4x16x1024x64 : Shape := ⟨6, ![3, 4, 4, 16, 1024, 64]⟩
abbrev S1x4x4x16x1024x64 : Shape := ⟨6, ![1, 4, 4, 16, 1024, 64]⟩
abbrev S4x4x16x1024x64 : Shape := ⟨5, ![4, 4, 16, 1024, 64]⟩
abbrev S4x4x16x8x128x64 : Shape := ⟨6, ![4, 4, 16, 8, 128, 64]⟩
abbrev S_ : Shape := ⟨0, ![]⟩
abbrev S4x4x16x1152x64 : Shape := ⟨5, ![4, 4, 16, 1152, 64]⟩
abbrev S4x4x16x8x256x64 : Shape := ⟨6, ![4, 4, 16, 8, 256, 64]⟩
abbrev S4x4x16x8x128x256 : Shape := ⟨6, ![4, 4, 16, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S128x256x1 : Shape := ⟨3, ![128, 256, 1]⟩
abbrev S128x256x16 : Shape := ⟨3, ![128, 256, 16]⟩
abbrev S16x128x256 : Shape := ⟨3, ![16, 128, 256]⟩
abbrev S16x1x128x256 : Shape := ⟨4, ![16, 1, 128, 256]⟩
abbrev S1x1x16x1x128x256 : Shape := ⟨6, ![1, 1, 16, 1, 128, 256]⟩
abbrev S4x4x16x8x128 : Shape := ⟨5, ![4, 4, 16, 8, 128]⟩
abbrev S4x4x16x8x128x1 : Shape := ⟨6, ![4, 4, 16, 8, 128, 1]⟩
abbrev S4x4x1024x16x64 : Shape := ⟨5, ![4, 4, 1024, 16, 64]⟩
abbrev S4x4x1024x1024 : Shape := ⟨4, ![4, 4, 1024, 1024]⟩
abbrev S4x4x16x1024 : Shape := ⟨4, ![4, 4, 16, 1024]⟩
abbrev S4x4x1024x16 : Shape := ⟨4, ![4, 4, 1024, 16]⟩
abbrev S4x4x1024x128 : Shape := ⟨4, ![4, 4, 1024, 128]⟩

abbrev nBuf : Space → Nat
  | .hbm => 139
  | .vmem => 0
  | .smem => 0
  | _ => 0

abbrev hbmTy0_0 (i : Nat) : BufTy := match i % 128 with
  | 0 => ⟨S4x4x1024x3072, .f32⟩
  | 1 => ⟨S32x16, .f32⟩
  | 2 => ⟨S4x4x1024x3x16x64, .f32⟩
  | 3 => ⟨S3x4x4x16x1024x64, .f32⟩
  | 4 => ⟨S1x4x4x16x1024x64, .f32⟩
  | 5 => ⟨S4x4x16x1024x64, .f32⟩
  | 6 => ⟨S1x4x4x16x1024x64, .f32⟩
  | 7 => ⟨S4x4x16x1024x64, .f32⟩
  | 8 => ⟨S1x4x4x16x1024x64, .f32⟩
  | 9 => ⟨S4x4x16x1024x64, .f32⟩
  | 10 => ⟨S4x4x16x8x128x64, .f32⟩
  | 11 => ⟨S_, .i32⟩
  | 12 => ⟨S_, .f32⟩
  | 13 => ⟨S4x4x16x1152x64, .f32⟩
  | 14 => ⟨S4x4x16x1024x64, .f32⟩
  | 15 => ⟨S4x4x16x8x128x64, .f32⟩
  | 16 => ⟨S4x4x16x8x128x64, .f32⟩
  | 17 => ⟨S4x4x16x8x256x64, .f32⟩
  | 18 => ⟨S_, .i32⟩
  | 19 => ⟨S_, .f32⟩
  | 20 => ⟨S4x4x16x1152x64, .f32⟩
  | 21 => ⟨S4x4x16x1024x64, .f32⟩
  | 22 => ⟨S4x4x16x8x128x64, .f32⟩
  | 23 => ⟨S4x4x16x8x128x64, .f32⟩
  | 24 => ⟨S4x4x16x8x256x64, .f32⟩
  | 25 => ⟨S4x4x16x8x128x256, .f32⟩
  | 26 => ⟨S_, .f32⟩
  | 27 => ⟨S4x4x16x8x128x256, .f32⟩
  | 28 => ⟨S4x4x16x8x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S8, .i32⟩
  | 40 => ⟨S8x1x1, .i32⟩
  | 41 => ⟨S_, .i32⟩
  | 42 => ⟨S8x1x1, .i32⟩
  | 43 => ⟨S8x1x1, .i32⟩
  | 44 => ⟨S1x1x256, .i32⟩
  | 45 => ⟨S8x1x256, .i32⟩
  | 46 => ⟨S8x1x256, .i32⟩
  | 47 => ⟨S8x1x256, .i32⟩
  | 48 => ⟨S_, .i32⟩
  | 49 => ⟨S8x1x256, .i32⟩
  | 50 => ⟨S8x1x256, .i32⟩
  | 51 => ⟨S_, .i32⟩
  | 52 => ⟨S128x256, .i32⟩
  | 53 => ⟨S128x256, .i1⟩
  | 54 => ⟨S_, .i32⟩
  | 55 => ⟨S128x256, .i32⟩
  | 56 => ⟨S128x256, .i1⟩
  | 57 => ⟨S128x256, .i1⟩
  | 58 => ⟨S_, .i32⟩
  | 59 => ⟨S8x1x256, .i32⟩
  | 60 => ⟨S8x1x256, .i1⟩
  | 61 => ⟨S1x128x256, .i1⟩
  | 62 => ⟨S8x128x256, .i1⟩
  | 63 => ⟨S8x128x256, .i1⟩
  | 64 => ⟨S8x128x256, .i1⟩
  | 65 => ⟨S_, .i32⟩
  | 66 => ⟨S128x256, .i32⟩
  | 67 => ⟨S128x256, .i32⟩
  | 68 => ⟨S_, .i32⟩
  | 69 => ⟨S128x256, .i32⟩
  | 70 => ⟨S128x256, .i32⟩
  | 71 => ⟨S_, .i32⟩
  | 72 => ⟨S128x256, .i32⟩
  | 73 => ⟨S128x256, .i32⟩
  | 74 => ⟨S128x256, .f32⟩
  | 75 => ⟨S_, .f32⟩
  | 76 => ⟨S128x256, .f32⟩
  | 77 => ⟨S128x256, .f32⟩
  | 78 => ⟨S128x256, .f32⟩
  | 79 => ⟨S_, .f32⟩
  | 80 => ⟨S128x256, .f32⟩
  | 81 => ⟨S128x256, .f32⟩
  | 82 => ⟨S_, .f32⟩
  | 83 => ⟨S128x256, .f32⟩
  | 84 => ⟨S128x256, .f32⟩
  | 85 => ⟨S128x256, .i32⟩
  | 86 => ⟨S_, .i32⟩
  | 87 => ⟨S128x256, .i32⟩
  | 88 => ⟨S128x256, .i32⟩
  | 89 => ⟨S_, .i32⟩
  | 90 => ⟨S128x256, .i32⟩
  | 91 => ⟨S128x256, .i1⟩
  | 92 => ⟨S_, .i32⟩
  | 93 => ⟨S128x256, .i32⟩
  | 94 => ⟨S128x256, .i32⟩
  | 95 => ⟨S128x256, .i32⟩
  | 96 => ⟨S_, .i32⟩
  | 97 => ⟨S128x256, .i32⟩
  | 98 => ⟨S128x256, .i1⟩
  | 99 => ⟨S_, .i32⟩
  | 100 => ⟨S128x256, .i32⟩
  | 101 => ⟨S128x256, .i32⟩
  | 102 => ⟨S128x256, .i32⟩
  | 103 => ⟨S128x256x1, .i32⟩
  | 104 => ⟨S128x256x16, .f32⟩
  | 105 => ⟨S16x128x256, .f32⟩
  | 106 => ⟨S16x1x128x256, .f32⟩
  | 107 => ⟨S1x1x16x1x128x256, .f32⟩
  | 108 => ⟨S4x4x16x8x128x256, .f32⟩
  | 109 => ⟨S4x4x16x8x128x256, .f32⟩
  | 110 => ⟨S_, .f32⟩
  | 111 => ⟨S_, .f32⟩
  | 112 => ⟨S4x4x16x8x128x256, .i1⟩
  | 113 => ⟨S4x4x16x8x128x256, .f32⟩
  | 114 => ⟨S4x4x16x8x128x256, .f32⟩
  | 115 => ⟨S_, .f32⟩
  | 116 => ⟨S4x4x16x8x128, .f32⟩
  | 117 => ⟨S4x4x16x8x128x1, .f32⟩
  | 118 => ⟨S4x4x16x8x128x256, .f32⟩
  | 119 => ⟨S4x4x16x8x128x256, .f32⟩
  | 120 => ⟨S4x4x16x8x128x256, .f32⟩
  | 121 => ⟨S_, .f32⟩
  | 122 => ⟨S4x4x16x8x128, .f32⟩
  | 123 => ⟨S4x4x16x8x128x64, .f32⟩
  | 124 => ⟨S4x4x16x8x128x1, .f32⟩
  | 125 => ⟨S4x4x16x8x128x64, .f32⟩
  | 126 => ⟨S4x4x16x8x128x64, .f32⟩
  | 127 => ⟨S4x4x16x8x128, .f32⟩
  | _ => ⟨S4x4x1024x3072, .f32⟩

abbrev hbmTy0_1 (i : Nat) : BufTy := match i % 128 with
  | 0 => ⟨S4x4x16x8x128, .f32⟩
  | 1 => ⟨S4x4x16x8x128, .f32⟩
  | 2 => ⟨S4x4x16x1024x64, .f32⟩
  | 3 => ⟨S4x4x1024x16x64, .f32⟩
  | 4 => ⟨S4x4x1024x1024, .f32⟩
  | 5 => ⟨S4x4x16x1024, .f32⟩
  | 6 => ⟨S4x4x1024x16, .f32⟩
  | 7 => ⟨S4x4x1024x1024, .bf16⟩
  | 8 => ⟨S_, .i32⟩
  | 9 => ⟨S_, .f32⟩
  | 10 => ⟨S4x4x1024x128, .f32⟩
  | _ => ⟨S4x4x1024x3072, .f32⟩

abbrev hbmTy (i : Nat) : BufTy := match i / 128 with
  | 0 => hbmTy0_0 i
  | 1 => hbmTy0_1 i
  | _ => ⟨S4x4x1024x3072, .f32⟩

abbrev bufTy : (tb : Table) → Fin (tcTables nBuf tb) → BufTy
  | .hbm, ⟨i, _⟩ => hbmTy i
  | _, _ => ⟨S4x4x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call1_v0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_7 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_v54 : Ref sig .tc := ⟨.hbm, 69, rfl⟩
abbrev main_v55 : Ref sig .tc := ⟨.hbm, 70, rfl⟩
abbrev main_c_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_13 : Ref sig .tc := ⟨.hbm, 86, rfl⟩
abbrev main_v67 : Ref sig .tc := ⟨.hbm, 87, rfl⟩
abbrev main_v68 : Ref sig .tc := ⟨.hbm, 88, rfl⟩
abbrev main_c_14 : Ref sig .tc := ⟨.hbm, 89, rfl⟩
abbrev main_v69 : Ref sig .tc := ⟨.hbm, 90, rfl⟩
abbrev main_v70 : Ref sig .tc := ⟨.hbm, 91, rfl⟩
abbrev main_c_15 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_16 : Ref sig .tc := ⟨.hbm, 96, rfl⟩
abbrev main_v74 : Ref sig .tc := ⟨.hbm, 97, rfl⟩
abbrev main_v75 : Ref sig .tc := ⟨.hbm, 98, rfl⟩
abbrev main_c_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_18 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v86 : Ref sig .tc := ⟨.hbm, 114, rfl⟩
abbrev main_cst_19 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_20 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_21 : Ref sig .tc := ⟨.hbm, 136, rfl⟩
abbrev main_call4_v0 : Ref sig .tc := ⟨.hbm, 137, rfl⟩
abbrev main_v106 : Ref sig .tc := ⟨.hbm, 138, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x9216 : Shape := ⟨2, ![1024, 9216]⟩
abbrev S16384x1024 : Shape := ⟨2, ![16384, 1024]⟩
abbrev S4x4x1024x3072 : Shape := ⟨4, ![4, 4, 1024, 3072]⟩
abbrev S1024x1024 : Shape := ⟨2, ![1024, 1024]⟩
abbrev S1024x3072 : Shape := ⟨2, ![1024, 3072]⟩
abbrev S1x4x256x3072 : Shape := ⟨4, ![1, 4, 256, 3072]⟩
abbrev S8x1024x128 : Shape := ⟨3, ![8, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x1024 : Shape := ⟨2, ![256, 1024]⟩
abbrev S1x1x256x1024 : Shape := ⟨4, ![1, 1, 256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S16384x1024, .f32⟩
  | .hbm, ⟨3, _⟩ => ⟨S1024x9216, .bf16⟩
  | .hbm, ⟨4, _⟩ => ⟨S4x4x1024x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x4x256x3072, .bf16⟩
  | .local _ .vmem, ⟨4, _⟩ => ⟨S1x4x256x3072, .bf16⟩
  | .local _ .vmem, ⟨5, _⟩ => ⟨S1024x1024, .bf16⟩
  | .local _ .vmem, ⟨6, _⟩ => ⟨S8x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4x256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x4096x1024 : Shape := ⟨3, ![4, 4096, 1024]⟩
abbrev S1024x9216 : Shape := ⟨2, ![1024, 9216]⟩
abbrev S4x4096x9216 : Shape := ⟨3, ![4, 4096, 9216]⟩
abbrev S4x4096x3x3072 : Shape := ⟨4, ![4, 4096, 3, 3072]⟩
abbrev S4x4096x1x3072 : Shape := ⟨4, ![4, 4096, 1, 3072]⟩
abbrev S4x4096x3072 : Shape := ⟨3, ![4, 4096, 3072]⟩
abbrev S4x1024x4x3072 : Shape := ⟨4, ![4, 1024, 4, 3072]⟩
abbrev S4x4x1024x3072 : Shape := ⟨4, ![4, 4, 1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S4x4096x9216, .f32⟩
  | .hbm, ⟨3, _⟩ => ⟨S4x4096x3x3072, .f32⟩
  | .hbm, ⟨4, _⟩ => ⟨S4x4096x1x3072, .f32⟩
  | .hbm, ⟨5, _⟩ => ⟨S4x4096x3072, .f32⟩
  | .hbm, ⟨6, _⟩ => ⟨S4x1024x4x3072, .f32⟩
  | .hbm, ⟨7, _⟩ => ⟨S4x4x1024x3072, .f32⟩
  | .hbm, ⟨8, _⟩ => ⟨S4x4x1024x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024x9216 : Shape := ⟨2, ![1024, 9216]⟩
abbrev S16384x1024 : Shape := ⟨2, ![16384, 1024]⟩
abbrev S4x1x4096x3072 : Shape := ⟨4, ![4, 1, 4096, 3072]⟩
abbrev S1024x1024 : Shape := ⟨2, ![1024, 1024]⟩
abbrev S1024x3072 : Shape := ⟨2, ![1024, 3072]⟩
abbrev S1x1x1024x3072 : Shape := ⟨4, ![1, 1, 1024, 3072]⟩
abbrev S8x1024x128 : Shape := ⟨3, ![8, 1024, 128]⟩
abbrev S1x1x1024x1024 : Shape := ⟨4, ![1, 1, 1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S16384x1024, .f32⟩
  | .hbm, ⟨3, _⟩ => ⟨S1024x9216, .bf16⟩
  | .hbm, ⟨4, _⟩ => ⟨S4x1x4096x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x1x1024x3072, .bf16⟩
  | .local _ .vmem, ⟨4, _⟩ => ⟨S1x1x1024x3072, .bf16⟩
  | .local _ .vmem, ⟨5, _⟩ => ⟨S1024x1024, .bf16⟩
  | .local _ .vmem, ⟨6, _⟩ => ⟨S8x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x4096x1024 : Shape := ⟨3, ![4, 4096, 1024]⟩
abbrev S1024x9216 : Shape := ⟨2, ![1024, 9216]⟩
abbrev S4x4096x9216 : Shape := ⟨3, ![4, 4096, 9216]⟩
abbrev S4x4096x3x3072 : Shape := ⟨4, ![4, 4096, 3, 3072]⟩
abbrev S4x4096x1x3072 : Shape := ⟨4, ![4, 4096, 1, 3072]⟩
abbrev S4x4096x3072 : Shape := ⟨3, ![4, 4096, 3072]⟩
abbrev S4x1x4096x3072 : Shape := ⟨4, ![4, 1, 4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S4x4096x9216, .f32⟩
  | .hbm, ⟨3, _⟩ => ⟨S4x4096x3x3072, .f32⟩
  | .hbm, ⟨4, _⟩ => ⟨S4x4096x1x3072, .f32⟩
  | .hbm, ⟨5, _⟩ => ⟨S4x4096x3072, .f32⟩
  | .hbm, ⟨6, _⟩ => ⟨S4x4096x1x3072, .f32⟩
  | .hbm, ⟨7, _⟩ => ⟨S4x1x4096x3072, .f32⟩
  | .hbm, ⟨8, _⟩ => ⟨S4x1x4096x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024x9216 : Shape := ⟨2, ![1024, 9216]⟩
abbrev S16384x1024 : Shape := ⟨2, ![16384, 1024]⟩
abbrev S4x16x256x3072 : Shape := ⟨4, ![4, 16, 256, 3072]⟩
abbrev S1024x1024 : Shape := ⟨2, ![1024, 1024]⟩
abbrev S1024x3072 : Shape := ⟨2, ![1024, 3072]⟩
abbrev S1x16x64x3072 : Shape := ⟨4, ![1, 16, 64, 3072]⟩
abbrev S8x1024x128 : Shape := ⟨3, ![8, 1024, 128]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S64x1024 : Shape := ⟨2, ![64, 1024]⟩
abbrev S1x1x64x1024 : Shape := ⟨4, ![1, 1, 64, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S16384x1024, .f32⟩
  | .hbm, ⟨3, _⟩ => ⟨S1024x9216, .bf16⟩
  | .hbm, ⟨4, _⟩ => ⟨S4x16x256x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x16x64x3072, .bf16⟩
  | .local _ .vmem, ⟨4, _⟩ => ⟨S1x16x64x3072, .bf16⟩
  | .local _ .vmem, ⟨5, _⟩ => ⟨S1024x1024, .bf16⟩
  | .local _ .vmem, ⟨6, _⟩ => ⟨S8x1024x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x16x64x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x1024 : Shape := ⟨3, ![4, 4096, 1024]⟩
abbrev S1024x9216 : Shape := ⟨2, ![1024, 9216]⟩
abbrev S4x4096x9216 : Shape := ⟨3, ![4, 4096, 9216]⟩
abbrev S4x4096x3x3072 : Shape := ⟨4, ![4, 4096, 3, 3072]⟩
abbrev S4x4096x1x3072 : Shape := ⟨4, ![4, 4096, 1, 3072]⟩
abbrev S4x4096x3072 : Shape := ⟨3, ![4, 4096, 3072]⟩
abbrev S4x256x16x3072 : Shape := ⟨4, ![4, 256, 16, 3072]⟩
abbrev S4x16x256x3072 : Shape := ⟨4, ![4, 16, 256, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x9216, .f32⟩
  | .hbm, ⟨2, _⟩ => ⟨S4x4096x9216, .f32⟩
  | .hbm, ⟨3, _⟩ => ⟨S4x4096x3x3072, .f32⟩
  | .hbm, ⟨4, _⟩ => ⟨S4x4096x1x3072, .f32⟩
  | .hbm, ⟨5, _⟩ => ⟨S4x4096x3072, .f32⟩
  | .hbm, ⟨6, _⟩ => ⟨S4x256x16x3072, .f32⟩
  | .hbm, ⟨7, _⟩ => ⟨S4x16x256x3072, .f32⟩
  | .hbm, ⟨8, _⟩ => ⟨S4x16x256x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024x4112 : Shape := ⟨2, ![1024, 4112]⟩
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x4112, .f32⟩
  | .hbm, ⟨2, _⟩ => ⟨S16384x1024, .f32⟩
  | .hbm, ⟨3, _⟩ => ⟨S1024x4096, .f32⟩
  | .hbm, ⟨4, _⟩ => ⟨S1024x4096, .bf16⟩
  | .hbm, ⟨5, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x4096x1024 : Shape := ⟨3, ![4, 4096, 1024]⟩
abbrev S1024x4112 : Shape := ⟨2, ![1024, 4112]⟩
abbrev S4x4096x4112 : Shape := ⟨3, ![4, 4096, 4112]⟩
abbrev S4x4096x4096 : Shape := ⟨3, ![4, 4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4112, .f32⟩
  | .hbm, ⟨2, _⟩ => ⟨S4x4096x4112, .f32⟩
  | .hbm, ⟨3, _⟩ => ⟨S4x4096x4096, .f32⟩
  | .hbm, ⟨4, _⟩ => ⟨S16384x4096, .f32⟩
  | .hbm, ⟨5, _⟩ => ⟨S16384x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024x4096 : Shape := ⟨2, ![1024, 4096]⟩
abbrev S2048 : Shape := ⟨1, ![2048]⟩
abbrev S16x128x128 : Shape := ⟨3, ![16, 128, 128]⟩
abbrev S16x128 : Shape := ⟨2, ![16, 128]⟩
abbrev S16384x1024 : Shape := ⟨2, ![16384, 1024]⟩
abbrev S1024x2048 : Shape := ⟨2, ![1024, 2048]⟩
abbrev S_ : Shape := ⟨0, ![]⟩
abbrev S128x128 : Shape := ⟨2, ![128, 128]⟩
abbrev S1x128x128 : Shape := ⟨3, ![1, 128, 128]⟩
abbrev S128x16 : Shape := ⟨2, ![128, 16]⟩
abbrev S128x16x128 : Shape := ⟨3, ![128, 16, 128]⟩
abbrev S128x2048 : Shape := ⟨2, ![128, 2048]⟩
abbrev S1x2048 : Shape := ⟨2, ![1, 2048]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S128x512 : Shape := ⟨2, ![128, 512]⟩

abbrev nBuf : Space → Nat
  | .hbm => 32
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S16384x1024, .f32⟩
  | .hbm, ⟨7, _⟩ => ⟨S1024x2048, .f32⟩
  | .hbm, ⟨8, _⟩ => ⟨S1024x2048, .bf16⟩
  | .hbm, ⟨9, _⟩ => ⟨S1024x2048, .f32⟩
  | .hbm, ⟨10, _⟩ => ⟨S1024x2048, .bf16⟩
  | .hbm, ⟨11, _⟩ => ⟨S_, .f32⟩
  | .hbm, ⟨12, _⟩ => ⟨S128x128, .f32⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .f32⟩
  | .hbm, ⟨20, _⟩ => ⟨S128x128, .f32⟩
  | .hbm, ⟨21, _⟩ => ⟨S128x128, .f32⟩
  | .hbm, ⟨22, _⟩ => ⟨S1x128x128, .f32⟩
  | .hbm, ⟨23, _⟩ => ⟨S16x128x128, .f32⟩
  | .hbm, ⟨24, _⟩ => ⟨S16x128x128, .f32⟩
  | .hbm, ⟨25, _⟩ => ⟨S16x128x128, .bf16⟩
  | .hbm, ⟨26, _⟩ => ⟨S128x16, .f32⟩
  | .hbm, ⟨27, _⟩ => ⟨S128x16x128, .f32⟩
  | .hbm, ⟨28, _⟩ => ⟨S128x2048, .f32⟩
  | .hbm, ⟨29, _⟩ => ⟨S1x2048, .f32⟩
  | .hbm, ⟨30, _⟩ => ⟨S1x2048, .f32⟩
  | .hbm, ⟨31, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S16x128x128, .bf16⟩
  | .local _ .vmem, ⟨7, _⟩ => ⟨S128x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4x4096x1024 : Shape := ⟨3, ![4, 4096, 1024]⟩
abbrev S1024x4096 : Shape := ⟨2, ![1024, 4096]⟩
abbrev S2048 : Shape := ⟨1, ![2048]⟩
abbrev S16x128x128 : Shape := ⟨3, ![16, 128, 128]⟩
abbrev S16x128 : Shape := ⟨2, ![16, 128]⟩
abbrev S4x4096x4096 : Shape := ⟨3, ![4, 4096, 4096]⟩
abbrev S_ : Shape := ⟨0, ![]⟩
abbrev S4x4096x2048 : Shape := ⟨3, ![4, 4096, 2048]⟩
abbrev S4x4096 : Shape := ⟨2, ![4, 4096]⟩
abbrev S4x4096x1 : Shape := ⟨3, ![4, 4096, 1]⟩
abbrev S1x1x2048 : Shape := ⟨3, ![1, 1, 2048]⟩
abbrev S4x32x128x16x128 : Shape := ⟨5, ![4, 32, 128, 16, 128]⟩
abbrev S128x128 : Shape := ⟨2, ![128, 128]⟩
abbrev S1x128x128 : Shape := ⟨3, ![1, 128, 128]⟩
abbrev S16x4x32x128x128 : Shape := ⟨5, ![16, 4, 32, 128, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S16384x2048 : Shape := ⟨2, ![16384, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x2048, .f32⟩
  | .hbm, ⟨46, _⟩ => ⟨S4x4096x2048, .f32⟩
  | .hbm, ⟨47, _⟩ => ⟨S1x1x2048, .f32⟩
  | .hbm, ⟨48, _⟩ => ⟨S4x4096x2048, .f32⟩
  | .hbm, ⟨49, _⟩ => ⟨S4x4096x2048, .f32⟩
  | .hbm, ⟨50, _⟩ => ⟨S1x1x2048, .f32⟩
  | .hbm, ⟨51, _⟩ => ⟨S4x4096x2048, .f32⟩
  | .hbm, ⟨52, _⟩ => ⟨S4x4096x2048, .f32⟩
  | .hbm, ⟨53, _⟩ => ⟨S4x32x128x16x128, .f32⟩
  | .hbm, ⟨54, _⟩ => ⟨S_, .f32⟩
  | .hbm, ⟨55, _⟩ => ⟨S128x128, .f32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .f32⟩
  | .hbm, ⟨63, _⟩ => ⟨S128x128, .f32⟩
  | .hbm, ⟨64, _⟩ => ⟨S128x128, .f32⟩
  | .hbm, ⟨65, _⟩ => ⟨S1x128x128, .f32⟩
  | .hbm, ⟨66, _⟩ => ⟨S16x128x128, .f32⟩
  | .hbm, ⟨67, _⟩ => ⟨S16x128x128, .f32⟩
  | .hbm, ⟨68, _⟩ => ⟨S16x4x32x128x128, .f32⟩
  | .hbm, ⟨69, _⟩ => ⟨S4x32x128x16x128, .f32⟩
  | .hbm, ⟨70, _⟩ => ⟨S128x16, .f32⟩
  | .hbm, ⟨71, _⟩ => ⟨S128x16x1, .f32⟩
  | .hbm, ⟨72, _⟩ => ⟨S1x1x128x16x1, .f32⟩
  | .hbm, ⟨73, _⟩ => ⟨S4x32x128x16x128, .f32⟩
  | .hbm, ⟨74, _⟩ => ⟨S4x32x128x16x128, .f32⟩
  | .hbm, ⟨75, _⟩ => ⟨S4x4096x2048, .f32⟩
  | .hbm, ⟨76, _⟩ => ⟨S4x4096x2048, .f32⟩
  | .hbm, ⟨77, _⟩ => ⟨S16384x2048, .f32⟩
  | .hbm, ⟨78, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_cst : Ref sig .tc := ⟨.hbm, 62, rfl⟩
abbrev main_call0_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Kernel7.lean ====
abbrev S4x4096x1024 : Shape := ⟨3, ![4, 4096, 1024]⟩
abbrev S16384x512 : Shape := ⟨2, ![16384, 512]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x4096x1024 : Shape := ⟨3, ![4, 4096, 1024]⟩
abbrev S16384x512 : Shape := ⟨2, ![16384, 512]⟩
abbrev S1024 : Shape := ⟨1, ![1024]⟩
abbrev S16384x1024 : Shape := ⟨2, ![16384, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .f32⟩
  | .hbm, ⟨3, _⟩ => ⟨S1024, .f32⟩
  | .hbm, ⟨4, _⟩ => ⟨S1024, .f32⟩
  | .hbm, ⟨5, _⟩ => ⟨S16384x1024, .f32⟩
  | .hbm, ⟨6, _⟩ => ⟨S4x4096x1024, .f32⟩
  | .hbm, ⟨7, _⟩ => ⟨S_, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.KernelFrame.lean ====
/-
  The kernel's frame at any values: the body runs, leaves the inputs' blocks as they were and the outputs' blocks at
  contents that this module does not name.
-/
module

public import proofs.«01_k».proof.Proof.Gen.Kernel.Frame.Runs
public import Idealize.ShloMosaic.Lib.Claim

@[expose] public section
set_option maxRecDepth 16384
noncomputable section
namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body runs on whole staging buffers: the inputs keep their contents, the outputs end at some contents. -/
theorem body_run (c : Dev nD) (i : grid0.Coords) (arg3 : Memref sig .tc .vmem S1x1x512x1024 .bf16) (harg3 : arg3.IsWhole) (arg4 : Memref sig .tc .vmem S1x1x512x1024 .bf16) (harg4 : arg4.IsWhole) (arg5 : Memref sig .tc .vmem S1x1x512x1024 .bf16) (harg5 : arg5.IsWhole) (arg6 : Memref sig .tc .vmem S1x1x128x1024 .bf16) (harg6 : arg6.IsWhole) (arg7 : Memref sig .tc .vmem S1x1x128x1024 .bf16) (harg7 : arg7.IsWhole) (arg8 : Memref sig .tc .vmem S16x128x256 .f32) (harg8 : arg8.IsWhole) (arg9 : Memref sig .tc .vmem S1x1x512x1024 .bf16) (harg9 : arg9.IsWhole) (arg10 : Memref sig .tc .vmem S1x1x512x128 .f32) (harg10 : arg10.IsWhole)
    (x0 : Vec F S1x1x512x1024 .bf16) (x1 : Vec F S1x1x512x1024 .bf16) (x2 : Vec F S1x1x512x1024 .bf16) (x3 : Vec F S1x1x128x1024 .bf16) (x4 : Vec F S1x1x128x1024 .bf16) (x5 : Vec F S16x128x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)) -∗ K ⟨⟩))
          ⊢ wp frame (wpE (defs₀ (F := F)) Variants.none c none) E (cc0_dilated_attn_d4 i arg3 harg3 arg4 harg4 arg5 harg5 arg6 harg6 arg7 harg7 arg8 harg8 arg9 harg9 arg10 harg10) K := by
    intro E K
    simp only [cc0_dilated_attn_d4_eq_skeleton]; unfold cc0_dilated_attn_d4_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _, _; isplitr; swap; · iexact H6
      ipureintro; rfl
    iexists _, _; isplitr; swap; · iexact H7
    ipureintro; rfl

variable (m : (ℓ : Loc nD τ sig) → Buf (Elt F) ℓ) (ρ : Dev nD → PrngReg)

/-- The two output windows, of whose contents this frame says nothing. -/
def forgets0 : Fin 8 → Bool := fun w => w.val == 6 || w.val == 7

/-- The launch's proof data: the arrays as found; each input's buffer at its block; the outputs not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The data's arrays are the contents before the region. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((body_run c (grid0.coords t) _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- The launch: every input array unchanged, nothing said of the outputs, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

/-- The kernel's frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Attn
end
-- ==== Proof.Unit.lean ====
/-
  One unit of the attention kernel's trip: a block of 128 query rows of one pair of heads. The tiles it reads
  are stated as functions of the staged blocks and of the two numbers that name the unit, the row block `rb` and
  the head pair `hp`; the score, the output tile and the log-sum-exp tile are the kernel's own operations on them.
-/
module

public import proofs.«01_k».proof.Proof.Gen.KernelIdeal.Loops
public import Idealize.ShloMosaic.Lib.Pointwise
public import Idealize.ShloMosaic.Lib.VecWindow

@[expose] public section
set_option maxRecDepth 16384
noncomputable section
namespace Cert.KernelIdeal.Attn

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- A number as an index below `n`. -/
def md (n : ℕ) [NeZero n] (a : ℕ) : Fin n := ⟨a % n, Nat.mod_lt _ (NeZero.pos n)⟩

theorem md_val (n : ℕ) [NeZero n] (a : ℕ) : (md n a).val = a % n := rfl

/-- The `n` rows from `r0` and the 128 columns from `c0` of a block of `R` rows. -/
def win (n R : ℕ) [NeZero R] (x : Vec F ⟨4, ![1, 1, R, 1024]⟩ .bf16) (r0 c0 : ℕ) : FVec F ⟨2, ![n, 128]⟩ .bf16 :=
  fun j => x (ix4 0 0 (md R (r0 + (j 0).val)) (md 1024 (c0 + (j 1).val)))

/-- The 256 key (or value) rows of row block `rb`: the 128 rows before it and its own; before the first row block stand
    the rows `xp` of the preceding tile. -/
def kcat (xp : Vec F S1x1x128x1024 .bf16) (x : Vec F S1x1x512x1024 .bf16) (rb hp : ℕ) : FVec F S256x128 .bf16 :=
  fun j => if 128 * rb + (j 0).val < 128 then xp (ix4 0 0 (md 128 (j 0).val) (md 1024 (128 * hp + (j 1).val)))
    else x (ix4 0 0 (md 512 (128 * rb + (j 0).val - 128)) (md 1024 (128 * hp + (j 1).val)))

/-- The two heads' bias tiles, one above the other. -/
def bias2 (b : Vec F S16x128x256 .f32) (hp : ℕ) : FVec F S256x256 .f32 :=
  fun j => b (ix3 (md 16 (2 * hp + (j 0).val / 128)) (md 128 (j 0).val) (j 1))

/-- The scores of a unit: rows 0–127 the first head, rows 128–255 the second; the first row block adds the penalty row. -/
def score (i : grid0.Coords) (q k : Vec F S1x1x512x1024 .bf16) (kp : Vec F S1x1x128x1024 .bf16) (b : Vec F S16x128x256 .f32)
    (rb hp : ℕ) : FVec F S256x256 .f32 :=
  let s := k0_pay17 k0_pay2 (bias2 b hp) (win 128 512 q (128 * rb) (128 * hp)) (kcat kp k rb hp) k0_pay15 (k0_pay16 k0_pay2)
  if rb = 0 then addf s (broadcastTo S256x256 (k0_pay1 i) broadcasts_S1x256_S256x256) else s

/-- The output tile from the scores and the values. -/
def outT (s : FVec F S256x256 .f32) (v : FVec F S256x128 .bf16) : FVec F S1x1x128x128 .bf16 :=
  k0_pay53 k0_pay2 k0_pay6 v (k0_pay35 s)

/-- The log-sum-exp rows from the scores and the values (every lane holds the row's number). -/
def lseT (s : FVec F S256x256 .f32) (v : FVec F S256x128 .bf16) : FVec F S256x128 .f32 :=
  k0_pay52 k0_pay6 v (k0_pay34 s) (k0_pay35 s)

/-- The log-sum-exp tile `prev` with the unit's two lanes replaced. -/
def updT (v0 : IVec S1x128 32) (w : BitVec 32) (l : FVec F S256x128 .f32) (prev : FVec F S128x128 .f32) : FVec F S1x1x128x128 .f32 :=
  k0_pay57 v0 w l prev (extractStridedSlice S128x128 ![0, 0] l slices_S256x128_o0_0_S128x128) (k0_pay56 v0 w)

/-- An index is given by its coordinates' numbers. -/
theorem idx4_eq {n0 n1 n2 n3 : ℕ} (i : (⟨4, ![n0, n1, n2, n3]⟩ : Shape).Idx) (a : Fin n0) (b : Fin n1) (c : Fin n2) (e : Fin n3)
    (h0 : (i 0).val = a.val) (h1 : (i 1).val = b.val) (h2 : (i 2).val = c.val) (h3 : (i 3).val = e.val) : i = ix4 a b c e := by
  rw [eq_ix4 i]
  exact (congr (congr (congr (congrArg ix4 (Fin.ext h0)) (Fin.ext h1)) (Fin.ext h2)) (Fin.ext h3))

@[inherit_doc idx4_eq]
theorem idx3_eq {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  rw [eq_ix3 i]
  exact (congr (congr (congrArg ix3 (Fin.ext h0)) (Fin.ext h1)) (Fin.ext h2))

/-- A load of 128 query rows. -/
theorem load_q {κ : Kind} {sp : Space} (v : View sig κ sp S1x1x512x1024 .bf16) (X : v.ty.Contents (Elt F)) {off : Fin 4 → ℕ}
    (inb : ∀ a, off a + S1x1x128x128.size a ≤ S1x1x512x1024.size a) (r0 c0 : ℕ) (h : off = ![0, 0, r0, c0]) :
    k0_pay9 (v.readAt (Elt F) (Rect.unit (s := S1x1x512x1024) off S1x1x128x128.size inb).toLoadRect X)
      = win 128 512 (v.read (Elt F) X) r0 c0 := by
  subst h
  funext j
  idx_vars j
  have h2 := inb 2
  have h3 := inb 3
  change r0 + 128 ≤ 512 at h2
  change c0 + 128 ≤ 1024 at h3
  pointwise [k0_pay9, win]
  refine congrArg (v.read (Elt F) X) (idx4_eq _ _ _ _ _ ?_ ?_ ?_ ?_)
  · rfl
  · rfl
  · exact (show _ = r0 + 1 * j0.val from rfl).trans (by rw [md_val]; omega)
  · exact (show _ = c0 + 1 * j1.val from rfl).trans (by rw [md_val]; omega)

/-- A load of 256 key rows that lie in the tile. -/
theorem load_k {κ : Kind} {sp : Space} (v : View sig κ sp S1x1x512x1024 .bf16) (X : v.ty.Contents (Elt F)) (xp : Vec F S1x1x128x1024 .bf16) {off : Fin 4 → ℕ}
    (inb : ∀ a, off a + S1x1x256x128.size a ≤ S1x1x512x1024.size a) (rb hp : ℕ) (h : off = ![0, 0, 128 * rb, 128 * hp]) :
    k0_pay13 (v.readAt (Elt F) (Rect.unit (s := S1x1x512x1024) off S1x1x256x128.size inb).toLoadRect X)
      = kcat xp (v.read (Elt F) X) (rb + 1) hp := by
  subst h
  funext j
  idx_vars j
  have h2 := inb 2
  have h3 := inb 3
  change 128 * rb + 256 ≤ 512 at h2
  change 128 * hp + 128 ≤ 1024 at h3
  have hn : ¬ 128 * (rb + 1) + j0.val < 128 := by omega
  pointwise [k0_pay13, kcat]
  rw [if_neg hn]
  refine congrArg (v.read (Elt F) X) (idx4_eq _ _ _ _ _ ?_ ?_ ?_ ?_)
  · rfl
  · rfl
  · exact (show _ = 128 * rb + 1 * j0.val from rfl).trans (by rw [md_val]; omega)
  · exact (show _ = 128 * hp + 1 * j1.val from rfl).trans (by rw [md_val]; omega)

/-- The first row block's 256 key rows: 128 of the preceding tile, 128 of the tile. -/
theorem load_k0 {κ κ' : Kind} {sp sp' : Space} (vp : View sig κ' sp' S1x1x128x1024 .bf16) (Xp : vp.ty.Contents (Elt F))
    (v : View sig κ sp S1x1x512x1024 .bf16) (X : v.ty.Contents (Elt F)) {off offp : Fin 4 → ℕ}
    (inb : ∀ a, off a + S1x1x128x128.size a ≤ S1x1x512x1024.size a) (inbp : ∀ a, offp a + S1x1x128x128.size a ≤ S1x1x128x1024.size a)
    (hp : ℕ) (h : off = ![0, 0, 0, 128 * hp]) (h' : offp = ![0, 0, 0, 128 * hp]) :
    k0_pay10 (vp.readAt (Elt F) (Rect.unit (s := S1x1x128x1024) offp S1x1x128x128.size inbp).toLoadRect Xp)
        (v.readAt (Elt F) (Rect.unit (s := S1x1x512x1024) off S1x1x128x128.size inb).toLoadRect X)
      = kcat (vp.read (Elt F) Xp) (v.read (Elt F) X) 0 hp := by
  subst h h'
  funext j
  idx_vars j
  have h3 := inb 3
  change 128 * hp + 128 ≤ 1024 at h3
  pointwise [k0_pay10, kcat]
  by_cases hc : (j0 : ℕ) < 128
  · rw [dif_pos hc]
    refine Eq.trans ?_ (if_pos hc).symm
    refine congrArg (vp.read (Elt F) Xp) (idx4_eq _ _ _ _ _ ?_ ?_ ?_ ?_)
    · rfl
    · rfl
    · exact (show _ = 0 + 1 * j0.val from rfl).trans (by rw [md_val]; omega)
    · exact (show _ = 128 * hp + 1 * j1.val from rfl).trans (by rw [md_val]; omega)
  · rw [dif_neg hc]
    refine Eq.trans ?_ (if_neg hc).symm
    refine congrArg (v.read (Elt F) X) (idx4_eq _ _ _ _ _ ?_ ?_ ?_ ?_)
    · rfl
    · rfl
    · exact (show _ = 0 + 1 * (j0.val - 128) from rfl).trans (by rw [md_val]; omega)
    · exact (show _ = 128 * hp + 1 * j1.val from rfl).trans (by rw [md_val]; omega)

/-- The two heads' bias tiles as loaded. -/
theorem load_b {κ : Kind} {sp : Space} (v : View sig κ sp S16x128x256 .f32) (X : v.ty.Contents (Elt F)) {off off' : Fin 3 → ℕ}
    (inb : ∀ a, off a + S1x128x256.size a ≤ S16x128x256.size a) (inb' : ∀ a, off' a + S1x128x256.size a ≤ S16x128x256.size a)
    (hp : ℕ) (h : off = ![2 * hp, 0, 0]) (h' : off' = ![2 * hp + 1, 0, 0]) :
    k0_pay5 (v.readAt (Elt F) (Rect.unit (s := S16x128x256) off S1x128x256.size inb).toLoadRect X) (v.readAt (Elt F) (Rect.unit (s := S16x128x256) off' S1x128x256.size inb').toLoadRect X)
      = bias2 (v.read (Elt F) X) hp := by
  subst h h'
  funext j
  idx_vars j
  have h0 := inb' 0
  change 2 * hp + 1 + 1 ≤ 16 at h0
  pointwise [k0_pay5, bias2]
  by_cases hc : (j0 : ℕ) < 128
  · rw [dif_pos hc]
    refine congrArg (v.read (Elt F) X) (idx3_eq _ _ _ _ ?_ ?_ ?_)
    · exact (show _ = 2 * hp + 1 * 0 from rfl).trans (by rw [md_val]; omega)
    · exact (show _ = 0 + 1 * j0.val from rfl).trans (by rw [md_val]; omega)
    · exact (show _ = 0 + 1 * j1.val from rfl).trans (by omega)
  · rw [dif_neg hc]
    refine congrArg (v.read (Elt F) X) (idx3_eq _ _ _ _ ?_ ?_ ?_)
    · exact (show _ = 2 * hp + 1 + 1 * 0 from rfl).trans (by rw [md_val]; omega)
    · exact (show _ = 0 + 1 * (j0.val - 128) from rfl).trans (by rw [md_val]; omega)
    · exact (show _ = 0 + 1 * j1.val from rfl).trans (by omega)

/-- The comparison of a lane with a head's number. -/
theorem lane_word : ∀ (b : Fin 128) (hp : Fin 8),
    IntOp.cmpi .eq (BitVec.ofNat 32 b.val) (Scalar.muli 2#32 (BitVec.ofNat 32 hp.val)) = (if b.val = 2 * hp.val then 1#1 else 0#1)
    ∧ IntOp.cmpi .eq (BitVec.ofNat 32 b.val) (Scalar.addi (Scalar.muli 2#32 (BitVec.ofNat 32 hp.val)) 1#32) = (if b.val = 2 * hp.val + 1 then 1#1 else 0#1) := by
  decide +kernel

/-- The updated tile, entry by entry. -/
theorem updT_apply (hp : ℕ) (hhp : hp < 8) (l : FVec F S256x128 .f32) (prev : FVec F S128x128 .f32) (a b : Fin 128) :
    updT (iota .tc S1x128 32 [1] iota_S1x128_d1_w32) (BitVec.ofNat 32 hp) l prev (ix4 0 0 a b)
      = if b.val = 2 * hp + 1 then l (ix2 ⟨128 + a.val, by omega⟩ b) else if b.val = 2 * hp then l (ix2 ⟨a.val, by omega⟩ b) else prev (ix2 a b) := by
  pointwise [updT, k0_pay57, k0_pay56]
  have h := lane_word b ⟨hp, hhp⟩
  dsimp only at h
  rw [h.1, h.2]
  by_cases h1 : b.val = 2 * hp + 1
  · rw [if_pos h1, if_pos h1]; rfl
  · rw [if_neg h1, if_neg h1]
    by_cases h2 : b.val = 2 * hp
    · rw [if_pos h2, if_pos h2]; rfl
    · rw [if_neg h2, if_neg h2]; rfl

end Cert.KernelIdeal.Attn
-- ==== Proof.Trip.lean ====
/-
  One trip of the attention kernel's loop: four heads, two pairs of heads by four row blocks. The pieces a trip
  writes are the units' tiles; read back, a trip changes exactly the four heads' columns and lanes.
-/
module

public import proofs.«01_k».proof.Proof.Unit
public import Idealize.ShloMosaic.Lib.Pipeline.ReadBack

@[expose] public section
set_option maxRecDepth 16384
noncomputable section
namespace Cert.KernelIdeal.Attn

open Idealize.ShloMosaic Idealize.ShloMosaic.TcCoe Idealize.ShloMosaic.Tactic
open Idealize.SL Idealize.SL.Sem
open Cert.KernelIdeal Cert.KernelIdeal.Gen

variable {F : FTy → Type} [FloatOps F] [Named F]

variable (𝒱 : Variants) (c : Dev nD) (bd : Option 𝒱.V) (i : grid0.Coords)
  (arg3 : Memref sig .tc .vmem S1x1x512x1024 .bf16) (harg3 : arg3.IsWhole) (arg4 : Memref sig .tc .vmem S1x1x512x1024 .bf16) (harg4 : arg4.IsWhole)
  (arg5 : Memref sig .tc .vmem S1x1x512x1024 .bf16) (harg5 : arg5.IsWhole) (arg6 : Memref sig .tc .vmem S1x1x128x1024 .bf16) (harg6 : arg6.IsWhole)
  (arg7 : Memref sig .tc .vmem S1x1x128x1024 .bf16) (harg7 : arg7.IsWhole) (arg8 : Memref sig .tc .vmem S16x128x256 .f32) (harg8 : arg8.IsWhole)
  (arg9 : Memref sig .tc .vmem S1x1x512x1024 .bf16) (harg9 : arg9.IsWhole) (arg10 : Memref sig .tc .vmem S1x1x512x128 .f32) (harg10 : arg10.IsWhole)
  (v0 : IVec S1x128 32)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)
  (k : Fin k0_t1_loop.trips)
  (f9 : BufTy.Contents (Elt F) arg9.view.ty) (f10 : BufTy.Contents (Elt F) arg10.view.ty)

/-- The scores of row block `rb` and head pair `hp`, of the staged contents. -/
abbrev Sc (rb hp : ℕ) : FVec F S256x256 .f32 :=
  score i (arg3.view.read (Elt F) X3) (arg4.view.read (Elt F) X4) (arg6.view.read (Elt F) X6) (arg8.view.read (Elt F) X8) rb hp

/-- The values of row block `rb` and head pair `hp`, of the staged contents. -/
abbrev Va (rb hp : ℕ) : FVec F S256x128 .bf16 :=
  kcat (arg7.view.read (Elt F) X7) (arg5.view.read (Elt F) X5) rb hp

/-- The first row block's scores are the kernel's own. -/
theorem score_first (r : Fin 2) :
    k0_pay11 (k0_pay1 i) k0_pay2
      (k0_pay5 (arg8.view.readAt (Elt F) (Rect.unit (s := S16x128x256) (k0_off1 k (BitVec.ofNat 32 r.val)) S1x128x256.size (k0_off1_inb k r)).toLoadRect X8)
        (arg8.view.readAt (Elt F) (Rect.unit (s := S16x128x256) (k0_off2 k (BitVec.ofNat 32 r.val)) S1x128x256.size (k0_off2_inb k r)).toLoadRect X8))
      (k0_pay9 (arg3.view.readAt (Elt F) (Rect.unit (s := S1x1x512x1024) (k0_off3 k (BitVec.ofNat 32 r.val)) S1x1x128x128.size (k0_off3_inb k r)).toLoadRect X3))
      (arg6.view.readAt (Elt F) (Rect.unit (s := S1x1x128x1024) (k0_off4 k (BitVec.ofNat 32 r.val)) S1x1x128x128.size (k0_off4_inb k r)).toLoadRect X6)
      (arg4.view.readAt (Elt F) (Rect.unit (s := S1x1x512x1024) (k0_off3 k (BitVec.ofNat 32 r.val)) S1x1x128x128.size (k0_off3_inb k r)).toLoadRect X4)
      = Sc i arg3 arg4 arg6 arg8 X3 X4 X6 X8 0 (2 * k.val + r.val) := by
  have h3 := (k0_off3_eq k r).trans (show _ = ![0, 0, 0, 128 * (2 * k.val + r.val)] by rw [show 256 * k.val + 128 * r.val = 128 * (2 * k.val + r.val) by omega])
  have h4 := (k0_off4_eq k r).trans (show _ = ![0, 0, 0, 128 * (2 * k.val + r.val)] by rw [show 256 * k.val + 128 * r.val = 128 * (2 * k.val + r.val) by omega])
  have h1 := (k0_off1_eq k r).trans (show _ = ![2 * (2 * k.val + r.val), 0, 0] by rw [show 4 * k.val + 2 * r.val = 2 * (2 * k.val + r.val) by omega])
  have h2 := (k0_off2_eq k r).trans (show _ = ![2 * (2 * k.val + r.val) + 1, 0, 0] by rw [show 4 * k.val + 2 * r.val = 2 * (2 * k.val + r.val) by omega])
  rw [load_b arg8.view X8 (k0_off1_inb k r) (k0_off2_inb k r) _ h1 h2, load_q arg3.view X3 (k0_off3_inb k r) _ _ h3]
  show addf (k0_pay17 k0_pay2 _ _ (k0_pay10 (F := F) _ _) k0_pay15 (k0_pay16 k0_pay2)) _ = _
  rw [load_k0 arg6.view X6 arg4.view X4 (k0_off3_inb k r) (k0_off4_inb k r) _ h3 h4]
  rfl

/-- A later row block's scores are the kernel's own. -/
theorem score_later (r : Fin 2) (rb : ℕ) {off off' : Fin 4 → ℕ} (inb : ∀ a, off a + S1x1x128x128.size a ≤ S1x1x512x1024.size a)
    (inb' : ∀ a, off' a + S1x1x256x128.size a ≤ S1x1x512x1024.size a)
    (h : off = ![0, 0, 128 * (rb + 1), 256 * k.val + 128 * r.val]) (h' : off' = ![0, 0, 128 * rb, 256 * k.val + 128 * r.val]) :
    k0_pay17 k0_pay2
      (k0_pay5 (arg8.view.readAt (Elt F) (Rect.unit (s := S16x128x256) (k0_off1 k (BitVec.ofNat 32 r.val)) S1x128x256.size (k0_off1_inb k r)).toLoadRect X8)
        (arg8.view.readAt (Elt F) (Rect.unit (s := S16x128x256) (k0_off2 k (BitVec.ofNat 32 r.val)) S1x128x256.size (k0_off2_inb k r)).toLoadRect X8))
      (k0_pay9 (arg3.view.readAt (Elt F) (Rect.unit (s := S1x1x512x1024) off S1x1x128x128.size inb).toLoadRect X3))
      (k0_pay13 (arg4.view.readAt (Elt F) (Rect.unit (s := S1x1x512x1024) off' S1x1x256x128.size inb').toLoadRect X4)) k0_pay15 (k0_pay16 k0_pay2)
      = Sc i arg3 arg4 arg6 arg8 X3 X4 X6 X8 (rb + 1) (2 * k.val + r.val) := by
  have e : 256 * k.val + 128 * r.val = 128 * (2 * k.val + r.val) := by omega
  have h1 := (k0_off1_eq k r).trans (show _ = ![2 * (2 * k.val + r.val), 0, 0] by rw [show 4 * k.val + 2 * r.val = 2 * (2 * k.val + r.val) by omega])
  have h2 := (k0_off2_eq k r).trans (show _ = ![2 * (2 * k.val + r.val) + 1, 0, 0] by rw [show 4 * k.val + 2 * r.val = 2 * (2 * k.val + r.val) by omega])
  rw [e] at h h'
  rw [load_b arg8.view X8 (k0_off1_inb k r) (k0_off2_inb k r) _ h1 h2, load_q arg3.view X3 inb _ _ h,
    load_k arg4.view X4 (arg6.view.read (Elt F) X6) inb' _ _ h']
  rfl

/-- The first row block's values. -/
theorem value_first (r : Fin 2) :
    k0_pay10 (arg7.view.readAt (Elt F) (Rect.unit (s := S1x1x128x1024) (k0_off4 k (BitVec.ofNat 32 r.val)) S1x1x128x128.size (k0_off4_inb k r)).toLoadRect X7)
      (arg5.view.readAt (Elt F) (Rect.unit (s := S1x1x512x1024) (k0_off3 k (BitVec.ofNat 32 r.val)) S1x1x128x128.size (k0_off3_inb k r)).toLoadRect X5)
      = Va arg5 arg7 X5 X7 0 (2 * k.val + r.val) :=
  load_k0 arg7.view X7 arg5.view X5 (k0_off3_inb k r) (k0_off4_inb k r) _
    ((k0_off3_eq k r).trans (by rw [show 256 * k.val + 128 * r.val = 128 * (2 * k.val + r.val) by omega]))
    ((k0_off4_eq k r).trans (by rw [show 256 * k.val + 128 * r.val = 128 * (2 * k.val + r.val) by omega]))

/-- A later row block's values. -/
theorem value_later (r : Fin 2) (rb : ℕ) {off' : Fin 4 → ℕ} (inb' : ∀ a, off' a + S1x1x256x128.size a ≤ S1x1x512x1024.size a)
    (h' : off' = ![0, 0, 128 * rb, 256 * k.val + 128 * r.val]) :
    k0_pay13 (arg5.view.readAt (Elt F) (Rect.unit (s := S1x1x512x1024) off' S1x1x256x128.size inb').toLoadRect X5)
      = Va arg5 arg7 X5 X7 (rb + 1) (2 * k.val + r.val) :=
  load_k arg5.view X5 (arg7.view.read (Elt F) X7) inb' _ _ (h'.trans (by rw [show 256 * k.val + 128 * r.val = 128 * (2 * k.val + r.val) by omega]))

/-- The trip's pieces of the output, newest first. -/
abbrev outL : List (View.Piece (Elt F) S1x1x512x1024 .bf16) :=
  [⟨Rect.unit (s := S1x1x512x1024) (k0_off9 k (BitVec.ofNat 32 1)) ![1, 1, 128, 128] (k0_off9_inb k 1), outT (Sc i arg3 arg4 arg6 arg8 X3 X4 X6 X8 3 (2 * k.val + 1)) (Va arg5 arg7 X5 X7 3 (2 * k.val + 1))⟩,
    ⟨Rect.unit (s := S1x1x512x1024) (k0_off7 k (BitVec.ofNat 32 1)) ![1, 1, 128, 128] (k0_off7_inb k 1), outT (Sc i arg3 arg4 arg6 arg8 X3 X4 X6 X8 2 (2 * k.val + 1)) (Va arg5 arg7 X5 X7 2 (2 * k.val + 1))⟩,
    ⟨Rect.unit (s := S1x1x512x1024) (k0_off5 k (BitVec.ofNat 32 1)) ![1, 1, 128, 128] (k0_off5_inb k 1), outT (Sc i arg3 arg4 arg6 arg8 X3 X4 X6 X8 1 (2 * k.val + 1)) (Va arg5 arg7 X5 X7 1 (2 * k.val + 1))⟩,
    ⟨Rect.unit (s := S1x1x512x1024) (k0_off3 k (BitVec.ofNat 32 1)) ![1, 1, 128, 128] (k0_off3_inb k 1), outT (Sc i arg3 arg4 arg6 arg8 X3 X4 X6 X8 0 (2 * k.val + 1)) (Va arg5 arg7 X5 X7 0 (2 * k.val + 1))⟩,
    ⟨Rect.unit (s := S1x1x512x1024) (k0_off9 k (BitVec.ofNat 32 0)) ![1, 1, 128, 128] (k0_off9_inb k 0), outT (Sc i arg3 arg4 arg6 arg8 X3 X4 X6 X8 3 (2 * k.val + 0)) (Va arg5 arg7 X5 X7 3 (2 * k.val + 0))⟩,
    ⟨Rect.unit (s := S1x1x512x1024) (k0_off7 k (BitVec.ofNat 32 0)) ![1, 1, 128, 128] (k0_off7_inb k 0), outT (Sc i arg3 arg4 arg6 arg8 X3 X4 X6 X8 2 (2 * k.val + 0)) (Va arg5 arg7 X5 X7 2 (2 * k.val + 0))⟩,
    ⟨Rect.unit (s := S1x1x512x1024) (k0_off5 k (BitVec.ofNat 32 0)) ![1, 1, 128, 128] (k0_off5_inb k 0), outT (Sc i arg3 arg4 arg6 arg8 X3 X4 X6 X8 1 (2 * k.val + 0)) (Va arg5 arg7 X5 X7 1 (2 * k.val + 0))⟩,
    ⟨Rect.unit (s := S1x1x512x1024) (k0_off3 k (BitVec.ofNat 32 0)) ![1, 1, 128, 128] (k0_off3_inb k 0), outT (Sc i arg3 arg4 arg6 arg8 X3 X4 X6 X8 0 (2 * k.val + 0)) (Va arg5 arg7 X5 X7 0 (2 * k.val + 0))⟩]

theorem trip_out :
    (tripL_k0_t1 (F := F) 𝒱 c bd i arg3 harg3 arg4 harg4 arg5 harg5 arg6 harg6 arg7 harg7 arg8 harg8 arg9 harg9 arg10 harg10 v0 X3 X4 X5 X6 X7 X8 k f9 f10).1
      = outL i arg3 arg4 arg5 arg6 arg7 arg8 X3 X4 X5 X6 X7 X8 k := by
  unfold tripL_k0_t1 trip_k0_t1
  dsimp only
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))))))
  · exact congrArg₂ outT (score_later i arg3 arg4 arg6 arg8 X3 X4 X6 X8 k 1 2 (k0_off9_inb k 1) (k0_off10_inb k 1) (k0_off9_eq k 1) (k0_off10_eq k 1))
      (value_later arg5 arg7 X5 X7 k 1 2 (k0_off10_inb k 1) (k0_off10_eq k 1))
  · exact congrArg₂ outT (score_later i arg3 arg4 arg6 arg8 X3 X4 X6 X8 k 1 1 (k0_off7_inb k 1) (k0_off8_inb k 1) (k0_off7_eq k 1) (k0_off8_eq k 1))
      (value_later arg5 arg7 X5 X7 k 1 1 (k0_off8_inb k 1) (k0_off8_eq k 1))
  · exact congrArg₂ outT (score_later i arg3 arg4 arg6 arg8 X3 X4 X6 X8 k 1 0 (k0_off5_inb k 1) (k0_off6_inb k 1) (k0_off5_eq k 1) (k0_off6_eq k 1))
      (value_later arg5 arg7 X5 X7 k 1 0 (k0_off6_inb k 1) (k0_off6_eq k 1))
  · exact congrArg₂ outT (score_first i arg3 arg4 arg6 arg8 X3 X4 X6 X8 k 1) (value_first arg5 arg7 X5 X7 k 1)
  · exact congrArg₂ outT (score_later i arg3 arg4 arg6 arg8 X3 X4 X6 X8 k 0 2 (k0_off9_inb k 0) (k0_off10_inb k 0) (k0_off9_eq k 0) (k0_off10_eq k 0))
      (value_later arg5 arg7 X5 X7 k 0 2 (k0_off10_inb k 0) (k0_off10_eq k 0))
  · exact congrArg₂ outT (score_later i arg3 arg4 arg6 arg8 X3 X4 X6 X8 k 0 1 (k0_off7_inb k 0) (k0_off8_inb k 0) (k0_off7_eq k 0) (k0_off8_eq k 0))
      (value_later arg5 arg7 X5 X7 k 0 1 (k0_off8_inb k 0) (k0_off8_eq k 0))
  · exact congrArg₂ outT (score_later i arg3 arg4 arg6 arg8 X3 X4 X6 X8 k 0 0 (k0_off5_inb k 0) (k0_off6_inb k 0) (k0_off5_eq k 0) (k0_off6_eq k 0))
      (value_later arg5 arg7 X5 X7 k 0 0 (k0_off6_inb k 0) (k0_off6_eq k 0))
  · exact congrArg₂ outT (score_first i arg3 arg4 arg6 arg8 X3 X4 X6 X8 k 0) (value_first arg5 arg7 X5 X7 k 0)

/-- A head pair's number as the word the kernel computes. -/
theorem pair_word : ∀ (k : Fin k0_t1_loop.trips) (r : Fin 2),
    Scalar.addi (Scalar.muli 2#32 (Scf.iv 0#32 1#32 k.val)) (BitVec.ofNat 32 r.val) = BitVec.ofNat 32 (2 * k.val + r.val) := by
  decide +kernel

/-- The log-sum-exp tile after the trip's first head pair. -/
abbrev lse0 (rb : ℕ) {off : Fin 4 → ℕ} (inb : ∀ a, off a + S1x1x128x128.size a ≤ S1x1x512x128.size a) : FVec F S1x1x128x128 .f32 :=
  updT v0 (BitVec.ofNat 32 (2 * k.val + 0)) (lseT (Sc i arg3 arg4 arg6 arg8 X3 X4 X6 X8 rb (2 * k.val + 0)) (Va arg5 arg7 X5 X7 rb (2 * k.val + 0)))
    (k0_pay54 (arg10.view.readAt (Elt F) (Rect.unit (s := S1x1x512x128) off S1x1x128x128.size inb).toLoadRect f10))

/-- The log-sum-exp tile after the trip's second head pair, over the tile the first left. -/
abbrev lse1 (rb : ℕ) (prev : Vec F S1x1x128x128 .f32) : FVec F S1x1x128x128 .f32 :=
  updT v0 (BitVec.ofNat 32 (2 * k.val + 1)) (lseT (Sc i arg3 arg4 arg6 arg8 X3 X4 X6 X8 rb (2 * k.val + 1)) (Va arg5 arg7 X5 X7 rb (2 * k.val + 1)))
    (k0_pay54 prev)

/-- The trip's pieces of the log-sum-exp after its first head pair, newest first. -/
abbrev lseL0 : List (View.Piece (Elt F) S1x1x512x128 .f32) :=
  [⟨Rect.unit (s := S1x1x512x128) ![0, 0, 384, 0] ![1, 1, 128, 128] inb_S1x1x512x128_S1x1x128x128_0_0_384_0, lse0 i arg3 arg4 arg5 arg6 arg7 arg8 arg10 v0 X3 X4 X5 X6 X7 X8 k f10 3 inb_S1x1x512x128_S1x1x128x128_0_0_384_0⟩,
    ⟨Rect.unit (s := S1x1x512x128) ![0, 0, 256, 0] ![1, 1, 128, 128] inb_S1x1x512x128_S1x1x128x128_0_0_256_0, lse0 i arg3 arg4 arg5 arg6 arg7 arg8 arg10 v0 X3 X4 X5 X6 X7 X8 k f10 2 inb_S1x1x512x128_S1x1x128x128_0_0_256_0⟩,
    ⟨Rect.unit (s := S1x1x512x128) ![0, 0, 128, 0] ![1, 1, 128, 128] inb_S1x1x512x128_S1x1x128x128_0_0_128_0, lse0 i arg3 arg4 arg5 arg6 arg7 arg8 arg10 v0 X3 X4 X5 X6 X7 X8 k f10 1 inb_S1x1x512x128_S1x1x128x128_0_0_128_0⟩,
    ⟨Rect.unit (s := S1x1x512x128) ![0, 0, 0, 0] ![1, 1, 128, 128] inb_S1x1x512x128_S1x1x128x128_0_0_0_0, lse0 i arg3 arg4 arg5 arg6 arg7 arg8 arg10 v0 X3 X4 X5 X6 X7 X8 k f10 0 inb_S1x1x512x128_S1x1x128x128_0_0_0_0⟩]

theorem trip_lse0 :
    trip_k0_t1.sl.HW_arg10_4 (F := F) i arg3 arg4 arg5 arg6 arg7 arg8 arg10 v0 X3 X4 X5 X6 X7 X8 k f10
      = lseL0 i arg3 arg4 arg5 arg6 arg7 arg8 arg10 v0 X3 X4 X5 X6 X7 X8 k f10 := by
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) rfl)))
  · exact congrArg₂ (fun w l => updT v0 w l (k0_pay54 (arg10.view.readAt (Elt F) (Rect.unit (s := S1x1x512x128) ![0, 0, 384, 0] S1x1x128x128.size inb_S1x1x512x128_S1x1x128x128_0_0_384_0).toLoadRect f10))) (pair_word k 0)
      (congrArg₂ lseT (score_later i arg3 arg4 arg6 arg8 X3 X4 X6 X8 k 0 2 (k0_off9_inb k 0) (k0_off10_inb k 0) (k0_off9_eq k 0) (k0_off10_eq k 0))
        (value_later arg5 arg7 X5 X7 k 0 2 (k0_off10_inb k 0) (k0_off10_eq k 0)))
  · exact congrArg₂ (fun w l => updT v0 w l (k0_pay54 (arg10.view.readAt (Elt F) (Rect.unit (s := S1x1x512x128) ![0, 0, 256, 0] S1x1x128x128.size inb_S1x1x512x128_S1x1x128x128_0_0_256_0).toLoadRect f10))) (pair_word k 0)
      (congrArg₂ lseT (score_later i arg3 arg4 arg6 arg8 X3 X4 X6 X8 k 0 1 (k0_off7_inb k 0) (k0_off8_inb k 0) (k0_off7_eq k 0) (k0_off8_eq k 0))
        (value_later arg5 arg7 X5 X7 k 0 1 (k0_off8_inb k 0) (k0_off8_eq k 0)))
  · exact congrArg₂ (fun w l => updT v0 w l (k0_pay54 (arg10.view.readAt (Elt F) (Rect.unit (s := S1x1x512x128) ![0, 0, 128, 0] S1x1x128x128.size inb_S1x1x512x128_S1x1x128x128_0_0_128_0).toLoadRect f10))) (pair_word k 0)
      (congrArg₂ lseT (score_later i arg3 arg4 arg6 arg8 X3 X4 X6 X8 k 0 0 (k0_off5_inb k 0) (k0_off6_inb k 0) (k0_off5_eq k 0) (k0_off6_eq k 0))
        (value_later arg5 arg7 X5 X7 k 0 0 (k0_off6_inb k 0) (k0_off6_eq k 0)))
  · exact congrArg₂ (fun w l => updT v0 w l (k0_pay54 (arg10.view.readAt (Elt F) (Rect.unit (s := S1x1x512x128) ![0, 0, 0, 0] S1x1x128x128.size inb_S1x1x512x128_S1x1x128x128_0_0_0_0).toLoadRect f10))) (pair_word k 0)
      (congrArg₂ lseT (score_first i arg3 arg4 arg6 arg8 X3 X4 X6 X8 k 0) (value_first arg5 arg7 X5 X7 k 0))

/-- The trip's pieces of the log-sum-exp: the four newest, over the first head pair's. -/
theorem trip_lse : ∃ p0 p1 p2 p3 : Vec F S1x1x128x128 .f32,
    (tripL_k0_t1 (F := F) 𝒱 c bd i arg3 harg3 arg4 harg4 arg5 harg5 arg6 harg6 arg7 harg7 arg8 harg8 arg9 harg9 arg10 harg10 v0 X3 X4 X5 X6 X7 X8 k f9 f10).2
      = ⟨Rect.unit (s := S1x1x512x128) ![0, 0, 384, 0] ![1, 1, 128, 128] inb_S1x1x512x128_S1x1x128x128_0_0_384_0, lse1 i arg3 arg4 arg5 arg6 arg7 arg8 v0 X3 X4 X5 X6 X7 X8 k 3 p3⟩
        :: ⟨Rect.unit (s := S1x1x512x128) ![0, 0, 256, 0] ![1, 1, 128, 128] inb_S1x1x512x128_S1x1x128x128_0_0_256_0, lse1 i arg3 arg4 arg5 arg6 arg7 arg8 v0 X3 X4 X5 X6 X7 X8 k 2 p2⟩
        :: ⟨Rect.unit (s := S1x1x512x128) ![0, 0, 128, 0] ![1, 1, 128, 128] inb_S1x1x512x128_S1x1x128x128_0_0_128_0, lse1 i arg3 arg4 arg5 arg6 arg7 arg8 v0 X3 X4 X5 X6 X7 X8 k 1 p1⟩
        :: ⟨Rect.unit (s := S1x1x512x128) ![0, 0, 0, 0] ![1, 1, 128, 128] inb_S1x1x512x128_S1x1x128x128_0_0_0_0, lse1 i arg3 arg4 arg5 arg6 arg7 arg8 v0 X3 X4 X5 X6 X7 X8 k 0 p0⟩
        :: lseL0 i arg3 arg4 arg5 arg6 arg7 arg8 arg10 v0 X3 X4 X5 X6 X7 X8 k f10
      ∧ p0 = lse0 i arg3 arg4 arg5 arg6 arg7 arg8 arg10 v0 X3 X4 X5 X6 X7 X8 k f10 0 inb_S1x1x512x128_S1x1x128x128_0_0_0_0
      ∧ p1 = lse0 i arg3 arg4 arg5 arg6 arg7 arg8 arg10 v0 X3 X4 X5 X6 X7 X8 k f10 1 inb_S1x1x512x128_S1x1x128x128_0_0_128_0
      ∧ p2 = lse0 i arg3 arg4 arg5 arg6 arg7 arg8 arg10 v0 X3 X4 X5 X6 X7 X8 k f10 2 inb_S1x1x512x128_S1x1x128x128_0_0_256_0
      ∧ p3 = lse0 i arg3 arg4 arg5 arg6 arg7 arg8 arg10 v0 X3 X4 X5 X6 X7 X8 k f10 3 inb_S1x1x512x128_S1x1x128x128_0_0_384_0 := by
  refine ⟨arg10.view.readCov (trip_k0_t1.sl.HW_arg10_4 (F := F) i arg3 arg4 arg5 arg6 arg7 arg8 arg10 v0 X3 X4 X5 X6 X7 X8 k f10) (Rect.unit (s := S1x1x512x128) ![0, 0, 0, 0] S1x1x128x128.size inb_S1x1x512x128_S1x1x128x128_0_0_0_0).toLoadRect,
    arg10.view.readCov (trip_k0_t1.sl.HW_arg10_5 (F := F) i arg3 arg4 arg5 arg6 arg7 arg8 arg10 v0 X3 X4 X5 X6 X7 X8 k f10) (Rect.unit (s := S1x1x512x128) ![0, 0, 128, 0] S1x1x128x128.size inb_S1x1x512x128_S1x1x128x128_0_0_128_0).toLoadRect,
    arg10.view.readCov (trip_k0_t1.sl.HW_arg10_6 (F := F) i arg3 arg4 arg5 arg6 arg7 arg8 arg10 v0 X3 X4 X5 X6 X7 X8 k f10) (Rect.unit (s := S1x1x512x128) ![0, 0, 256, 0] S1x1x128x128.size inb_S1x1x512x128_S1x1x128x128_0_0_256_0).toLoadRect,
    arg10.view.readCov (trip_k0_t1.sl.HW_arg10_7 (F := F) i arg3 arg4 arg5 arg6 arg7 arg8 arg10 v0 X3 X4 X5 X6 X7 X8 k f10) (Rect.unit (s := S1x1x512x128) ![0, 0, 384, 0] S1x1x128x128.size inb_S1x1x512x128_S1x1x128x128_0_0_384_0).toLoadRect, ?_, ?_, ?_, ?_, ?_⟩
  · unfold tripL_k0_t1 trip_k0_t1
    dsimp only
    refine congrArg₂ List.cons (congrArg (Sigma.mk _) ?_) (congrArg₂ List.cons (congrArg (Sigma.mk _) ?_) (congrArg₂ List.cons (congrArg (Sigma.mk _) ?_)
      (congrArg₂ List.cons (congrArg (Sigma.mk _) ?_) (trip_lse0 i arg3 arg4 arg5 arg6 arg7 arg8 arg10 v0 X3 X4 X5 X6 X7 X8 k f10))))
    · exact congrArg₂ (fun w l => updT v0 w l (k0_pay54 _)) (pair_word k 1)
        (congrArg₂ lseT (score_later i arg3 arg4 arg6 arg8 X3 X4 X6 X8 k 1 2 (k0_off9_inb k 1) (k0_off10_inb k 1) (k0_off9_eq k 1) (k0_off10_eq k 1))
          (value_later arg5 arg7 X5 X7 k 1 2 (k0_off10_inb k 1) (k0_off10_eq k 1)))
    · exact congrArg₂ (fun w l => updT v0 w l (k0_pay54 _)) (pair_word k 1)
        (congrArg₂ lseT (score_later i arg3 arg4 arg6 arg8 X3 X4 X6 X8 k 1 1 (k0_off7_inb k 1) (k0_off8_inb k 1) (k0_off7_eq k 1) (k0_off8_eq k 1))
          (value_later arg5 arg7 X5 X7 k 1 1 (k0_off8_inb k 1) (k0_off8_eq k 1)))
    · exact congrArg₂ (fun w l => updT v0 w l (k0_pay54 _)) (pair_word k 1)
        (congrArg₂ lseT (score_later i arg3 arg4 arg6 arg8 X3 X4 X6 X8 k 1 0 (k0_off5_inb k 1) (k0_off6_inb k 1) (k0_off5_eq k 1) (k0_off6_eq k 1))
          (value_later arg5 arg7 X5 X7 k 1 0 (k0_off6_inb k 1) (k0_off6_eq k 1)))
    · exact congrArg₂ (fun w l => updT v0 w l (k0_pay54 _)) (pair_word k 1)
        (congrArg₂ lseT (score_first i arg3 arg4 arg6 arg8 X3 X4 X6 X8 k 1) (value_first arg5 arg7 X5 X7 k 1))
  · rw [trip_lse0]
    simp (disch := decide) only [↓ View.readCov_skip, View.readCov_cons_toLoadRect]
  · unfold trip_k0_t1.sl.HW_arg10_5
    rw [trip_lse0]
    simp (disch := decide) only [↓ View.readCov_skip, View.readCov_cons_toLoadRect]
  · unfold trip_k0_t1.sl.HW_arg10_6 trip_k0_t1.sl.HW_arg10_5
    rw [trip_lse0]
    simp (disch := decide) only [↓ View.readCov_skip, View.readCov_cons_toLoadRect]
  · unfold trip_k0_t1.sl.HW_arg10_7 trip_k0_t1.sl.HW_arg10_6 trip_k0_t1.sl.HW_arg10_5
    rw [trip_lse0]
    simp (disch := decide) only [↓ View.readCov_skip, View.readCov_cons_toLoadRect]

/-- The attention output as a function of the staged blocks, at every row and column. -/
def outV (y : S1x1x512x1024.Idx) : F .bf16 :=
  outT (Sc i arg3 arg4 arg6 arg8 X3 X4 X6 X8 ((y 2).val / 128) ((y 3).val / 128)) (Va arg5 arg7 X5 X7 ((y 2).val / 128) ((y 3).val / 128))
    (ix4 0 0 (md 128 (y 2).val) (md 128 (y 3).val))

/-- The log-sum-exp of head `y 3` as a function of the staged blocks, at every row. -/
def lseV (y : S1x1x512x128.Idx) : F .f32 :=
  lseT (Sc i arg3 arg4 arg6 arg8 X3 X4 X6 X8 ((y 2).val / 128) ((y 3).val / 2)) (Va arg5 arg7 X5 X7 ((y 2).val / 128) ((y 3).val / 2))
    (ix2 (md 256 (128 * ((y 3).val % 2) + (y 2).val % 128)) (y 3))

/-- One output piece in front. -/
theorem read_out_cons (L : List (View.Piece (Elt F) S1x1x512x1024 .bf16)) (y : S1x1x512x1024.Idx) (rb hp : ℕ) {off : Fin 4 → ℕ}
    (inb : ∀ a, off a + S1x1x128x128.size a ≤ S1x1x512x1024.size a) (h : off = ![0, 0, 128 * rb, 128 * hp]) :
    arg9.view.read (Elt F) (arg9.view.writes (Elt F) f9 (⟨Rect.unit (s := S1x1x512x1024) off ![1, 1, 128, 128] inb,
        outT (Sc i arg3 arg4 arg6 arg8 X3 X4 X6 X8 rb hp) (Va arg5 arg7 X5 X7 rb hp)⟩ :: L)) y
      = if (y 2).val / 128 = rb ∧ (y 3).val / 128 = hp then outV i arg3 arg4 arg5 arg6 arg7 arg8 X3 X4 X5 X6 X7 X8 y
        else arg9.view.read (Elt F) (arg9.view.writes (Elt F) f9 L) y := by
  by_cases hc : (y 2).val / 128 = rb ∧ (y 3).val / 128 = hp
  · rw [if_pos hc]
    refine (View.read_writes_cons_unit_of_mem arg9.view f9 inb _ L y (ix4 0 0 (md 128 (y 2).val) (md 128 (y 3).val)) h ?_).trans ?_
    · intro a
      match a with
      | ⟨0, _⟩ => exact Nat.lt_one_iff.mp (y 0).isLt
      | ⟨1, _⟩ => exact Nat.lt_one_iff.mp (y 1).isLt
      | ⟨2, _⟩ =>
        have e : (md 128 (y 2).val).val = (y 2).val % 128 := md_val _ _
        show (y 2).val = 128 * rb + (md 128 (y 2).val).val
        omega
      | ⟨3, _⟩ =>
        have e : (md 128 (y 3).val).val = (y 3).val % 128 := md_val _ _
        show (y 3).val = 128 * hp + (md 128 (y 3).val).val
        omega
    · unfold outV
      rw [hc.1, hc.2]
  · rw [if_neg hc]
    by_cases h2 : (y 2).val / 128 = rb
    · refine View.read_writes_cons_unit_of_not_mem arg9.view f9 inb _ L y h 3 ?_
      show (y 3).val < 128 * hp ∨ 128 * hp + 128 ≤ (y 3).val
      omega
    · refine View.read_writes_cons_unit_of_not_mem arg9.view f9 inb _ L y h 2 ?_
      show (y 2).val < 128 * rb ∨ 128 * rb + 128 ≤ (y 2).val
      omega

set_option backward.isDefEq.respectTransparency false in
/-- What a trip leaves of the output: its own four heads' columns, and the rest as it was. -/
theorem trip_out_read (y : S1x1x512x1024.Idx) :
    arg9.view.read (Elt F) (arg9.view.writes (Elt F) f9
      (tripL_k0_t1 (F := F) 𝒱 c bd i arg3 harg3 arg4 harg4 arg5 harg5 arg6 harg6 arg7 harg7 arg8 harg8 arg9 harg9 arg10 harg10 v0 X3 X4 X5 X6 X7 X8 k f9 f10).1) y
      = if 256 * k.val ≤ (y 3).val ∧ (y 3).val < 256 * k.val + 256 then outV i arg3 arg4 arg5 arg6 arg7 arg8 X3 X4 X5 X6 X7 X8 y
        else arg9.view.read (Elt F) f9 y := by
  have e1 : 256 * k.val + 128 * (1 : Fin 2).val = 128 * (2 * k.val + 1) := by show 256 * k.val + 128 * 1 = _; omega
  have e0 : 256 * k.val + 128 * (0 : Fin 2).val = 128 * (2 * k.val + 0) := by show 256 * k.val + 128 * 0 = _; omega
  rw [trip_out]
  unfold outL
  rw [read_out_cons i arg3 arg4 arg5 arg6 arg7 arg8 arg9 X3 X4 X5 X6 X7 X8 f9 _ y 3 (2 * k.val + 1) (off := k0_off9 k 1#32) (k0_off9_inb k 1) (by rw [← e1]; exact k0_off9_eq k 1),
    read_out_cons i arg3 arg4 arg5 arg6 arg7 arg8 arg9 X3 X4 X5 X6 X7 X8 f9 _ y 2 (2 * k.val + 1) (off := k0_off7 k 1#32) (k0_off7_inb k 1) (by rw [← e1]; exact k0_off7_eq k 1),
    read_out_cons i arg3 arg4 arg5 arg6 arg7 arg8 arg9 X3 X4 X5 X6 X7 X8 f9 _ y 1 (2 * k.val + 1) (off := k0_off5 k 1#32) (k0_off5_inb k 1) (by rw [← e1]; exact k0_off5_eq k 1),
    read_out_cons i arg3 arg4 arg5 arg6 arg7 arg8 arg9 X3 X4 X5 X6 X7 X8 f9 _ y 0 (2 * k.val + 1) (off := k0_off3 k 1#32) (k0_off3_inb k 1) (by rw [← e1]; exact k0_off3_eq k 1),
    read_out_cons i arg3 arg4 arg5 arg6 arg7 arg8 arg9 X3 X4 X5 X6 X7 X8 f9 _ y 3 (2 * k.val + 0) (off := k0_off9 k 0#32) (k0_off9_inb k 0) (by rw [← e0]; exact k0_off9_eq k 0),
    read_out_cons i arg3 arg4 arg5 arg6 arg7 arg8 arg9 X3 X4 X5 X6 X7 X8 f9 _ y 2 (2 * k.val + 0) (off := k0_off7 k 0#32) (k0_off7_inb k 0) (by rw [← e0]; exact k0_off7_eq k 0),
    read_out_cons i arg3 arg4 arg5 arg6 arg7 arg8 arg9 X3 X4 X5 X6 X7 X8 f9 _ y 1 (2 * k.val + 0) (off := k0_off5 k 0#32) (k0_off5_inb k 0) (by rw [← e0]; exact k0_off5_eq k 0),
    read_out_cons i arg3 arg4 arg5 arg6 arg7 arg8 arg9 X3 X4 X5 X6 X7 X8 f9 _ y 0 (2 * k.val + 0) (off := k0_off3 k 0#32) (k0_off3_inb k 0) (by rw [← e0]; exact k0_off3_eq k 0)]
  have h2 : (y 2).val < 512 := (y 2).isLt
  generalize outV i arg3 arg4 arg5 arg6 arg7 arg8 X3 X4 X5 X6 X7 X8 y = A
  rw [View.writes_nil]
  generalize arg9.view.read (Elt F) f9 y = B
  by_cases hin : 256 * k.val ≤ (y 3).val ∧ (y 3).val < 256 * k.val + 256
  · rw [if_pos hin]
    have hu : (y 3).val / 128 = 2 * k.val + 1 ∨ (y 3).val / 128 = 2 * k.val + 0 := by omega
    have hr : (y 2).val / 128 = 3 ∨ (y 2).val / 128 = 2 ∨ (y 2).val / 128 = 1 ∨ (y 2).val / 128 = 0 := by omega
    split_ifs <;> first | rfl | omega
  · rw [if_neg hin]
    split_ifs <;> first | rfl | omega

/-- A lane's numbers in a trip. -/
abbrev laneW : IVec S1x128 32 := iota .tc S1x128 32 [1] iota_S1x128_d1_w32

/-- What a trip leaves of the log-sum-exp: its own four heads' lanes, and the rest as it was. -/
def lseG (y : S1x1x512x128.Idx) : F .f32 :=
  if 4 * k.val ≤ (y 3).val ∧ (y 3).val < 4 * k.val + 4 then lseV i arg3 arg4 arg5 arg6 arg7 arg8 X3 X4 X5 X6 X7 X8 y
  else arg10.view.read (Elt F) f10 y

set_option backward.isDefEq.respectTransparency false in
/-- One row block of the log-sum-exp after the trip. -/
theorem lse_tile (rb : ℕ) {off : Fin 4 → ℕ} (inb : ∀ a, off a + S1x1x128x128.size a ≤ S1x1x512x128.size a) (h : off = ![0, 0, 128 * rb, 0])
    (y : S1x1x512x128.Idx) (hy : (y 2).val / 128 = rb) :
    lse1 i arg3 arg4 arg5 arg6 arg7 arg8 laneW X3 X4 X5 X6 X7 X8 k rb
        (lse0 i arg3 arg4 arg5 arg6 arg7 arg8 arg10 laneW X3 X4 X5 X6 X7 X8 k f10 rb inb) (ix4 0 0 (md 128 (y 2).val) (y 3))
      = lseG i arg3 arg4 arg5 arg6 arg7 arg8 arg10 X3 X4 X5 X6 X7 X8 k f10 y := by
  have hk : k.val < 4 := Nat.lt_of_lt_of_le k.isLt k0_t1_abs.2.1
  have e2 : (md 128 (y 2).val).val = (y 2).val % 128 := md_val _ _
  have hprev : ∀ (p : Vec F S1x1x128x128 .f32) (a b : Fin 128), k0_pay54 p (ix2 a b) = p (ix4 0 0 a b) := fun p a b => by
    pointwise [k0_pay54]
  refine (updT_apply (2 * k.val + 1) (by omega) _ _ (md 128 (y 2).val) (y 3)).trans ?_
  rw [hprev]
  rw [show lse0 i arg3 arg4 arg5 arg6 arg7 arg8 arg10 laneW X3 X4 X5 X6 X7 X8 k f10 rb inb (ix4 0 0 (md 128 (y 2).val) (y 3)) = _ from
    updT_apply (2 * k.val + 0) (by omega) _ _ (md 128 (y 2).val) (y 3)]
  rw [hprev]
  have hr : arg10.view.readAt (Elt F) (Rect.unit (s := S1x1x512x128) off S1x1x128x128.size inb).toLoadRect f10 (ix4 0 0 (md 128 (y 2).val) (y 3))
      = arg10.view.read (Elt F) f10 y := by
    subst h
    refine congrArg (arg10.view.read (Elt F) f10) ((idx4_eq _ (y 0) (y 1) (y 2) (y 3) ?_ ?_ ?_ ?_).trans (eq_ix4 y).symm)
    · have := Nat.lt_one_iff.mp (y 0).isLt
      exact (show _ = 0 from rfl).trans this.symm
    · have := Nat.lt_one_iff.mp (y 1).isLt
      exact (show _ = 0 from rfl).trans this.symm
    · exact (show _ = 128 * rb + 1 * (md 128 (y 2).val).val from rfl).trans (by omega)
    · exact (show _ = 0 + 1 * (y 3).val from rfl).trans (by omega)
  rw [hr]
  unfold lseG lseV
  generalize hn : (y 3).val = n
  have hix : ∀ (m : Fin 256) (e : ℕ), m.val = e % 256 → (ix2 m (y 3) : S256x128.Idx) = ix2 (md 256 e) (y 3) := fun m e he => by
    rw [show m = md 256 e from Fin.ext he]
  by_cases h3 : n = 2 * (2 * k.val + 1) + 1
  · have d : n / 2 = 2 * k.val + 1 := by omega
    have m1 : n % 2 = 1 := by omega
    rw [if_pos h3, if_pos (by omega), hy, d, m1, hix _ (128 * 1 + (y 2).val % 128) (by show 128 + (md 128 (y 2).val).val = _; omega)]
  rw [if_neg h3]
  by_cases h2 : n = 2 * (2 * k.val + 1)
  · have d : n / 2 = 2 * k.val + 1 := by omega
    have m1 : n % 2 = 0 := by omega
    rw [if_pos h2, if_pos (by omega), hy, d, m1, hix _ (128 * 0 + (y 2).val % 128) (by show (md 128 (y 2).val).val = _; omega)]
  rw [if_neg h2]
  by_cases h1 : n = 2 * (2 * k.val + 0) + 1
  · have d : n / 2 = 2 * k.val + 0 := by omega
    have m1 : n % 2 = 1 := by omega
    rw [if_pos h1, if_pos (by omega), hy, d, m1, hix _ (128 * 1 + (y 2).val % 128) (by show 128 + (md 128 (y 2).val).val = _; omega)]
  rw [if_neg h1]
  by_cases h0 : n = 2 * (2 * k.val + 0)
  · have d : n / 2 = 2 * k.val + 0 := by omega
    have m1 : n % 2 = 0 := by omega
    rw [if_pos h0, if_pos (by omega), hy, d, m1, hix _ (128 * 0 + (y 2).val % 128) (by show (md 128 (y 2).val).val = _; omega)]
  rw [if_neg h0, if_neg (by omega)]

/-- One log-sum-exp piece in front. -/
theorem read_lse_cons (f : BufTy.Contents (Elt F) arg10.view.ty) (L : List (View.Piece (Elt F) S1x1x512x128 .f32)) (y : S1x1x512x128.Idx) (rb : ℕ) {off : Fin 4 → ℕ}
    (inb : ∀ a, off a + S1x1x128x128.size a ≤ S1x1x512x128.size a) (h : off = ![0, 0, 128 * rb, 0]) (w : Vec F S1x1x128x128 .f32) :
    arg10.view.read (Elt F) (arg10.view.writes (Elt F) f (⟨Rect.unit (s := S1x1x512x128) off ![1, 1, 128, 128] inb, w⟩ :: L)) y
      = if (y 2).val / 128 = rb then w (ix4 0 0 (md 128 (y 2).val) (y 3)) else arg10.view.read (Elt F) (arg10.view.writes (Elt F) f L) y := by
  by_cases hc : (y 2).val / 128 = rb
  · rw [if_pos hc]
    refine View.read_writes_cons_unit_of_mem arg10.view f inb _ L y (ix4 0 0 (md 128 (y 2).val) (y 3)) h ?_
    intro a
    match a with
    | ⟨0, _⟩ => exact Nat.lt_one_iff.mp (y 0).isLt
    | ⟨1, _⟩ => exact Nat.lt_one_iff.mp (y 1).isLt
    | ⟨2, _⟩ =>
      have e : (md 128 (y 2).val).val = (y 2).val % 128 := md_val _ _
      show (y 2).val = 128 * rb + (md 128 (y 2).val).val
      omega
    | ⟨3, _⟩ =>
      show (y 3).val = 0 + (y 3).val
      omega
  · rw [if_neg hc]
    refine View.read_writes_cons_unit_of_not_mem arg10.view f inb _ L y h 2 ?_
    show (y 2).val < 128 * rb ∨ 128 * rb + 128 ≤ (y 2).val
    omega

theorem trip_lse_read (y : S1x1x512x128.Idx) :
    arg10.view.read (Elt F) (arg10.view.writes (Elt F) f10
      (tripL_k0_t1 (F := F) 𝒱 c bd i arg3 harg3 arg4 harg4 arg5 harg5 arg6 harg6 arg7 harg7 arg8 harg8 arg9 harg9 arg10 harg10 laneW X3 X4 X5 X6 X7 X8 k f9 f10).2) y
      = lseG i arg3 arg4 arg5 arg6 arg7 arg8 arg10 X3 X4 X5 X6 X7 X8 k f10 y := by
  obtain ⟨p0, p1, p2, p3, hL, rfl, rfl, rfl, rfl⟩ := trip_lse (F := F) 𝒱 c bd i arg3 harg3 arg4 harg4 arg5 harg5 arg6 harg6 arg7 harg7 arg8 harg8 arg9 harg9 arg10 harg10 laneW X3 X4 X5 X6 X7 X8 k f9 f10
  rw [hL, read_lse_cons arg10 f10 _ y 3 _ rfl, read_lse_cons arg10 f10 _ y 2 _ rfl, read_lse_cons arg10 f10 _ y 1 _ rfl, read_lse_cons arg10 f10 _ y 0 _ rfl]
  have h2 : (y 2).val < 512 := (y 2).isLt
  by_cases h3 : (y 2).val / 128 = 3
  · rw [if_pos h3]; exact lse_tile i arg3 arg4 arg5 arg6 arg7 arg8 arg10 X3 X4 X5 X6 X7 X8 k f10 3 _ rfl y h3
  rw [if_neg h3]
  by_cases h3 : (y 2).val / 128 = 2
  · rw [if_pos h3]; exact lse_tile i arg3 arg4 arg5 arg6 arg7 arg8 arg10 X3 X4 X5 X6 X7 X8 k f10 2 _ rfl y h3
  rw [if_neg h3]
  by_cases h3 : (y 2).val / 128 = 1
  · rw [if_pos h3]; exact lse_tile i arg3 arg4 arg5 arg6 arg7 arg8 arg10 X3 X4 X5 X6 X7 X8 k f10 1 _ rfl y h3
  rw [if_neg h3]
  have h0 : (y 2).val / 128 = 0 := by omega
  rw [if_pos h0]; exact lse_tile i arg3 arg4 arg5 arg6 arg7 arg8 arg10 X3 X4 X5 X6 X7 X8 k f10 0 _ rfl y h0

end Cert.KernelIdeal.Attn
-- ==== Proof.Body.lean ====
/-
  The body of the attention kernel: what its loop leaves in the two outputs' staging blocks, the body's run on
  staging blocks with those contents, and the launch's frame over it.
-/
module

public import proofs.«01_k».proof.Proof.Trip
public import proofs.«01_k».proof.Proof.Gen.KernelIdeal.Frame.Runs
public import Idealize.ShloMosaic.Lib.Claim

@[expose] public section
set_option maxRecDepth 16384
noncomputable section
namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section loop
variable (𝒱 : Variants) (c : Dev nD) (bd : Option 𝒱.V) (i : grid0.Coords)
  (arg3 : Memref sig .tc .vmem S1x1x512x1024 .bf16) (harg3 : arg3.IsWhole) (arg4 : Memref sig .tc .vmem S1x1x512x1024 .bf16) (harg4 : arg4.IsWhole)
  (arg5 : Memref sig .tc .vmem S1x1x512x1024 .bf16) (harg5 : arg5.IsWhole) (arg6 : Memref sig .tc .vmem S1x1x128x1024 .bf16) (harg6 : arg6.IsWhole)
  (arg7 : Memref sig .tc .vmem S1x1x128x1024 .bf16) (harg7 : arg7.IsWhole) (arg8 : Memref sig .tc .vmem S16x128x256 .f32) (harg8 : arg8.IsWhole)
  (arg9 : Memref sig .tc .vmem S1x1x512x1024 .bf16) (harg9 : arg9.IsWhole) (arg10 : Memref sig .tc .vmem S1x1x512x128 .f32) (harg10 : arg10.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (X8 : BufTy.Contents (Elt F) arg8.view.ty)
  (G9 : BufTy.Contents (Elt F) arg9.view.ty) (G10 : BufTy.Contents (Elt F) arg10.view.ty)

/-- The output block after the first `n` trips: the first `256 n` columns are the attention's, the rest as before. -/
theorem loop_out_read (n : ℕ) (hn : n ≤ k0_t1_loop.trips) (y : S1x1x512x1024.Idx) :
    arg9.view.read (Elt F) (arg9.view.writes (Elt F) G9
      (pb_k0_t1 (F := F) 𝒱 c bd i arg3 harg3 arg4 harg4 arg5 harg5 arg6 harg6 arg7 harg7 arg8 harg8 arg9 harg9 arg10 harg10 laneW X3 X4 X5 X6 X7 X8 G9 G10 n).1) y
      = if (y 3).val < 256 * n then outV i arg3 arg4 arg5 arg6 arg7 arg8 X3 X4 X5 X6 X7 X8 y else arg9.view.read (Elt F) G9 y := by
  induction n with
  | zero => rw [if_neg (by omega)]; rfl
  | succ n ih =>
    rw [pb_k0_t1_succ (F := F) 𝒱 c bd i arg3 harg3 arg4 harg4 arg5 harg5 arg6 harg6 arg7 harg7 arg8 harg8 arg9 harg9 arg10 harg10 laneW X3 X4 X5 X6 X7 X8 G9 G10 ⟨n, hn⟩]
    dsimp only
    rw [View.writes_append, trip_out_read (F := F) 𝒱 c bd i arg3 harg3 arg4 harg4 arg5 harg5 arg6 harg6 arg7 harg7 arg8 harg8 arg9 harg9 arg10 harg10 laneW X3 X4 X5 X6 X7 X8 ⟨n, hn⟩, ih (by omega)]
    by_cases h1 : (y 3).val < 256 * n
    · rw [if_neg (by dsimp only; omega), if_pos h1, if_pos (by omega)]
    · rw [if_neg h1]
      by_cases h2 : (y 3).val < 256 * (n + 1)
      · rw [if_pos (by dsimp only; omega), if_pos h2]
      · rw [if_neg (by dsimp only; omega), if_neg h2]

/-- The log-sum-exp block after the first `n` trips: the first `4 n` lanes are the heads', the rest as before. -/
theorem loop_lse_read (n : ℕ) (hn : n ≤ k0_t1_loop.trips) (y : S1x1x512x128.Idx) :
    arg10.view.read (Elt F) (arg10.view.writes (Elt F) G10
      (pb_k0_t1 (F := F) 𝒱 c bd i arg3 harg3 arg4 harg4 arg5 harg5 arg6 harg6 arg7 harg7 arg8 harg8 arg9 harg9 arg10 harg10 laneW X3 X4 X5 X6 X7 X8 G9 G10 n).2) y
      = if (y 3).val < 4 * n then lseV i arg3 arg4 arg5 arg6 arg7 arg8 X3 X4 X5 X6 X7 X8 y else arg10.view.read (Elt F) G10 y := by
  induction n with
  | zero => rw [if_neg (by omega)]; rfl
  | succ n ih =>
    rw [pb_k0_t1_succ (F := F) 𝒱 c bd i arg3 harg3 arg4 harg4 arg5 harg5 arg6 harg6 arg7 harg7 arg8 harg8 arg9 harg9 arg10 harg10 laneW X3 X4 X5 X6 X7 X8 G9 G10 ⟨n, hn⟩]
    dsimp only
    rw [View.writes_append, trip_lse_read (F := F) 𝒱 c bd i arg3 harg3 arg4 harg4 arg5 harg5 arg6 harg6 arg7 harg7 arg8 harg8 arg9 harg9 arg10 harg10 X3 X4 X5 X6 X7 X8 ⟨n, hn⟩]
    unfold lseG
    rw [ih (by omega)]
    by_cases h1 : (y 3).val < 4 * n
    · rw [if_neg (by dsimp only; omega), if_pos h1, if_pos (by omega)]
    · rw [if_neg h1]
      by_cases h2 : (y 3).val < 4 * (n + 1)
      · rw [if_pos (by dsimp only; omega), if_pos h2]
      · rw [if_neg (by dsimp only; omega), if_neg h2]

end loop

/-- The output block as a function of the six input blocks. -/
def OUT9 (i : grid0.Coords) (x0 x1 x2 : Vec F S1x1x512x1024 .bf16) (x3 x4 : Vec F S1x1x128x1024 .bf16) (x5 : Vec F S16x128x256 .f32) : Vec F S1x1x512x1024 .bf16 :=
  fun y => outT (score i x0 x1 x3 x5 ((y 2).val / 128) ((y 3).val / 128)) (kcat x4 x2 ((y 2).val / 128) ((y 3).val / 128))
    (ix4 0 0 (md 128 (y 2).val) (md 128 (y 3).val))

/-- The log-sum-exp block as a function of the six input blocks: sixteen heads' lanes, then zeros. -/
def OUT10 (i : grid0.Coords) (x0 x1 x2 : Vec F S1x1x512x1024 .bf16) (x3 x4 : Vec F S1x1x128x1024 .bf16) (x5 : Vec F S16x128x256 .f32) : Vec F S1x1x512x128 .f32 :=
  fun y => if (y 3).val < 16 then
    lseT (score i x0 x1 x3 x5 ((y 2).val / 128) ((y 3).val / 2)) (kcat x4 x2 ((y 2).val / 128) ((y 3).val / 2))
      (ix2 (md 256 (128 * ((y 3).val % 2) + (y 2).val % 128)) (y 3))
    else k0_pay3 y

theorem k0_t1_trips : k0_t1_loop.trips = 4 := by decide +kernel

section body
variable (c : Dev nD) (i : grid0.Coords)
  (arg3 : Memref sig .tc .vmem S1x1x512x1024 .bf16) (harg3 : arg3.IsWhole) (arg4 : Memref sig .tc .vmem S1x1x512x1024 .bf16) (harg4 : arg4.IsWhole)
  (arg5 : Memref sig .tc .vmem S1x1x512x1024 .bf16) (harg5 : arg5.IsWhole) (arg6 : Memref sig .tc .vmem S1x1x128x1024 .bf16) (harg6 : arg6.IsWhole)
  (arg7 : Memref sig .tc .vmem S1x1x128x1024 .bf16) (harg7 : arg7.IsWhole) (arg8 : Memref sig .tc .vmem S16x128x256 .f32) (harg8 : arg8.IsWhole)
  (arg9 : Memref sig .tc .vmem S1x1x512x1024 .bf16) (harg9 : arg9.IsWhole) (arg10 : Memref sig .tc .vmem S1x1x512x128 .f32) (harg10 : arg10.IsWhole)
  (x0 x1 x2 : Vec F S1x1x512x1024 .bf16) (x3 x4 : Vec F S1x1x128x1024 .bf16) (x5 : Vec F S16x128x256 .f32)

theorem loop_out (bd : Option Variants.none.V) (G9 : BufTy.Contents (Elt F) arg9.view.ty) (G10 : BufTy.Contents (Elt F) arg10.view.ty) :
    arg9.view.read (Elt F) (arg9.view.writes (Elt F) G9
      (pb_k0_t1 (F := F) Variants.none c bd i arg3 harg3 arg4 harg4 arg5 harg5 arg6 harg6 arg7 harg7 arg8 harg8 arg9 harg9 arg10 harg10 laneW (harg3.unread x0) (harg4.unread x1) (harg5.unread x2) (harg6.unread x3) (harg7.unread x4) (harg8.unread x5) G9 G10 k0_t1_loop.trips).1)
      = OUT9 i x0 x1 x2 x3 x4 x5 := by
  funext y
  have h3 : (y 3).val < 1024 := (y 3).isLt
  rw [loop_out_read (F := F) Variants.none c bd i arg3 harg3 arg4 harg4 arg5 harg5 arg6 harg6 arg7 harg7 arg8 harg8 arg9 harg9 arg10 harg10 _ _ _ _ _ _ G9 G10 _ le_rfl y, if_pos (by rw [k0_t1_trips]; omega)]
  unfold outV OUT9 Sc Va
  rw [harg3.read_unread, harg4.read_unread, harg5.read_unread, harg6.read_unread, harg7.read_unread, harg8.read_unread]

theorem loop_lse (bd : Option Variants.none.V) (G9 : BufTy.Contents (Elt F) arg9.view.ty) (f : BufTy.Contents (Elt F) arg10.view.ty) :
    arg10.view.read (Elt F) (arg10.view.writes (Elt F) (arg10.view.writes (Elt F) f [⟨Rect.unit (s := S1x1x512x128) ![0, 0, 0, 0] S1x1x512x128.size inb_S1x1x512x128_S1x1x512x128_0_0_0_0, k0_pay3⟩])
      (pb_k0_t1 (F := F) Variants.none c bd i arg3 harg3 arg4 harg4 arg5 harg5 arg6 harg6 arg7 harg7 arg8 harg8 arg9 harg9 arg10 harg10 laneW (harg3.unread x0) (harg4.unread x1) (harg5.unread x2) (harg6.unread x3) (harg7.unread x4) (harg8.unread x5) G9
        (arg10.view.writes (Elt F) f [⟨Rect.unit (s := S1x1x512x128) ![0, 0, 0, 0] S1x1x512x128.size inb_S1x1x512x128_S1x1x512x128_0_0_0_0, k0_pay3⟩]) k0_t1_loop.trips).2)
      = OUT10 i x0 x1 x2 x3 x4 x5 := by
  funext y
  rw [loop_lse_read (F := F) Variants.none c bd i arg3 harg3 arg4 harg4 arg5 harg5 arg6 harg6 arg7 harg7 arg8 harg8 arg9 harg9 arg10 harg10 _ _ _ _ _ _ G9 _ _ le_rfl y, k0_t1_trips]
  unfold OUT10
  by_cases h : (y 3).val < 16
  · rw [if_pos h, if_pos (by omega)]
    unfold lseV Sc Va
    rw [harg3.read_unread, harg4.read_unread, harg5.read_unread, harg6.read_unread, harg7.read_unread, harg8.read_unread]
  · rw [if_neg h, if_neg (by omega)]
    refine View.read_writes_cons_unit_of_mem arg10.view f inb_S1x1x512x128_S1x1x512x128_0_0_0_0 _ [] y y rfl ?_
    intro a
    fin_cases a <;> simp

set_option maxHeartbeats 1000000 in
/-- The body's run: from the six input blocks, anything in the outputs' blocks, to the outputs' values. -/
theorem body_run (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (OUT9 i x0 x1 x2 x3 x4 x5) ∗ owns (c : Thread nD τ) arg10 fullShare (OUT10 i x0 x1 x2 x3 x4 x5)) -∗ K ⟨⟩))
      ⊢ wp frame (wpE (defs₀ (F := F)) Variants.none c none) E (cc0_dilated_attn_d4 i arg3 harg3 arg4 harg4 arg5 harg5 arg6 harg6 arg7 harg7 arg8 harg8 arg9 harg9 arg10 harg10) K := by
  simp only [cc0_dilated_attn_d4_eq_skeleton]; unfold cc0_dilated_attn_d4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro; exact loop_out c i arg3 harg3 arg4 harg4 arg5 harg5 arg6 harg6 arg7 harg7 arg8 harg8 arg9 harg9 arg10 harg10 x0 x1 x2 x3 x4 x5 _ _ _
  iexists _; isplitr
  swap; · iexact H7
  ipureintro; exact (congrArg _ (View.writes_append ..)).trans (loop_lse c i arg3 harg3 arg4 harg4 arg5 harg5 arg6 harg6 arg7 harg7 arg8 harg8 arg9 harg9 arg10 harg10 x0 x1 x2 x3 x4 x5 _ _ _)
end body

variable (m : (ℓ : Loc nD τ sig) → Buf (Elt F) ℓ) (ρ : Dev nD → PrngReg)

/-- The launch's proof data on core `c`: the arrays as found; after the body each input's buffer at its block and the
    outputs' at the attention's two values of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => OUT9 (grid0.coords t) (iblk m c 0 t) (iblk m c 1 t) (iblk m c 2 t) (iblk m c 3 t) (iblk m c 4 t) (iblk m c 5 t)
    | ⟨7, _⟩ => OUT10 (grid0.coords t) (iblk m c 0 t) (iblk m c 1 t) (iblk m c 2 t) (iblk m c 3 t) (iblk m c 4 t) (iblk m c 5 t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = OUT9 (grid0.coords t) (iblk m c 0 t) (iblk m c 1 t) (iblk m c 2 t) (iblk m c 3 t) (iblk m c 4 t) (iblk m c 5 t) := by dsimp only [dats]
theorem after0_7 (c : Dev nD) (t : Fin cfg0.N) : (dats m 0 c).after 7 t = OUT10 (grid0.coords t) (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_KernelIdeal`'s statement at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Attn

end
-- ==== Proof.Softmax.lean ====
/-
  The softmax of the reference and the one of the kernel, which works in base two: scores scaled by the logarithm of
  `e` to base two give the same weights, the same sums and the same logarithm.
-/
module

public import Idealize.ShloMosaic.PureOps.Ideal

@[expose] public section
noncomputable section
namespace Cert.Attn

open Idealize.ShloMosaic

/-- The logarithm of `e` to base two. -/
def l2e : ℝ := 1 / Real.log 2

theorem log_two_pos : 0 < Real.log 2 := Real.log_pos (by norm_num)
theorem l2e_pos : 0 < l2e := one_div_pos.mpr log_two_pos

variable {n : ℕ}

/-- The largest score. -/
def mx (s : Fin n → EReal) : EReal := Finset.fold max ⊥ s Finset.univ

/-- The attention's result with the weights `w`. -/
def avg (w v : Fin n → EReal) : EReal := Ideal.div (∑ k, w k * v k) (∑ k, w k)

/-- A positive real distributes over a difference. -/
theorem pos_mul_sub {c : ℝ} (hc : 0 ≤ c) (x y : EReal) : (c : EReal) * (x - y) = (c : EReal) * x - (c : EReal) * y := by
  rw [sub_eq_add_neg, sub_eq_add_neg, EReal.left_distrib_of_nonneg_of_ne_top (by exact_mod_cast hc) (EReal.coe_ne_top c), mul_neg]

/-- A nonnegative real distributes over a finite sum. -/
theorem pos_mul_sum {ι : Type} {c : ℝ} (hc : 0 ≤ c) (s : Finset ι) (f : ι → EReal) : (c : EReal) * ∑ k ∈ s, f k = ∑ k ∈ s, (c : EReal) * f k := by
  classical
  induction s using Finset.induction_on with
  | empty => simp
  | insert a s ha ih => rw [Finset.sum_insert ha, Finset.sum_insert ha, EReal.left_distrib_of_nonneg_of_ne_top (by exact_mod_cast hc) (EReal.coe_ne_top c), ih]

theorem pos_mul_max {c : ℝ} (hc : 0 ≤ c) (x y : EReal) : (c : EReal) * max x y = max ((c : EReal) * x) ((c : EReal) * y) :=
  Monotone.map_max (f := fun z : EReal => (c : EReal) * z) fun _ _ h => mul_le_mul_of_nonneg_left h (by exact_mod_cast hc)

/-- The largest of the scaled scores is the largest, scaled. -/
theorem mx_scale {c : ℝ} (hc : 0 < c) (s : Fin n → EReal) : mx (fun k => (c : EReal) * s k) = (c : EReal) * mx s := by
  unfold mx
  have hb : (⊥ : EReal) = (c : EReal) * ⊥ := (EReal.coe_mul_bot_of_pos hc).symm
  conv_lhs => rw [hb]
  exact Finset.fold_hom (m := fun x : EReal => (c : EReal) * x) (fun x y => pos_mul_max hc.le x y)

/-- Two to a scaled power is the exponential. -/
theorem exp2_scale (x : EReal) : Ideal.exp2 ((l2e : EReal) * x) = Ideal.exp x := by
  induction x with
  | bot => rw [EReal.coe_mul_bot_of_pos l2e_pos]; rfl
  | top => rw [EReal.coe_mul_top_of_pos l2e_pos]; rfl
  | coe r =>
    rw [← EReal.coe_mul, Ideal.exp2_coe, Ideal.exp_coe]
    congr 1
    show (2 : ℝ) ^ (l2e * r) = Real.exp r
    rw [Real.rpow_def_of_pos (by norm_num), l2e, ← mul_assoc, mul_one_div_cancel log_two_pos.ne', one_mul]

/-- The kernel's weights are the reference's. -/
theorem weight_scale (s : Fin n → EReal) (k : Fin n) :
    Ideal.exp2 ((l2e : EReal) * s k - mx (fun k => (l2e : EReal) * s k)) = Ideal.exp (s k - mx s) := by
  rw [mx_scale l2e_pos, ← pos_mul_sub l2e_pos.le, exp2_scale]

/-- The scaled maximum times the logarithm of two is the maximum. -/
theorem unscale (x : EReal) : (l2e : EReal) * x * ((Real.log 2 : ℝ) : EReal) = x := by
  rw [mul_comm, ← mul_assoc, ← EReal.coe_mul, l2e, mul_one_div_cancel log_two_pos.ne', EReal.coe_one, one_mul]

/-- A masked key has no weight. -/
theorem weight_masked (x : EReal) : Ideal.exp (⊥ - x) = 0 := by
  rw [sub_eq_add_neg, EReal.bot_add]; rfl

/-- Values at masked keys do not matter. -/
theorem avg_congr (w v v' : Fin n → EReal) (h : ∀ k, w k = 0 ∨ v k = v' k) : avg w v = avg w v' := by
  unfold avg
  congr 1
  refine Finset.sum_congr rfl fun k _ => ?_
  rcases h k with h | h
  · rw [h, zero_mul, zero_mul]
  · rw [h]

end Cert.Attn
end
-- ==== Proof.UnitIdeal.lean ====
/-
  One unit of the attention kernel over the extended reals: its score, its output tile and its log-sum-exp rows at an
  index.
-/
module

public import proofs.«01_k».proof.Proof.Unit
public import proofs.«01_k».proof.Proof.Softmax

@[expose] public section
set_option maxRecDepth 16384
noncomputable section
namespace Cert.KernelIdeal.Attn

open Idealize.ShloMosaic Idealize.ShloMosaic.TcCoe Idealize.ShloMosaic.Tactic
open Idealize.SL Idealize.SL.Sem
open Cert.KernelIdeal Cert.KernelIdeal.Gen
open Cert.Attn (mx avg)

/-- A comparison of small numbers selects as their order. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  have e : (BitVec.ofNat 32 a).slt (BitVec.ofNat 32 b) = decide (a < b) := by
    rw [BitVec.slt_eq_decide]
    congr 1
    rw [BitVec.toInt_ofNat', BitVec.toInt_ofNat']
    simp only [eq_iff_iff]
    have h1 : (a : ℤ).bmod (2 ^ 32) = a := Int.bmod_eq_of_le (by omega) (by omega)
    have h2 : (b : ℤ).bmod (2 ^ 32) = b := Int.bmod_eq_of_le (by omega) (by omega)
    rw [h1, h2]; omega
  unfold Scalar.select IntOp.cmpi
  by_cases h : a < b
  · simp [e, h]
  · simp [e, h]

theorem select_eq {α : Type} (a b : ℕ) (ha : a < 2 ^ 32) (hb : b < 2 ^ 32) (x y : α) :
    Scalar.select (Scalar.cmpi .eq (BitVec.ofNat 32 a) (BitVec.ofNat 32 b)) x y = if a = b then x else y := by
  unfold Scalar.select Scalar.cmpi IntOp.cmpi
  by_cases h : a = b
  · simp [h]
  · have hb' : (BitVec.ofNat 32 a == BitVec.ofNat 32 b) = false := beq_eq_false_iff_ne.mpr fun e => h (by
      have := congrArg BitVec.toNat e; simp only [BitVec.toNat_ofNat] at this; omega)
    rw [if_neg h]; simp only [hb']; rfl

theorem mask_eq : (Named.named κ "mask" 0xF149F2CA#32 : Ideal .f32) = (⊥ : EReal) := rfl
theorem ln2_eq : (Named.named κ "ln2" 0x3F317218#32 : Ideal .f32) = ((Real.log 2 : ℝ) : EReal) := rfl
theorem neg_inf_eq : (Ideal.ofBits .f32 0xFF800000#32 : EReal) = ⊥ := by simp [Ideal.ofBits, Ideal.ieee]

/-- The masked product of the queries and the keys, plus the bias. -/
theorem pay17_at (v29 : FVec Ideal S256x256 .f32) (v77 : FVec Ideal S128x128 .bf16) (v80 : FVec Ideal S256x128 .bf16) (R j : Fin 256) :
    (k0_pay17 k0_pay2 v29 v77 v80 k0_pay15 (k0_pay16 k0_pay2) : FVec Ideal S256x256 .f32) (ix2 R j)
      = (∑ x : Fin 128, (if x.val / 64 = R.val / 128 then v77 (ix2 (md 128 R.val) x) else 0) * v80 (ix2 j x)) + v29 (ix2 R j) := by
  pointwise [k0_pay17, k0_pay2, k0_pay15, k0_pay16]
  congr 1
  refine Finset.sum_congr rfl fun x _ => ?_
  congr 1
  have hx := x.isLt
  have hR := R.isLt
  rw [show (64#32 : BitVec 32) = BitVec.ofNat 32 64 from rfl]
  split
  · rw [select_slt _ _ (by omega) (by omega)]
    by_cases hc : x.val < 64
    · rw [if_pos hc, if_pos (by omega)]
      exact congrArg (fun q => v77 (ix2 q x)) (Fin.ext (by rw [md_val]; show R.val = _; omega))
    · rw [if_neg hc, if_neg (by omega)]
  · rw [select_slt _ _ (by omega) (by omega)]
    by_cases hc : x.val < 64
    · rw [if_pos hc, if_neg (by omega)]
    · refine (if_neg hc).trans (Eq.trans ?_ (if_pos (by omega)).symm)
      exact congrArg (fun q => v77 (ix2 q x)) (Fin.ext (by rw [md_val]; show R.val - 128 = _; omega))

/-- The penalty row: minus infinity at the first 128 columns of a first tile. -/
theorem pay1_at (i : grid0.Coords) (j : Fin 256) :
    (k0_pay1 i : FVec Ideal S1x256 .f32) (ix2 0 j) = if j.val < 128 ∧ (i 2).val = 0 then (⊥ : EReal) else 0 := by
  pointwise [k0_pay1]
  have hj := j.isLt
  have hi : (i 2).val < 2 := (i 2).isLt
  rw [show (128#32 : BitVec 32) = BitVec.ofNat 32 128 from rfl, show (0#32 : BitVec 32) = BitVec.ofNat 32 0 from rfl,
    select_slt _ _ (by omega) (by omega), select_eq _ _ (by omega) (by omega), mask_eq]
  by_cases h1 : j.val < 128 <;> by_cases h2 : (i 2).val = 0 <;> simp [h1, h2]

/-- The largest score of a row. -/
theorem pay34_at (s : FVec Ideal S256x256 .f32) (R : Fin 256) :
    (k0_pay34 s : FVec Ideal S256x1 .f32) (ix2 R 0) = mx (fun k : Fin 256 => s (ix2 R k)) := by
  pointwise [k0_pay34]
  rw [neg_inf_eq]; rfl

/-- The weights of a row. -/
theorem pay35_at (s : FVec Ideal S256x256 .f32) (R j : Fin 256) :
    (k0_pay35 s : FVec Ideal S256x256 .bf16) (ix2 R j) = Ideal.exp2 (s (ix2 R j) - mx (fun k : Fin 256 => s (ix2 R k))) := by
  pointwise [k0_pay35]
  rw [pay34_at]; rfl

/-- The weights times the values, and beside them the weights' sums. -/
theorem pay50_at (v : FVec Ideal S256x128 .bf16) (p : FVec Ideal S256x256 .bf16) (R j : Fin 256) :
    (k0_pay50 k0_pay6 v p : FVec Ideal S256x256 .f32) (ix2 R j) = if h : j.val < 128 then ∑ k : Fin 256, p (ix2 R k) * v (ix2 k ⟨j.val, h⟩) else ∑ k : Fin 256, p (ix2 R k) := by
  pointwise [k0_pay50, k0_pay6]
  by_cases h : j.val < 128
  · simp only [dif_pos h]
  · simp only [dif_neg h, mul_one]

/-- A sum over 128 lanes of which only one half is kept. -/
theorem half_sum (g : ℕ) (hg : g < 2) (f w : Fin 128 → EReal) :
    ∑ x : Fin 128, (if x.val / 64 = g then f x else 0) * w x = ∑ e : Fin 64, f (md 128 (64 * g + e.val)) * w (md 128 (64 * g + e.val)) := by
  rw [Fin.sum_univ_tiles 2 64 rfl, Finset.sum_eq_single (⟨g, hg⟩ : Fin 2)]
  · refine Finset.sum_congr rfl fun e _ => ?_
    have he := e.isLt
    rw [if_pos (by show (g * 64 + e.val) / 64 = g; omega),
      show md 128 (64 * g + e.val) = ⟨g * 64 + e.val, by omega⟩ from Fin.ext (by rw [md_val]; show _ = g * 64 + e.val; omega)]
  · intro j _ hj
    refine Finset.sum_eq_zero fun e _ => ?_
    have he := e.isLt
    rw [if_neg (by intro h; exact hj (Fin.ext (by show j.val = g; have : (j.val * 64 + e.val) / 64 = g := h; omega))), zero_mul]
  · intro h; exact absurd (Finset.mem_univ _) h

/-- A unit's score at a row and a key. -/
theorem score_at (i : grid0.Coords) (q k : Vec Ideal S1x1x512x1024 .bf16) (kp : Vec Ideal S1x1x128x1024 .bf16) (b : Vec Ideal S16x128x256 .f32)
    (rb hp : ℕ) (R j : Fin 256) :
    score i q k kp b rb hp (ix2 R j)
      = (∑ e : Fin 64, q (ix4 0 0 (md 512 (128 * rb + R.val % 128)) (md 1024 (128 * hp + 64 * (R.val / 128) + e.val)))
            * kcat kp k rb hp (ix2 j (md 128 (64 * (R.val / 128) + e.val))))
          + b (ix3 (md 16 (2 * hp + R.val / 128)) (md 128 R.val) j) + (if rb = 0 ∧ j.val < 128 ∧ (i 2).val = 0 then ⊥ else 0) := by
  have hR := R.isLt
  have e : (k0_pay17 k0_pay2 (bias2 b hp) (win 128 512 q (128 * rb) (128 * hp)) (kcat kp k rb hp) k0_pay15 (k0_pay16 k0_pay2) : FVec Ideal S256x256 .f32) (ix2 R j)
      = (∑ e : Fin 64, q (ix4 0 0 (md 512 (128 * rb + R.val % 128)) (md 1024 (128 * hp + 64 * (R.val / 128) + e.val)))
            * kcat kp k rb hp (ix2 j (md 128 (64 * (R.val / 128) + e.val))))
          + b (ix3 (md 16 (2 * hp + R.val / 128)) (md 128 R.val) j) := by
    rw [pay17_at, half_sum (R.val / 128) (by omega) (fun x => win 128 512 q (128 * rb) (128 * hp) (ix2 (md 128 R.val) x))]
    congr 1
    refine Finset.sum_congr rfl fun e _ => ?_
    congr 1
    have he := e.isLt
    exact congrArg (fun z => q (ix4 0 0 (md 512 (128 * rb + R.val % 128)) z)) (Fin.ext (by
      rw [md_val, md_val]; show (128 * hp + (64 * (R.val / 128) + e.val) % 128) % 1024 = _; omega))
  unfold score
  by_cases hrb : rb = 0
  · simp only [if_pos hrb]
    have hp1 : (addf (k0_pay17 k0_pay2 (bias2 b hp) (win 128 512 q (128 * rb) (128 * hp)) (kcat kp k rb hp) k0_pay15 (k0_pay16 k0_pay2))
        (broadcastTo S256x256 (k0_pay1 i) broadcasts_S1x256_S256x256) : FVec Ideal S256x256 .f32) (ix2 R j)
        = (k0_pay17 k0_pay2 (bias2 b hp) (win 128 512 q (128 * rb) (128 * hp)) (kcat kp k rb hp) k0_pay15 (k0_pay16 k0_pay2) : FVec Ideal S256x256 .f32) (ix2 R j)
          + (k0_pay1 i : FVec Ideal S1x256 .f32) (ix2 0 j) := by pointwise
    rw [hp1, e, pay1_at]
    simp only [hrb, true_and]
  · simp only [if_neg hrb, hrb, false_and, if_false, add_zero]
    exact e

/-- A row's weights. -/
def w2 (s : FVec Ideal S256x256 .f32) (R : Fin 256) : Fin 256 → EReal :=
  fun k => Ideal.exp2 (s (ix2 R k) - mx (fun k : Fin 256 => s (ix2 R k)))

/-- The output tile: the head of a column is its half's. -/
theorem outT_at (s : FVec Ideal S256x256 .f32) (v : FVec Ideal S256x128 .bf16) (a b : Fin 128) :
    outT s v (ix4 0 0 a b) = avg (w2 s (md 256 (128 * (b.val / 64) + a.val))) (fun k => v (ix2 k b)) := by
  have ha := a.isLt
  have hb := b.isLt
  have e : outT s v (ix4 0 0 a b) = if b.val < 64 then
        Ideal.div ((k0_pay50 k0_pay6 v (k0_pay35 s) : FVec Ideal S256x256 .f32) (ix2 (md 256 a.val) (md 256 b.val))) ((k0_pay50 k0_pay6 v (k0_pay35 s) : FVec Ideal S256x256 .f32) (ix2 (md 256 a.val) (md 256 (128 + b.val))))
      else Ideal.div ((k0_pay50 k0_pay6 v (k0_pay35 s) : FVec Ideal S256x256 .f32) (ix2 (md 256 (128 + a.val)) (md 256 b.val))) ((k0_pay50 k0_pay6 v (k0_pay35 s) : FVec Ideal S256x256 .f32) (ix2 (md 256 (128 + a.val)) (md 256 (128 + b.val)))) := by
    rw [← select_slt b.val 64 (by omega) (by omega)]
    rw [show md 256 a.val = ⟨a.val, by omega⟩ from Fin.ext (Nat.mod_eq_of_lt (by omega)), show md 256 b.val = ⟨b.val, by omega⟩ from Fin.ext (Nat.mod_eq_of_lt (by omega)),
      show md 256 (128 + a.val) = ⟨128 + a.val, by omega⟩ from Fin.ext (Nat.mod_eq_of_lt (by omega)), show md 256 (128 + b.val) = ⟨128 + b.val, by omega⟩ from Fin.ext (Nat.mod_eq_of_lt (by omega))]
    pointwise [outT, k0_pay53, k0_pay51, k0_pay2]
  have f : ∀ R : Fin 256, Ideal.div ((k0_pay50 k0_pay6 v (k0_pay35 s) : FVec Ideal S256x256 .f32) (ix2 R (md 256 b.val))) ((k0_pay50 k0_pay6 v (k0_pay35 s) : FVec Ideal S256x256 .f32) (ix2 R (md 256 (128 + b.val))))
      = avg (w2 s R) (fun k => v (ix2 k b)) := fun R => by
    rw [pay50_at, pay50_at, dif_pos (by rw [md_val]; omega), dif_neg (by rw [md_val]; omega)]
    simp only [pay35_at]
    have hc : (⟨(md 256 b.val).val, by rw [md_val]; omega⟩ : Fin 128) = b := Fin.ext (by show (md 256 b.val).val = _; rw [md_val]; omega)
    rw [hc]; rfl
  rw [e, f, f]
  split
  · exact congrArg (fun z => avg (w2 s (md 256 z)) _) (by omega)
  · exact congrArg (fun z => avg (w2 s (md 256 z)) _) (by omega)

/-- The log-sum-exp rows. -/
theorem lseT_at (s : FVec Ideal S256x256 .f32) (v : FVec Ideal S256x128 .bf16) (R : Fin 256) (b : Fin 128) :
    lseT s v (ix2 R b) = mx (fun k : Fin 256 => s (ix2 R k)) * ((Real.log 2 : ℝ) : EReal) + Ideal.log (∑ k, w2 s R k) := by
  have hb := b.isLt
  have e : lseT s v (ix2 R b) = (k0_pay34 s : FVec Ideal S256x1 .f32) (ix2 R 0) * ((Real.log 2 : ℝ) : EReal)
      + Ideal.log ((k0_pay50 k0_pay6 v (k0_pay35 s) : FVec Ideal S256x256 .f32) (ix2 R (md 256 (128 + b.val)))) := by
    rw [show md 256 (128 + b.val) = ⟨128 + b.val, by omega⟩ from Fin.ext (Nat.mod_eq_of_lt (by omega)), ← ln2_eq]
    pointwise [lseT, k0_pay52, k0_pay51]
  rw [e, pay34_at, pay50_at, dif_neg (by rw [md_val]; omega)]
  simp only [pay35_at]
  rfl

end Cert.KernelIdeal.Attn
end
-- ==== Proof.Whole.lean ====
/-
  The attention kernel's two result arrays, whole, over the extended reals, as functions of the scaled input and the
  bias array the region is entered with.
-/
module

public import proofs.«01_k».proof.Proof.Body
public import proofs.«01_k».proof.Proof.UnitIdeal
public import Idealize.ShloMosaic.Lib.Pipeline.ValueKit

@[expose] public section
set_option maxRecDepth 16384
noncomputable section
namespace Cert.KernelIdeal.Attn

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open Cert.Attn (mx avg)

variable {F : FTy → Type} [FloatOps F] [Named F]

/-- Which block each window stages at a point. -/
theorem idx : ∀ t : Fin grid0.N,
    (win0_0.index t 0 = ((grid0.coords t) 0).val ∧ win0_0.index t 1 = ((grid0.coords t) 1).val ∧ win0_0.index t 2 = ((grid0.coords t) 2).val ∧ win0_0.index t 3 = 0)
    ∧ (win0_1.index t 0 = ((grid0.coords t) 0).val ∧ win0_1.index t 1 = ((grid0.coords t) 1).val ∧ win0_1.index t 2 = ((grid0.coords t) 2).val ∧ win0_1.index t 3 = 1)
    ∧ (win0_2.index t 0 = ((grid0.coords t) 0).val ∧ win0_2.index t 1 = ((grid0.coords t) 1).val ∧ win0_2.index t 2 = ((grid0.coords t) 2).val ∧ win0_2.index t 3 = 2)
    ∧ (win0_3.index t 0 = ((grid0.coords t) 0).val ∧ win0_3.index t 1 = ((grid0.coords t) 1).val ∧ win0_3.index t 2 = 3 * ((grid0.coords t) 2).val ∧ win0_3.index t 3 = 1)
    ∧ (win0_4.index t 0 = ((grid0.coords t) 0).val ∧ win0_4.index t 1 = ((grid0.coords t) 1).val ∧ win0_4.index t 2 = 3 * ((grid0.coords t) 2).val ∧ win0_4.index t 3 = 2)
    ∧ (win0_5.index t 0 = 0 ∧ win0_5.index t 1 = 0 ∧ win0_5.index t 2 = 0)
    ∧ (win0_6.index t 0 = ((grid0.coords t) 0).val ∧ win0_6.index t 1 = ((grid0.coords t) 1).val ∧ win0_6.index t 2 = ((grid0.coords t) 2).val ∧ win0_6.index t 3 = 0)
    ∧ (win0_7.index t 0 = ((grid0.coords t) 0).val ∧ win0_7.index t 1 = ((grid0.coords t) 1).val ∧ win0_7.index t 2 = ((grid0.coords t) 2).val ∧ win0_7.index t 3 = 0) := by
  decide +kernel

/-- The blocks written back cover the output. -/
theorem covers6 : (cfg0.win 6).Covers := by decide +kernel
/-- The blocks written back cover the log-sum-exp. -/
theorem covers7 : (cfg0.win 7).Covers := by decide +kernel

variable (m : (ℓ : Loc nD τ sig) → Buf (Elt F) ℓ)

/-- The grid's batch, residue and row tile at a point. -/
def tb (t : Fin grid0.N) : Fin 4 := ⟨((grid0.coords t) 0).val, ((grid0.coords t) 0).isLt⟩
def tr (t : Fin grid0.N) : Fin 4 := ⟨((grid0.coords t) 1).val, ((grid0.coords t) 1).isLt⟩
def tl (t : Fin grid0.N) : Fin 2 := ⟨((grid0.coords t) 2).val, ((grid0.coords t) 2).isLt⟩

/-- Window 0's block. -/
theorem iblk0 (c : Dev nD) (t : Fin cfg0.N) (Q : Vec F S4x4x1024x3072 .bf16) (hQ : V m c main_v9 = Q) (a : Fin 512) (e : Fin 1024) :
    (iblk m c 0 t : Vec F S1x1x512x1024 .bf16) (ix4 0 0 a e) = Q (ix4 (tb t) (tr t) (md 1024 (512 * (tl t).val + a.val)) (md 3072 (0 + e.val))) := by
  subst hQ
  have hi := (idx t).1
  have h2 : ((grid0.coords t) 2).val < 2 := ((grid0.coords t) 2).isLt
  blk_ext [iblk, md_val, tb, tr, tl, hi]

/-- Window 1's block. -/
theorem iblk1 (c : Dev nD) (t : Fin cfg0.N) (Q : Vec F S4x4x1024x3072 .bf16) (hQ : V m c main_v9 = Q) (a : Fin 512) (e : Fin 1024) :
    (iblk m c 1 t : Vec F S1x1x512x1024 .bf16) (ix4 0 0 a e) = Q (ix4 (tb t) (tr t) (md 1024 (512 * (tl t).val + a.val)) (md 3072 (1024 + e.val))) := by
  subst hQ
  have hi := (idx t).2.1
  have h2 : ((grid0.coords t) 2).val < 2 := ((grid0.coords t) 2).isLt
  blk_ext [iblk, md_val, tb, tr, tl, hi]

/-- Window 2's block. -/
theorem iblk2 (c : Dev nD) (t : Fin cfg0.N) (Q : Vec F S4x4x1024x3072 .bf16) (hQ : V m c main_v9 = Q) (a : Fin 512) (e : Fin 1024) :
    (iblk m c 2 t : Vec F S1x1x512x1024 .bf16) (ix4 0 0 a e) = Q (ix4 (tb t) (tr t) (md 1024 (512 * (tl t).val + a.val)) (md 3072 (2048 + e.val))) := by
  subst hQ
  have hi := (idx t).2.2.1
  have h2 : ((grid0.coords t) 2).val < 2 := ((grid0.coords t) 2).isLt
  blk_ext [iblk, md_val, tb, tr, tl, hi]

/-- Window 3's block: the 128 rows before the tile, or the first 128 rows before a first tile. -/
theorem iblk3 (c : Dev nD) (t : Fin cfg0.N) (Q : Vec F S4x4x1024x3072 .bf16) (hQ : V m c main_v9 = Q) (a : Fin 128) (e : Fin 1024) :
    (iblk m c 3 t : Vec F S1x1x128x1024 .bf16) (ix4 0 0 a e) = Q (ix4 (tb t) (tr t) (md 1024 (384 * (tl t).val + a.val)) (md 3072 (1024 + e.val))) := by
  subst hQ
  have hi := (idx t).2.2.2.1
  have h2 : ((grid0.coords t) 2).val < 2 := ((grid0.coords t) 2).isLt
  blk_ext [iblk, md_val, tb, tr, tl, hi]

/-- Window 4's block: the 128 rows before the tile, or the first 128 rows before a first tile. -/
theorem iblk4 (c : Dev nD) (t : Fin cfg0.N) (Q : Vec F S4x4x1024x3072 .bf16) (hQ : V m c main_v9 = Q) (a : Fin 128) (e : Fin 1024) :
    (iblk m c 4 t : Vec F S1x1x128x1024 .bf16) (ix4 0 0 a e) = Q (ix4 (tb t) (tr t) (md 1024 (384 * (tl t).val + a.val)) (md 3072 (2048 + e.val))) := by
  subst hQ
  have hi := (idx t).2.2.2.2.1
  have h2 : ((grid0.coords t) 2).val < 2 := ((grid0.coords t) 2).isLt
  blk_ext [iblk, md_val, tb, tr, tl, hi]

/-- Window 5 is the whole bias array. -/
theorem iblk5 (c : Dev nD) (t : Fin cfg0.N) (Bi : Vec F S16x128x256 .f32) (hB : V m c main_v276 = Bi) (h : Fin 16) (a : Fin 128) (k : Fin 256) :
    (iblk m c 5 t : Vec F S16x128x256 .f32) (ix3 h a k) = Bi (ix3 h a k) := by
  subst hB
  have hi := (idx t).2.2.2.2.2.1
  blk_ext [iblk, hi]

/-- The row of key `k` of row block `n`: 128 rows back; before the sequence, the first rows stand in. -/
def krow (n : ℕ) (k : Fin 256) : Fin 1024 := if 128 * n + k.val < 128 then md 1024 k.val else md 1024 (128 * n + k.val - 128)

/-- A unit's key (or value) rows are rows of the whole array. -/
theorem kcat_whole (Q : Vec F S4x4x1024x3072 .bf16) (t : Fin cfg0.N) (co : ℕ) (hco : co + 1024 ≤ 3072) (xp : Vec F S1x1x128x1024 .bf16) (x : Vec F S1x1x512x1024 .bf16)
    (hxp : ∀ a e, xp (ix4 0 0 a e) = Q (ix4 (tb t) (tr t) (md 1024 (384 * (tl t).val + a.val)) (md 3072 (co + e.val))))
    (hx : ∀ a e, x (ix4 0 0 a e) = Q (ix4 (tb t) (tr t) (md 1024 (512 * (tl t).val + a.val)) (md 3072 (co + e.val))))
    (rb hp : ℕ) (hrb : rb < 4) (hhp : hp < 8) (j : Fin 256) (d : Fin 128) :
    kcat xp x rb hp (ix2 j d) = Q (ix4 (tb t) (tr t) (krow (4 * (tl t).val + rb) j) (md 3072 (co + 128 * hp + d.val))) := by
  have hj := j.isLt
  have hd := d.isLt
  have ht := (tl t).isLt
  have hcol : (md 1024 (128 * hp + d.val)).val = 128 * hp + d.val := by rw [md_val]; omega
  show (if 128 * rb + j.val < 128 then xp (ix4 0 0 (md 128 j.val) (md 1024 (128 * hp + d.val))) else x (ix4 0 0 (md 512 (128 * rb + j.val - 128)) (md 1024 (128 * hp + d.val)))) = _
  by_cases h : 128 * rb + j.val < 128
  · rw [if_pos h, hxp, hcol, ← Nat.add_assoc]
    refine congrArg (fun z => Q (ix4 (tb t) (tr t) z (md 3072 (co + 128 * hp + d.val)))) (Fin.ext ?_)
    rcases (by omega : (tl t).val = 0 ∨ (tl t).val = 1) with h0 | h0 <;> rw [h0] <;> unfold krow <;> split <;> simp only [md_val] <;> omega
  · rw [if_neg h, hx, hcol, ← Nat.add_assoc]
    refine congrArg (fun z => Q (ix4 (tb t) (tr t) z (md 3072 (co + 128 * hp + d.val)))) (Fin.ext ?_)
    rcases (by omega : (tl t).val = 0 ∨ (tl t).val = 1) with h0 | h0 <;> rw [h0] <;> unfold krow <;> split <;> simp only [md_val] <;> omega

/-! ## The whole arrays -/

/-- The base-two score of a query row `l` and a key `k`. -/
def S2 (Q : Vec Ideal S4x4x1024x3072 .bf16) (Bi : Vec Ideal S16x128x256 .f32) (b r : Fin 4) (h : Fin 16) (l : Fin 1024) : Fin 256 → EReal := fun k =>
  (∑ e : Fin 64, Q (ix4 b r l (md 3072 (64 * h.val + e.val))) * Q (ix4 b r (krow (l.val / 128) k) (md 3072 (1024 + 64 * h.val + e.val))))
    + Bi (ix3 h (md 128 l.val) k) + (if l.val / 128 = 0 ∧ k.val < 128 then ⊥ else 0)

/-- The base-two weights of a query row. -/
def W2 (Q : Vec Ideal S4x4x1024x3072 .bf16) (Bi : Vec Ideal S16x128x256 .f32) (b r : Fin 4) (h : Fin 16) (l : Fin 1024) : Fin 256 → EReal := fun k =>
  Ideal.exp2 (S2 Q Bi b r h l k - mx (S2 Q Bi b r h l))

/-- The output array. -/
def G6 (Q : Vec Ideal S4x4x1024x3072 .bf16) (Bi : Vec Ideal S16x128x256 .f32) : Vec Ideal S4x4x1024x1024 .bf16 := fun y =>
  avg (W2 Q Bi (y 0) (y 1) (md 16 ((y 3).val / 64)) (y 2)) fun k => Q (ix4 (y 0) (y 1) (krow ((y 2).val / 128) k) (md 3072 (2048 + (y 3).val)))

/-- The log-sum-exp array: a head a lane, zeros beyond. -/
def G7 (Q : Vec Ideal S4x4x1024x3072 .bf16) (Bi : Vec Ideal S16x128x256 .f32) : Vec Ideal S4x4x1024x128 .f32 := fun y =>
  if (y 3).val < 16 then mx (S2 Q Bi (y 0) (y 1) (md 16 (y 3).val) (y 2)) * ((Real.log 2 : ℝ) : EReal) + Ideal.log (∑ k, W2 Q Bi (y 0) (y 1) (md 16 (y 3).val) (y 2) k)
    else 0

/-- A unit's scores, from blocks that are the whole array's. -/
theorem score_blocks (t : Fin cfg0.N) (Q : Vec Ideal S4x4x1024x3072 .bf16) (Bi : Vec Ideal S16x128x256 .f32)
    (x0 x1 : Vec Ideal S1x1x512x1024 .bf16) (x3 : Vec Ideal S1x1x128x1024 .bf16) (x5 : Vec Ideal S16x128x256 .f32)
    (h0 : ∀ a e, x0 (ix4 0 0 a e) = Q (ix4 (tb t) (tr t) (md 1024 (512 * (tl t).val + a.val)) (md 3072 (0 + e.val))))
    (h1 : ∀ a e, x1 (ix4 0 0 a e) = Q (ix4 (tb t) (tr t) (md 1024 (512 * (tl t).val + a.val)) (md 3072 (1024 + e.val))))
    (h3 : ∀ a e, x3 (ix4 0 0 a e) = Q (ix4 (tb t) (tr t) (md 1024 (384 * (tl t).val + a.val)) (md 3072 (1024 + e.val))))
    (h5 : ∀ h a k, x5 (ix3 h a k) = Bi (ix3 h a k))
    (rb hp : ℕ) (hrb : rb < 4) (hhp : hp < 8) (R j : Fin 256) :
    score (grid0.coords t) x0 x1 x3 x5 rb hp (ix2 R j)
      = S2 Q Bi (tb t) (tr t) (md 16 (2 * hp + R.val / 128)) (md 1024 (512 * (tl t).val + 128 * rb + R.val % 128)) j := by
  have hR := R.isLt
  have ht := (tl t).isLt
  have hl : (md 1024 (512 * (tl t).val + 128 * rb + R.val % 128)).val = 512 * (tl t).val + 128 * rb + R.val % 128 := by rw [md_val]; omega
  have hh : (md 16 (2 * hp + R.val / 128)).val = 2 * hp + R.val / 128 := by rw [md_val]; omega
  have hn : (512 * (tl t).val + 128 * rb + R.val % 128) / 128 = 4 * (tl t).val + rb := by omega
  have hm : md 128 (512 * (tl t).val + 128 * rb + R.val % 128) = md 128 R.val := Fin.ext (by simp only [md_val]; omega)
  rw [score_at]
  unfold S2
  rw [hl, hh, hn, hm, h5]
  refine congr (congrArg _ (congrArg (· + _) (Finset.sum_congr rfl fun e _ => ?_))) (if_congr ?_ rfl rfl)
  · have he := e.isLt
    have c0 : md 1024 (512 * (tl t).val + (md 512 (128 * rb + R.val % 128)).val) = md 1024 (512 * (tl t).val + 128 * rb + R.val % 128) := Fin.ext (by simp only [md_val]; omega)
    have c1 : md 3072 (0 + (md 1024 (128 * hp + 64 * (R.val / 128) + e.val)).val) = md 3072 (64 * (2 * hp + R.val / 128) + e.val) := Fin.ext (by simp only [md_val]; omega)
    have c2 : md 3072 (1024 + 128 * hp + (md 128 (64 * (R.val / 128) + e.val)).val) = md 3072 (1024 + 64 * (2 * hp + R.val / 128) + e.val) := Fin.ext (by simp only [md_val]; omega)
    rw [kcat_whole Q t 1024 (by omega) _ _ h3 h1 rb hp hrb hhp, h0, c0, c1, c2]
  · show rb = 0 ∧ j.val < 128 ∧ (tl t).val = 0 ↔ _
    omega

section ideal
variable (M : (ℓ : Loc nD τ sig) → Buf (Elt Ideal) ℓ) (c : Dev nD) (t : Fin cfg0.N) (Q : Vec Ideal S4x4x1024x3072 .bf16) (Bi : Vec Ideal S16x128x256 .f32)
  (hQ : V M c main_v9 = Q) (hB : V M c main_v276 = Bi)
include hQ hB

/-- A unit's scores are the whole array's. -/
theorem score_whole (rb hp : ℕ) (hrb : rb < 4) (hhp : hp < 8) (R j : Fin 256) :
    score (grid0.coords t) (iblk M c 0 t) (iblk M c 1 t) (iblk M c 3 t) (iblk M c 5 t) rb hp (ix2 R j)
      = S2 Q Bi (tb t) (tr t) (md 16 (2 * hp + R.val / 128)) (md 1024 (512 * (tl t).val + 128 * rb + R.val % 128)) j :=
  score_blocks t Q Bi _ _ _ _ (iblk0 M c t Q hQ) (iblk1 M c t Q hQ) (iblk3 M c t Q hQ) (iblk5 M c t Bi hB) rb hp hrb hhp R j

/-- The output's block at a point. -/
theorem out_whole (y : S1x1x512x1024.Idx) :
    OUT9 (grid0.coords t) (iblk M c 0 t) (iblk M c 1 t) (iblk M c 2 t) (iblk M c 3 t) (iblk M c 4 t) (iblk M c 5 t) y
      = G6 Q Bi (ix4 (tb t) (tr t) (md 1024 (512 * (tl t).val + (y 2).val)) (y 3)) := by
  have h2 : (y 2).val < 512 := (y 2).isLt
  have h3 : (y 3).val < 1024 := (y 3).isLt
  have ht := (tl t).isLt
  unfold OUT9
  rw [outT_at]
  have hl : md 1024 (512 * (tl t).val + 128 * ((y 2).val / 128) + (md 256 (128 * ((md 128 (y 3).val).val / 64) + (md 128 (y 2).val).val)).val % 128) = md 1024 (512 * (tl t).val + (y 2).val) :=
    Fin.ext (by simp only [md_val]; omega)
  have hh : md 16 (2 * ((y 3).val / 128) + (md 256 (128 * ((md 128 (y 3).val).val / 64) + (md 128 (y 2).val).val)).val / 128) = md 16 ((y 3).val / 64) :=
    Fin.ext (by simp only [md_val]; omega)
  have hw : w2 (score (grid0.coords t) (iblk M c 0 t) (iblk M c 1 t) (iblk M c 3 t) (iblk M c 5 t) ((y 2).val / 128) ((y 3).val / 128)) (md 256 (128 * ((md 128 (y 3).val).val / 64) + (md 128 (y 2).val).val))
      = W2 Q Bi (tb t) (tr t) (md 16 ((y 3).val / 64)) (md 1024 (512 * (tl t).val + (y 2).val)) := by
    funext k
    unfold w2 W2
    simp only [score_whole M c t Q Bi hQ hB _ _ (show (y 2).val / 128 < 4 by omega) (show (y 3).val / 128 < 8 by omega), hl, hh]
  rw [hw]
  show _ = avg (W2 Q Bi (tb t) (tr t) (md 16 ((y 3).val / 64)) (md 1024 (512 * (tl t).val + (y 2).val))) _
  congr 1
  funext k
  rw [kcat_whole Q t 2048 (by omega) _ _ (iblk4 M c t Q hQ) (iblk2 M c t Q hQ) _ _ (by omega) (by omega)]
  have e1 : 4 * (tl t).val + (y 2).val / 128 = (md 1024 (512 * (tl t).val + (y 2).val)).val / 128 := by rw [md_val]; omega
  have e2 : md 3072 (2048 + 128 * ((y 3).val / 128) + (md 128 (y 3).val).val) = md 3072 (2048 + (y 3).val) := Fin.ext (by simp only [md_val]; omega)
  rw [e1, e2]
  rfl

/-- The log-sum-exp's block at a point. -/
theorem lse_whole (y : S1x1x512x128.Idx) :
    OUT10 (grid0.coords t) (iblk M c 0 t) (iblk M c 1 t) (iblk M c 2 t) (iblk M c 3 t) (iblk M c 4 t) (iblk M c 5 t) y
      = G7 Q Bi (ix4 (tb t) (tr t) (md 1024 (512 * (tl t).val + (y 2).val)) (y 3)) := by
  have h2 : (y 2).val < 512 := (y 2).isLt
  have h3 : (y 3).val < 128 := (y 3).isLt
  have ht := (tl t).isLt
  unfold OUT10 G7
  show _ = if (y 3).val < 16 then _ else _
  by_cases h : (y 3).val < 16
  · rw [if_pos h, if_pos h]
    refine (lseT_at _ _ _ (⟨(y 3).val, h3⟩ : Fin 128)).trans ?_
    have hl : md 1024 (512 * (tl t).val + 128 * ((y 2).val / 128) + (md 256 (128 * ((y 3).val % 2) + (y 2).val % 128)).val % 128) = md 1024 (512 * (tl t).val + (y 2).val) :=
      Fin.ext (by simp only [md_val]; omega)
    have hh : md 16 (2 * ((y 3).val / 2) + (md 256 (128 * ((y 3).val % 2) + (y 2).val % 128)).val / 128) = md 16 (y 3).val :=
      Fin.ext (by simp only [md_val]; omega)
    have hs : (fun k : Fin 256 => score (grid0.coords t) (iblk M c 0 t) (iblk M c 1 t) (iblk M c 3 t) (iblk M c 5 t) ((y 2).val / 128) ((y 3).val / 2) (ix2 (md 256 (128 * ((y 3).val % 2) + (y 2).val % 128)) k))
        = S2 Q Bi (tb t) (tr t) (md 16 (y 3).val) (md 1024 (512 * (tl t).val + (y 2).val)) := by
      funext k
      rw [score_whole M c t Q Bi hQ hB _ _ (by omega) (by omega), hl, hh]
    have hw : w2 (score (grid0.coords t) (iblk M c 0 t) (iblk M c 1 t) (iblk M c 3 t) (iblk M c 5 t) ((y 2).val / 128) ((y 3).val / 2)) (md 256 (128 * ((y 3).val % 2) + (y 2).val % 128))
        = W2 Q Bi (tb t) (tr t) (md 16 (y 3).val) (md 1024 (512 * (tl t).val + (y 2).val)) := by
      unfold w2; rw [hs]; funext k
      show Ideal.exp2 ((fun k : Fin 256 => score (grid0.coords t) (iblk M c 0 t) (iblk M c 1 t) (iblk M c 3 t) (iblk M c 5 t) ((y 2).val / 128) ((y 3).val / 2) (ix2 (md 256 (128 * ((y 3).val % 2) + (y 2).val % 128)) k)) k - _) = _
      rw [hs]; rfl
    rw [hs, hw]
    rfl
  · rw [if_neg h, if_neg h]
    idx_vars y
    pointwise [k0_pay3]

/-- The output array after the region. -/
theorem arr6 : (dats M 0 c).arrAt 6 cfg0.N = G6 Q Bi := by
  refine Dat.arrAt_eq_of_covers (dats M 0 c) 6 (G6 Q Bi) covers6 fun t _ y => ?_
  refine (out_whole M c t Q Bi hQ hB y).trans ?_
  have hi := (idx t).2.2.2.2.2.2.1
  have h2 : ((grid0.coords t) 2).val < 2 := ((grid0.coords t) 2).isLt
  blk_ext [md_val, tb, tr, tl, hi]

/-- The log-sum-exp array after the region. -/
theorem arr7 : (dats M 0 c).arrAt 7 cfg0.N = G7 Q Bi := by
  refine Dat.arrAt_eq_of_covers (dats M 0 c) 7 (G7 Q Bi) covers7 fun t _ y => ?_
  refine (lse_whole M c t Q Bi hQ hB y).trans ?_
  have hi := (idx t).2.2.2.2.2.2.2
  have h2 : ((grid0.coords t) 2).val < 2 := ((grid0.coords t) 2).isLt
  blk_ext [md_val, tb, tr, tl, hi]
end ideal

end Cert.KernelIdeal.Attn
end
-- ==== Proof.Host.lean ====
/-
  What the host operations before the attention kernel leave: the scaled input, and the bias array, whose buckets'
  rows are selected one bucket after another.
-/
module

public import proofs.«01_k».proof.Proof.Gen.KernelIdeal.Frame.Runs
public import proofs.«01_k».proof.Proof.Unit
public import Idealize.ShloMosaic.Lib.StableHlo.RunRead

@[expose] public section
set_option maxRecDepth 16384
noncomputable section
namespace Cert.KernelIdeal.Attn

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- One bucket's selection: where the bucket array holds the word `w`, the bucket's row; elsewhere what was there. -/
def whereB (w : BitVec 32) (r : Vec F S1x16 .f32) (B : IVec S128x256 32) (acc : Vec F S16x128x256 .f32) : Vec F S16x128x256 .f32 :=
  select (broadcastInDim S16x128x256 ![0, 1, 2] bcast_S1x128x256_S16x128x256_0_1_2
      (broadcastInDim S1x128x256 ![1, 2] bcast_S128x256_S1x128x256_1_2 (cmpi .eq B (broadcastInDim S128x256 ![] bcast_S_S128x256 (constantI S_ 32 w)))))
    (broadcastInDim S16x128x256 ![0, 1, 2] bcast_S16x1x1_S16x128x256_0_1_2 (broadcastInDim S16x1x1 ![0] bcast_S16_S16x1x1_0 (shapeCast S16 r shapeCasts_S1x16_S16))) acc

theorem whereB_apply (w : BitVec 32) (r : Vec F S1x16 .f32) (B : IVec S128x256 32) (acc : Vec F S16x128x256 .f32) (h : Fin 16) (a : Fin 128) (b : Fin 256) :
    whereB w r B acc (ix3 h a b) = if B (ix2 a b) = w then r (ix2 0 h) else acc (ix3 h a b) := by
  pointwise [whereB]
  unfold Scalar.select IntOp.cmpi
  by_cases hc : B (ix2 a b) = w
  · simp [hc]
  · have hb : (B (ix2 a b) == w) = false := beq_eq_false_iff_ne.mpr hc
    rw [if_neg hc]; simp only [hb]; rfl

/-- The first `n` buckets' selections, in order. -/
def chain (A : Vec F S32x16 .f32) (B : IVec S128x256 32) : ℕ → Vec F S16x128x256 .f32
  | 0 => constant S16x128x256 .f32 0x00000000#32
  | n + 1 => fun y => if B (ix2 (y 1) (y 2)) = BitVec.ofNat 32 n then A (ix2 (md 32 n) (y 0)) else chain A B n y

/-- A bucket array holding the word of `j`, of the first `n`, selects row `j`. -/
theorem chain_of_eq (A : Vec F S32x16 .f32) (B : IVec S128x256 32) (j : Fin 32) (h : Fin 16) (a : Fin 128) (b : Fin 256)
    (hB : B (ix2 a b) = BitVec.ofNat 32 j.val) (n : ℕ) (hn : j.val < n) (hn' : n ≤ 32) :
    chain A B n (ix3 h a b) = A (ix2 j h) := by
  induction n with
  | zero => omega
  | succ n ih =>
    have hj := j.isLt
    show (if B (ix2 a b) = BitVec.ofNat 32 n then A (ix2 (md 32 n) h) else chain A B n (ix3 h a b)) = _
    rw [hB]
    by_cases hc : j.val = n
    · rw [if_pos (by rw [hc])]
      exact congrArg (fun q => A (ix2 q h)) (Fin.ext (by rw [md_val]; omega))
    · rw [if_neg (fun he => hc (by have := congrArg BitVec.toNat he; simp only [BitVec.toNat_ofNat] at this; omega)), ih (by omega) (by omega)]

/-- The buffers that the buckets' selections read and keep. -/
def Keeps (W : Valuation τ sig (Elt F)) (B : IVec S128x256 32) (Vd : IVec S128x256 1) (Q : Vec F S4x4x1024x3072 .bf16) (A : Vec F S32x16 .f32) : Prop :=
  W (Proc.devRef .tc main_v45) = B ∧ W (Proc.devRef .tc main_v23) = Vd ∧ W (Proc.devRef .tc main_v9) = Q ∧ W (Proc.devRef .tc main_arg1) = A

variable {W : Valuation τ sig (Elt F)} {B : IVec S128x256 32} {Vd : IVec S128x256 1} {Q : Vec F S4x4x1024x3072 .bf16} {A : Vec F S32x16 .f32}

/-- Bucket 0. -/
theorem bucket0 (hk : Keeps W B Vd Q A) :
    Keeps (StableHlo.after (hostOps0_4 ++ hostOps0_5) W) B Vd Q A ∧ StableHlo.after (hostOps0_4 ++ hostOps0_5) W (Proc.devRef .tc main_v53) = chain A B 1 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_4 ++ hostOps0_5) W (Proc.devRef .tc main_v53)
        = whereB 0#32 (extractStridedSlice S1x16 ![0, 0] A slices_S32x16_S1x16_0_0) B (broadcastInDim S16x128x256 ![] bcast_S_S16x128x256 (constant S_ .f32 0x00000000#32)) := by
      after_reads_simp
      rw [← hk.1, ← hk.2.2.2]; rfl
    rw [e]; funext y; idx_vars y; rw [whereB_apply]
    exact if_congr Iff.rfl (by pointwise; rfl) (by pointwise [chain])

/-- Bucket 1. -/
theorem bucket1 (hk : Keeps W B Vd Q A) (ha : W (Proc.devRef .tc main_v53) = chain A B 1) :
    Keeps (StableHlo.after (hostOps0_6 ++ hostOps0_7) W) B Vd Q A ∧ StableHlo.after (hostOps0_6 ++ hostOps0_7) W (Proc.devRef .tc main_v60) = chain A B 2 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_6 ++ hostOps0_7) W (Proc.devRef .tc main_v60)
        = whereB 1#32 (extractStridedSlice S1x16 ![1, 0] A slices_S32x16_S1x16_1_0) B (chain A B 1) := by
      after_reads_simp
      rw [← ha, ← hk.1, ← hk.2.2.2]; rfl
    rw [e]; funext y; idx_vars y; rw [whereB_apply]
    exact if_congr Iff.rfl (by pointwise; rfl) rfl

/-- Bucket 2. -/
theorem bucket2 (hk : Keeps W B Vd Q A) (ha : W (Proc.devRef .tc main_v60) = chain A B 2) :
    Keeps (StableHlo.after (hostOps0_8 ++ hostOps0_9) W) B Vd Q A ∧ StableHlo.after (hostOps0_8 ++ hostOps0_9) W (Proc.devRef .tc main_v67) = chain A B 3 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_8 ++ hostOps0_9) W (Proc.devRef .tc main_v67)
        = whereB 2#32 (extractStridedSlice S1x16 ![2, 0] A slices_S32x16_S1x16_2_0) B (chain A B 2) := by
      after_reads_simp
      rw [← ha, ← hk.1, ← hk.2.2.2]; rfl
    rw [e]; funext y; idx_vars y; rw [whereB_apply]
    exact if_congr Iff.rfl (by pointwise; rfl) rfl

/-- Bucket 3. -/
theorem bucket3 (hk : Keeps W B Vd Q A) (ha : W (Proc.devRef .tc main_v67) = chain A B 3) :
    Keeps (StableHlo.after (hostOps0_10 ++ hostOps0_11) W) B Vd Q A ∧ StableHlo.after (hostOps0_10 ++ hostOps0_11) W (Proc.devRef .tc main_v74) = chain A B 4 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_10 ++ hostOps0_11) W (Proc.devRef .tc main_v74)
        = whereB 3#32 (extractStridedSlice S1x16 ![3, 0] A slices_S32x16_S1x16_3_0) B (chain A B 3) := by
      after_reads_simp
      rw [← ha, ← hk.1, ← hk.2.2.2]; rfl
    rw [e]; funext y; idx_vars y; rw [whereB_apply]
    exact if_congr Iff.rfl (by pointwise; rfl) rfl

/-- Bucket 4. -/
theorem bucket4 (hk : Keeps W B Vd Q A) (ha : W (Proc.devRef .tc main_v74) = chain A B 4) :
    Keeps (StableHlo.after (hostOps0_12 ++ hostOps0_13) W) B Vd Q A ∧ StableHlo.after (hostOps0_12 ++ hostOps0_13) W (Proc.devRef .tc main_v81) = chain A B 5 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_12 ++ hostOps0_13) W (Proc.devRef .tc main_v81)
        = whereB 4#32 (extractStridedSlice S1x16 ![4, 0] A slices_S32x16_S1x16_4_0) B (chain A B 4) := by
      after_reads_simp
      rw [← ha, ← hk.1, ← hk.2.2.2]; rfl
    rw [e]; funext y; idx_vars y; rw [whereB_apply]
    exact if_congr Iff.rfl (by pointwise; rfl) rfl

/-- Bucket 5. -/
theorem bucket5 (hk : Keeps W B Vd Q A) (ha : W (Proc.devRef .tc main_v81) = chain A B 5) :
    Keeps (StableHlo.after (hostOps0_14 ++ hostOps0_15) W) B Vd Q A ∧ StableHlo.after (hostOps0_14 ++ hostOps0_15) W (Proc.devRef .tc main_v88) = chain A B 6 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_14 ++ hostOps0_15) W (Proc.devRef .tc main_v88)
        = whereB 5#32 (extractStridedSlice S1x16 ![5, 0] A slices_S32x16_S1x16_5_0) B (chain A B 5) := by
      after_reads_simp
      rw [← ha, ← hk.1, ← hk.2.2.2]; rfl
    rw [e]; funext y; idx_vars y; rw [whereB_apply]
    exact if_congr Iff.rfl (by pointwise; rfl) rfl

/-- Bucket 6. -/
theorem bucket6 (hk : Keeps W B Vd Q A) (ha : W (Proc.devRef .tc main_v88) = chain A B 6) :
    Keeps (StableHlo.after (hostOps0_16 ++ hostOps0_17) W) B Vd Q A ∧ StableHlo.after (hostOps0_16 ++ hostOps0_17) W (Proc.devRef .tc main_v95) = chain A B 7 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_16 ++ hostOps0_17) W (Proc.devRef .tc main_v95)
        = whereB 6#32 (extractStridedSlice S1x16 ![6, 0] A slices_S32x16_S1x16_6_0) B (chain A B 6) := by
      after_reads_simp
      rw [← ha, ← hk.1, ← hk.2.2.2]; rfl
    rw [e]; funext y; idx_vars y; rw [whereB_apply]
    exact if_congr Iff.rfl (by pointwise; rfl) rfl

/-- Bucket 7. -/
theorem bucket7 (hk : Keeps W B Vd Q A) (ha : W (Proc.devRef .tc main_v95) = chain A B 7) :
    Keeps (StableHlo.after (hostOps0_18 ++ hostOps0_19) W) B Vd Q A ∧ StableHlo.after (hostOps0_18 ++ hostOps0_19) W (Proc.devRef .tc main_v102) = chain A B 8 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_18 ++ hostOps0_19) W (Proc.devRef .tc main_v102)
        = whereB 7#32 (extractStridedSlice S1x16 ![7, 0] A slices_S32x16_S1x16_7_0) B (chain A B 7) := by
      after_reads_simp
      rw [← ha, ← hk.1, ← hk.2.2.2]; rfl
    rw [e]; funext y; idx_vars y; rw [whereB_apply]
    exact if_congr Iff.rfl (by pointwise; rfl) rfl

/-- Bucket 8. -/
theorem bucket8 (hk : Keeps W B Vd Q A) (ha : W (Proc.devRef .tc main_v102) = chain A B 8) :
    Keeps (StableHlo.after (hostOps0_20 ++ hostOps0_21) W) B Vd Q A ∧ StableHlo.after (hostOps0_20 ++ hostOps0_21) W (Proc.devRef .tc main_v109) = chain A B 9 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_20 ++ hostOps0_21) W (Proc.devRef .tc main_v109)
        = whereB 8#32 (extractStridedSlice S1x16 ![8, 0] A slices_S32x16_S1x16_8_0) B (chain A B 8) := by
      after_reads_simp
      rw [← ha, ← hk.1, ← hk.2.2.2]; rfl
    rw [e]; funext y; idx_vars y; rw [whereB_apply]
    exact if_congr Iff.rfl (by pointwise; rfl) rfl

/-- Bucket 9. -/
theorem bucket9 (hk : Keeps W B Vd Q A) (ha : W (Proc.devRef .tc main_v109) = chain A B 9) :
    Keeps (StableHlo.after (hostOps0_22 ++ hostOps0_23) W) B Vd Q A ∧ StableHlo.after (hostOps0_22 ++ hostOps0_23) W (Proc.devRef .tc main_v116) = chain A B 10 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_22 ++ hostOps0_23) W (Proc.devRef .tc main_v116)
        = whereB 9#32 (extractStridedSlice S1x16 ![9, 0] A slices_S32x16_S1x16_9_0) B (chain A B 9) := by
      after_reads_simp
      rw [← ha, ← hk.1, ← hk.2.2.2]; rfl
    rw [e]; funext y; idx_vars y; rw [whereB_apply]
    exact if_congr Iff.rfl (by pointwise; rfl) rfl

/-- Bucket 10. -/
theorem bucket10 (hk : Keeps W B Vd Q A) (ha : W (Proc.devRef .tc main_v116) = chain A B 10) :
    Keeps (StableHlo.after (hostOps0_24 ++ hostOps0_25) W) B Vd Q A ∧ StableHlo.after (hostOps0_24 ++ hostOps0_25) W (Proc.devRef .tc main_v123) = chain A B 11 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_24 ++ hostOps0_25) W (Proc.devRef .tc main_v123)
        = whereB 10#32 (extractStridedSlice S1x16 ![10, 0] A slices_S32x16_S1x16_10_0) B (chain A B 10) := by
      after_reads_simp
      rw [← ha, ← hk.1, ← hk.2.2.2]; rfl
    rw [e]; funext y; idx_vars y; rw [whereB_apply]
    exact if_congr Iff.rfl (by pointwise; rfl) rfl

/-- Bucket 11. -/
theorem bucket11 (hk : Keeps W B Vd Q A) (ha : W (Proc.devRef .tc main_v123) = chain A B 11) :
    Keeps (StableHlo.after (hostOps0_26 ++ hostOps0_27) W) B Vd Q A ∧ StableHlo.after (hostOps0_26 ++ hostOps0_27) W (Proc.devRef .tc main_v130) = chain A B 12 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_26 ++ hostOps0_27) W (Proc.devRef .tc main_v130)
        = whereB 11#32 (extractStridedSlice S1x16 ![11, 0] A slices_S32x16_S1x16_11_0) B (chain A B 11) := by
      after_reads_simp
      rw [← ha, ← hk.1, ← hk.2.2.2]; rfl
    rw [e]; funext y; idx_vars y; rw [whereB_apply]
    exact if_congr Iff.rfl (by pointwise; rfl) rfl

/-- Bucket 12. -/
theorem bucket12 (hk : Keeps W B Vd Q A) (ha : W (Proc.devRef .tc main_v130) = chain A B 12) :
    Keeps (StableHlo.after (hostOps0_28 ++ hostOps0_29) W) B Vd Q A ∧ StableHlo.after (hostOps0_28 ++ hostOps0_29) W (Proc.devRef .tc main_v137) = chain A B 13 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_28 ++ hostOps0_29) W (Proc.devRef .tc main_v137)
        = whereB 12#32 (extractStridedSlice S1x16 ![12, 0] A slices_S32x16_S1x16_12_0) B (chain A B 12) := by
      after_reads_simp
      rw [← ha, ← hk.1, ← hk.2.2.2]; rfl
    rw [e]; funext y; idx_vars y; rw [whereB_apply]
    exact if_congr Iff.rfl (by pointwise; rfl) rfl

/-- Bucket 13. -/
theorem bucket13 (hk : Keeps W B Vd Q A) (ha : W (Proc.devRef .tc main_v137) = chain A B 13) :
    Keeps (StableHlo.after (hostOps0_30 ++ hostOps0_31) W) B Vd Q A ∧ StableHlo.after (hostOps0_30 ++ hostOps0_31) W (Proc.devRef .tc main_v144) = chain A B 14 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_30 ++ hostOps0_31) W (Proc.devRef .tc main_v144)
        = whereB 13#32 (extractStridedSlice S1x16 ![13, 0] A slices_S32x16_S1x16_13_0) B (chain A B 13) := by
      after_reads_simp
      rw [← ha, ← hk.1, ← hk.2.2.2]; rfl
    rw [e]; funext y; idx_vars y; rw [whereB_apply]
    exact if_congr Iff.rfl (by pointwise; rfl) rfl

/-- Bucket 14. -/
theorem bucket14 (hk : Keeps W B Vd Q A) (ha : W (Proc.devRef .tc main_v144) = chain A B 14) :
    Keeps (StableHlo.after (hostOps0_32 ++ hostOps0_33) W) B Vd Q A ∧ StableHlo.after (hostOps0_32 ++ hostOps0_33) W (Proc.devRef .tc main_v151) = chain A B 15 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_32 ++ hostOps0_33) W (Proc.devRef .tc main_v151)
        = whereB 14#32 (extractStridedSlice S1x16 ![14, 0] A slices_S32x16_S1x16_14_0) B (chain A B 14) := by
      after_reads_simp
      rw [← ha, ← hk.1, ← hk.2.2.2]; rfl
    rw [e]; funext y; idx_vars y; rw [whereB_apply]
    exact if_congr Iff.rfl (by pointwise; rfl) rfl

/-- Bucket 15. -/
theorem bucket15 (hk : Keeps W B Vd Q A) (ha : W (Proc.devRef .tc main_v151) = chain A B 15) :
    Keeps (StableHlo.after (hostOps0_34 ++ hostOps0_35) W) B Vd Q A ∧ StableHlo.after (hostOps0_34 ++ hostOps0_35) W (Proc.devRef .tc main_v158) = chain A B 16 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_34 ++ hostOps0_35) W (Proc.devRef .tc main_v158)
        = whereB 15#32 (extractStridedSlice S1x16 ![15, 0] A slices_S32x16_S1x16_15_0) B (chain A B 15) := by
      after_reads_simp
      rw [← ha, ← hk.1, ← hk.2.2.2]; rfl
    rw [e]; funext y; idx_vars y; rw [whereB_apply]
    exact if_congr Iff.rfl (by pointwise; rfl) rfl

/-- Bucket 16. -/
theorem bucket16 (hk : Keeps W B Vd Q A) (ha : W (Proc.devRef .tc main_v158) = chain A B 16) :
    Keeps (StableHlo.after (hostOps0_36 ++ hostOps0_37) W) B Vd Q A ∧ StableHlo.after (hostOps0_36 ++ hostOps0_37) W (Proc.devRef .tc main_v165) = chain A B 17 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_36 ++ hostOps0_37) W (Proc.devRef .tc main_v165)
        = whereB 16#32 (extractStridedSlice S1x16 ![16, 0] A slices_S32x16_S1x16_16_0) B (chain A B 16) := by
      after_reads_simp
      rw [← ha, ← hk.1, ← hk.2.2.2]; rfl
    rw [e]; funext y; idx_vars y; rw [whereB_apply]
    exact if_congr Iff.rfl (by pointwise; rfl) rfl

/-- Bucket 17. -/
theorem bucket17 (hk : Keeps W B Vd Q A) (ha : W (Proc.devRef .tc main_v165) = chain A B 17) :
    Keeps (StableHlo.after (hostOps0_38 ++ hostOps0_39) W) B Vd Q A ∧ StableHlo.after (hostOps0_38 ++ hostOps0_39) W (Proc.devRef .tc main_v172) = chain A B 18 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_38 ++ hostOps0_39) W (Proc.devRef .tc main_v172)
        = whereB 17#32 (extractStridedSlice S1x16 ![17, 0] A slices_S32x16_S1x16_17_0) B (chain A B 17) := by
      after_reads_simp
      rw [← ha, ← hk.1, ← hk.2.2.2]; rfl
    rw [e]; funext y; idx_vars y; rw [whereB_apply]
    exact if_congr Iff.rfl (by pointwise; rfl) rfl

/-- Bucket 18. -/
theorem bucket18 (hk : Keeps W B Vd Q A) (ha : W (Proc.devRef .tc main_v172) = chain A B 18) :
    Keeps (StableHlo.after (hostOps0_40 ++ hostOps0_41) W) B Vd Q A ∧ StableHlo.after (hostOps0_40 ++ hostOps0_41) W (Proc.devRef .tc main_v179) = chain A B 19 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_40 ++ hostOps0_41) W (Proc.devRef .tc main_v179)
        = whereB 18#32 (extractStridedSlice S1x16 ![18, 0] A slices_S32x16_S1x16_18_0) B (chain A B 18) := by
      after_reads_simp
      rw [← ha, ← hk.1, ← hk.2.2.2]; rfl
    rw [e]; funext y; idx_vars y; rw [whereB_apply]
    exact if_congr Iff.rfl (by pointwise; rfl) rfl

/-- Bucket 19. -/
theorem bucket19 (hk : Keeps W B Vd Q A) (ha : W (Proc.devRef .tc main_v179) = chain A B 19) :
    Keeps (StableHlo.after (hostOps0_42 ++ hostOps0_43) W) B Vd Q A ∧ StableHlo.after (hostOps0_42 ++ hostOps0_43) W (Proc.devRef .tc main_v186) = chain A B 20 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_42 ++ hostOps0_43) W (Proc.devRef .tc main_v186)
        = whereB 19#32 (extractStridedSlice S1x16 ![19, 0] A slices_S32x16_S1x16_19_0) B (chain A B 19) := by
      after_reads_simp
      rw [← ha, ← hk.1, ← hk.2.2.2]; rfl
    rw [e]; funext y; idx_vars y; rw [whereB_apply]
    exact if_congr Iff.rfl (by pointwise; rfl) rfl

/-- Bucket 20. -/
theorem bucket20 (hk : Keeps W B Vd Q A) (ha : W (Proc.devRef .tc main_v186) = chain A B 20) :
    Keeps (StableHlo.after (hostOps0_44 ++ hostOps0_45) W) B Vd Q A ∧ StableHlo.after (hostOps0_44 ++ hostOps0_45) W (Proc.devRef .tc main_v193) = chain A B 21 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_44 ++ hostOps0_45) W (Proc.devRef .tc main_v193)
        = whereB 20#32 (extractStridedSlice S1x16 ![20, 0] A slices_S32x16_S1x16_20_0) B (chain A B 20) := by
      after_reads_simp
      rw [← ha, ← hk.1, ← hk.2.2.2]; rfl
    rw [e]; funext y; idx_vars y; rw [whereB_apply]
    exact if_congr Iff.rfl (by pointwise; rfl) rfl

/-- Bucket 21. -/
theorem bucket21 (hk : Keeps W B Vd Q A) (ha : W (Proc.devRef .tc main_v193) = chain A B 21) :
    Keeps (StableHlo.after (hostOps0_46 ++ hostOps0_47) W) B Vd Q A ∧ StableHlo.after (hostOps0_46 ++ hostOps0_47) W (Proc.devRef .tc main_v200) = chain A B 22 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_46 ++ hostOps0_47) W (Proc.devRef .tc main_v200)
        = whereB 21#32 (extractStridedSlice S1x16 ![21, 0] A slices_S32x16_S1x16_21_0) B (chain A B 21) := by
      after_reads_simp
      rw [← ha, ← hk.1, ← hk.2.2.2]; rfl
    rw [e]; funext y; idx_vars y; rw [whereB_apply]
    exact if_congr Iff.rfl (by pointwise; rfl) rfl

/-- Bucket 22. -/
theorem bucket22 (hk : Keeps W B Vd Q A) (ha : W (Proc.devRef .tc main_v200) = chain A B 22) :
    Keeps (StableHlo.after (hostOps0_48 ++ hostOps0_49) W) B Vd Q A ∧ StableHlo.after (hostOps0_48 ++ hostOps0_49) W (Proc.devRef .tc main_v207) = chain A B 23 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_48 ++ hostOps0_49) W (Proc.devRef .tc main_v207)
        = whereB 22#32 (extractStridedSlice S1x16 ![22, 0] A slices_S32x16_S1x16_22_0) B (chain A B 22) := by
      after_reads_simp
      rw [← ha, ← hk.1, ← hk.2.2.2]; rfl
    rw [e]; funext y; idx_vars y; rw [whereB_apply]
    exact if_congr Iff.rfl (by pointwise; rfl) rfl

/-- Bucket 23. -/
theorem bucket23 (hk : Keeps W B Vd Q A) (ha : W (Proc.devRef .tc main_v207) = chain A B 23) :
    Keeps (StableHlo.after (hostOps0_50 ++ hostOps0_51) W) B Vd Q A ∧ StableHlo.after (hostOps0_50 ++ hostOps0_51) W (Proc.devRef .tc main_v214) = chain A B 24 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_50 ++ hostOps0_51) W (Proc.devRef .tc main_v214)
        = whereB 23#32 (extractStridedSlice S1x16 ![23, 0] A slices_S32x16_S1x16_23_0) B (chain A B 23) := by
      after_reads_simp
      rw [← ha, ← hk.1, ← hk.2.2.2]; rfl
    rw [e]; funext y; idx_vars y; rw [whereB_apply]
    exact if_congr Iff.rfl (by pointwise; rfl) rfl

/-- Bucket 24. -/
theorem bucket24 (hk : Keeps W B Vd Q A) (ha : W (Proc.devRef .tc main_v214) = chain A B 24) :
    Keeps (StableHlo.after (hostOps0_52 ++ hostOps0_53) W) B Vd Q A ∧ StableHlo.after (hostOps0_52 ++ hostOps0_53) W (Proc.devRef .tc main_v221) = chain A B 25 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_52 ++ hostOps0_53) W (Proc.devRef .tc main_v221)
        = whereB 24#32 (extractStridedSlice S1x16 ![24, 0] A slices_S32x16_S1x16_24_0) B (chain A B 24) := by
      after_reads_simp
      rw [← ha, ← hk.1, ← hk.2.2.2]; rfl
    rw [e]; funext y; idx_vars y; rw [whereB_apply]
    exact if_congr Iff.rfl (by pointwise; rfl) rfl

/-- Bucket 25. -/
theorem bucket25 (hk : Keeps W B Vd Q A) (ha : W (Proc.devRef .tc main_v221) = chain A B 25) :
    Keeps (StableHlo.after (hostOps0_54 ++ hostOps0_55) W) B Vd Q A ∧ StableHlo.after (hostOps0_54 ++ hostOps0_55) W (Proc.devRef .tc main_v228) = chain A B 26 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_54 ++ hostOps0_55) W (Proc.devRef .tc main_v228)
        = whereB 25#32 (extractStridedSlice S1x16 ![25, 0] A slices_S32x16_S1x16_25_0) B (chain A B 25) := by
      after_reads_simp
      rw [← ha, ← hk.1, ← hk.2.2.2]; rfl
    rw [e]; funext y; idx_vars y; rw [whereB_apply]
    exact if_congr Iff.rfl (by pointwise; rfl) rfl

/-- Bucket 26. -/
theorem bucket26 (hk : Keeps W B Vd Q A) (ha : W (Proc.devRef .tc main_v228) = chain A B 26) :
    Keeps (StableHlo.after (hostOps0_56 ++ hostOps0_57) W) B Vd Q A ∧ StableHlo.after (hostOps0_56 ++ hostOps0_57) W (Proc.devRef .tc main_v235) = chain A B 27 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_56 ++ hostOps0_57) W (Proc.devRef .tc main_v235)
        = whereB 26#32 (extractStridedSlice S1x16 ![26, 0] A slices_S32x16_S1x16_26_0) B (chain A B 26) := by
      after_reads_simp
      rw [← ha, ← hk.1, ← hk.2.2.2]; rfl
    rw [e]; funext y; idx_vars y; rw [whereB_apply]
    exact if_congr Iff.rfl (by pointwise; rfl) rfl

/-- Bucket 27. -/
theorem bucket27 (hk : Keeps W B Vd Q A) (ha : W (Proc.devRef .tc main_v235) = chain A B 27) :
    Keeps (StableHlo.after (hostOps0_58 ++ hostOps0_59) W) B Vd Q A ∧ StableHlo.after (hostOps0_58 ++ hostOps0_59) W (Proc.devRef .tc main_v242) = chain A B 28 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_58 ++ hostOps0_59) W (Proc.devRef .tc main_v242)
        = whereB 27#32 (extractStridedSlice S1x16 ![27, 0] A slices_S32x16_S1x16_27_0) B (chain A B 27) := by
      after_reads_simp
      rw [← ha, ← hk.1, ← hk.2.2.2]; rfl
    rw [e]; funext y; idx_vars y; rw [whereB_apply]
    exact if_congr Iff.rfl (by pointwise; rfl) rfl

/-- Bucket 28. -/
theorem bucket28 (hk : Keeps W B Vd Q A) (ha : W (Proc.devRef .tc main_v242) = chain A B 28) :
    Keeps (StableHlo.after (hostOps0_60 ++ hostOps0_61) W) B Vd Q A ∧ StableHlo.after (hostOps0_60 ++ hostOps0_61) W (Proc.devRef .tc main_v249) = chain A B 29 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_60 ++ hostOps0_61) W (Proc.devRef .tc main_v249)
        = whereB 28#32 (extractStridedSlice S1x16 ![28, 0] A slices_S32x16_S1x16_28_0) B (chain A B 28) := by
      after_reads_simp
      rw [← ha, ← hk.1, ← hk.2.2.2]; rfl
    rw [e]; funext y; idx_vars y; rw [whereB_apply]
    exact if_congr Iff.rfl (by pointwise; rfl) rfl

/-- Bucket 29. -/
theorem bucket29 (hk : Keeps W B Vd Q A) (ha : W (Proc.devRef .tc main_v249) = chain A B 29) :
    Keeps (StableHlo.after (hostOps0_62 ++ hostOps0_63) W) B Vd Q A ∧ StableHlo.after (hostOps0_62 ++ hostOps0_63) W (Proc.devRef .tc main_v256) = chain A B 30 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_62 ++ hostOps0_63) W (Proc.devRef .tc main_v256)
        = whereB 29#32 (extractStridedSlice S1x16 ![29, 0] A slices_S32x16_S1x16_29_0) B (chain A B 29) := by
      after_reads_simp
      rw [← ha, ← hk.1, ← hk.2.2.2]; rfl
    rw [e]; funext y; idx_vars y; rw [whereB_apply]
    exact if_congr Iff.rfl (by pointwise; rfl) rfl

/-- Bucket 30. -/
theorem bucket30 (hk : Keeps W B Vd Q A) (ha : W (Proc.devRef .tc main_v256) = chain A B 30) :
    Keeps (StableHlo.after (hostOps0_64 ++ hostOps0_65) W) B Vd Q A ∧ StableHlo.after (hostOps0_64 ++ hostOps0_65) W (Proc.devRef .tc main_v263) = chain A B 31 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_64 ++ hostOps0_65) W (Proc.devRef .tc main_v263)
        = whereB 30#32 (extractStridedSlice S1x16 ![30, 0] A slices_S32x16_S1x16_30_0) B (chain A B 30) := by
      after_reads_simp
      rw [← ha, ← hk.1, ← hk.2.2.2]; rfl
    rw [e]; funext y; idx_vars y; rw [whereB_apply]
    exact if_congr Iff.rfl (by pointwise; rfl) rfl

/-- Bucket 31. -/
theorem bucket31 (hk : Keeps W B Vd Q A) (ha : W (Proc.devRef .tc main_v263) = chain A B 31) :
    Keeps (StableHlo.after (hostOps0_66 ++ hostOps0_67) W) B Vd Q A ∧ StableHlo.after (hostOps0_66 ++ hostOps0_67) W (Proc.devRef .tc main_v270) = chain A B 32 := by
  refine ⟨⟨?_, ?_, ?_, ?_⟩, ?_⟩
  · after_reads_simp; exact hk.1
  · after_reads_simp; exact hk.2.1
  · after_reads_simp; exact hk.2.2.1
  · after_reads_simp; exact hk.2.2.2
  · have e : StableHlo.after (hostOps0_66 ++ hostOps0_67) W (Proc.devRef .tc main_v270)
        = whereB 31#32 (extractStridedSlice S1x16 ![31, 0] A slices_S32x16_S1x16_31_0) B (chain A B 31) := by
      after_reads_simp
      rw [← ha, ← hk.1, ← hk.2.2.2]; rfl
    rw [e]; funext y; idx_vars y; rw [whereB_apply]
    exact if_congr Iff.rfl (by pointwise; rfl) rfl

end Cert.KernelIdeal.Attn
end
-- ==== Proof.HostEnds.lean ====
/-
  The host operations' first and last stretches, and the contents the attention kernel's region is entered with: the
  scaled input and the bias array.
-/
module

public import proofs.«01_k».proof.Proof.Host

@[expose] public section
set_option maxRecDepth 16384
noncomputable section
namespace Cert.KernelIdeal.Attn

open Idealize.ShloMosaic Idealize.ShloMosaic.TcCoe Idealize.ShloMosaic.Tactic
open Idealize.SL Idealize.SL.Sem
open Cert.KernelIdeal Cert.KernelIdeal.Gen

variable {F : FTy → Type} [FloatOps F] [Named F]

/-- Query row plus 128 minus key column. -/
def relV : IVec S128x256 32 :=
  subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- Whether the key lies in the query's window. -/
def validV : IVec S128x256 1 :=
  andi (cmpi .sge relV (broadcastInDim S128x256 ![] bcast_S_S128x256 (constantI S_ 32 0#32)))
    (cmpi .sle relV (broadcastInDim S128x256 ![] bcast_S_S128x256 (constantI S_ 32 128#32)))

/-- The distance in positions. -/
def distV : IVec S128x256 32 :=
  muli (maxsi relV (broadcastInDim S128x256 ![] bcast_S_S128x256 (constantI S_ 32 0#32))) (broadcastInDim S128x256 ![] bcast_S_S128x256 (constantI S_ 32 4#32))

/-- The bucket of a distance of sixteen and more. -/
def largeV (F : FTy → Type) [FloatOps F] : IVec S128x256 32 :=
  minsi (addi (broadcastInDim S128x256 ![] bcast_S_S128x256 (constantI S_ 32 16#32))
      (fptosi (F := F) 32 (mulf (Host.divf (Host.log (Host.divf (sitofp .f32 (maxsi distV (broadcastInDim S128x256 ![] bcast_S_S128x256 (constantI S_ 32 1#32))))
            (broadcastInDim S128x256 ![] bcast_S_S128x256 (constant S_ .f32 0x41800000#32))))
          (broadcastInDim S128x256 ![] bcast_S_S128x256 (constant S_ .f32 0x409B43D5#32)))
        (broadcastInDim S128x256 ![] bcast_S_S128x256 (constant S_ .f32 0x41800000#32)))))
      (broadcastInDim S128x256 ![] bcast_S_S128x256 (constantI S_ 32 31#32))

/-- The distance's bucket. -/
def bucketV (F : FTy → Type) [FloatOps F] : IVec S128x256 32 :=
  select (cmpi .slt distV (broadcastInDim S128x256 ![] bcast_S_S128x256 (constantI S_ 32 16#32))) distV (largeV F)

/-- The reciprocal of the logarithm of two. -/
def log2eV : Vec F S_ .f32 := Host.divf (constant S_ .f32 0x3F800000#32) (Host.log (constant S_ .f32 0x40000000#32))

/-- The columns' scale: the queries' at their columns, one elsewhere. -/
def scaleV : Vec F S1x1x1x3072 .f32 :=
  select (cmpi .slt (iotaInDim S1x1x1x3072 32 3) (broadcastInDim S1x1x1x3072 ![] bcast_S_S1x1x1x3072 (constantI S_ 32 1024#32)))
    (broadcastInDim S1x1x1x3072 ![] bcast_S_S1x1x1x3072 (mulf (constant S_ .f32 0x3E000000#32) log2eV))
    (broadcastInDim S1x1x1x3072 ![] bcast_S_S1x1x1x3072 (constant S_ .f32 0x3F800000#32))

/-- The scaled input. -/
def qsV (X : Vec F S4x4x1024x3072 .f32) : Vec F S4x4x1024x3072 .bf16 :=
  truncf .bf16 (mulf X (broadcastInDim S4x4x1024x3072 ![0, 1, 2, 3] bcast_S1x1x1x3072_S4x4x1024x3072_0_1_2_3 scaleV)) bitsLt_bf16_f32

/-- The bias array, from the buckets' rows. -/
def biasV (Vd : IVec S128x256 1) (T : Vec F S16x128x256 .f32) : Vec F S16x128x256 .f32 :=
  select (broadcastInDim S16x128x256 ![0, 1, 2] bcast_S1x128x256_S16x128x256_0_1_2 (broadcastInDim S1x128x256 ![1, 2] bcast_S128x256_S1x128x256_1_2 Vd))
    (mulf T (broadcastInDim S16x128x256 ![] bcast_S_S16x128x256 log2eV)) (broadcastInDim S16x128x256 ![] bcast_S_S16x128x256 (constant S_ .f32 0xFF800000#32))

section
variable (W : Valuation τ sig (Elt F))

/-- What the first stretch's operations before its last selection leave. -/
theorem first_parts (X : Vec F S4x4x1024x3072 .f32) (A : Vec F S32x16 .f32) (hX : W (Proc.devRef .tc main_arg0) = X) (hA : W (Proc.devRef .tc main_arg1) = A) :
    (StableHlo.after (hostOps0 ++ (hostOps0_1 ++ hostOps0_2)) W (Proc.devRef .tc main_v42) = cmpi .slt distV (broadcastInDim S128x256 ![] bcast_S_S128x256 (constantI S_ 32 16#32))
      ∧ StableHlo.after (hostOps0 ++ (hostOps0_1 ++ hostOps0_2)) W (Proc.devRef .tc main_v27) = distV
      ∧ StableHlo.after (hostOps0 ++ (hostOps0_1 ++ hostOps0_2)) W (Proc.devRef .tc main_v44) = largeV F)
    ∧ StableHlo.after (hostOps0 ++ (hostOps0_1 ++ hostOps0_2)) W (Proc.devRef .tc main_v23) = validV
    ∧ StableHlo.after (hostOps0 ++ (hostOps0_1 ++ hostOps0_2)) W (Proc.devRef .tc main_v9) = qsV X
    ∧ StableHlo.after (hostOps0 ++ (hostOps0_1 ++ hostOps0_2)) W (Proc.devRef .tc main_arg1) = A := by
  refine ⟨⟨?_, ?_, ?_⟩, ?_, ?_, ?_⟩
  · after_reads_simp; rfl
  · after_reads_simp; rfl
  · after_reads_simp; rfl
  · after_reads_simp; rfl
  · after_reads_simp; rw [← hX]; rfl
  · after_reads_simp; exact hA

/-- The first stretch's last selection. -/
theorem first_last {c : IVec S128x256 1} {x y : IVec S128x256 32} {Vd : IVec S128x256 1} {Q : Vec F S4x4x1024x3072 .bf16} {A : Vec F S32x16 .f32}
    (h : (W (Proc.devRef .tc main_v42) = c ∧ W (Proc.devRef .tc main_v27) = x ∧ W (Proc.devRef .tc main_v44) = y) ∧ W (Proc.devRef .tc main_v23) = Vd
      ∧ W (Proc.devRef .tc main_v9) = Q ∧ W (Proc.devRef .tc main_arg1) = A) :
    Keeps (StableHlo.after hostOps0_3 W) (select c x y) Vd Q A := by
  refine ⟨?_, ?_, ?_, ?_⟩
  · after_reads_simp; rw [← h.1.1, ← h.1.2.1, ← h.1.2.2]; rfl
  · after_reads_simp; exact h.2.1
  · after_reads_simp; exact h.2.2.1
  · after_reads_simp; exact h.2.2.2

/-- The last stretch selects the bias where the window holds, and minus infinity elsewhere; the scaled input stays. -/
theorem last_bias {B : IVec S128x256 32} {Vd : IVec S128x256 1} {Q : Vec F S4x4x1024x3072 .bf16} {A : Vec F S32x16 .f32} {T : Vec F S16x128x256 .f32}
    (hk : Keeps W B Vd Q A) (hT : W (Proc.devRef .tc main_v270) = T) :
    StableHlo.after (hostOps0_68 ++ hostOps0_69) W (Proc.devRef .tc main_v9) = Q ∧
      StableHlo.after (hostOps0_68 ++ hostOps0_69) W (Proc.devRef .tc main_v276) = biasV Vd T := by
  refine ⟨?_, ?_⟩
  · after_reads_simp; exact hk.2.2.1
  · after_reads_simp; rw [← hk.2.1, ← hT]; rfl
end

theorem after_two (l₁ l₂ : List (HloOp τ sig (Elt F))) (W : Valuation τ sig (Elt F)) : StableHlo.after (l₁ ++ l₂) W = StableHlo.after l₂ (StableHlo.after l₁ W) := by
  induction l₁ generalizing W with
  | nil => rfl
  | cons op l ih => exact ih _

section
variable (m : (ℓ : Loc nD τ sig) → Buf (Elt F) ℓ)

/-- The region is entered with the scaled input and the bias array. -/
theorem entry (c : Dev nD) (X : Vec F S4x4x1024x3072 .f32) (A : Vec F S32x16 .f32) (hX : m (c, Proc.devRef .tc main_arg0) = X) (hA : m (c, Proc.devRef .tc main_arg1) = A) :
    V m c main_v9 = qsV X ∧ V m c main_v276 = biasV validV (chain A (bucketV F) 32) := by
  have k0 := bucket0 (first_last _ (first_parts (fun b => m (c, b)) X A hX hA))
  have k1 := bucket1 k0.1 k0.2
  have k2 := bucket2 k1.1 k1.2
  have k3 := bucket3 k2.1 k2.2
  have k4 := bucket4 k3.1 k3.2
  have k5 := bucket5 k4.1 k4.2
  have k6 := bucket6 k5.1 k5.2
  have k7 := bucket7 k6.1 k6.2
  have k8 := bucket8 k7.1 k7.2
  have k9 := bucket9 k8.1 k8.2
  have k10 := bucket10 k9.1 k9.2
  have k11 := bucket11 k10.1 k10.2
  have k12 := bucket12 k11.1 k11.2
  have k13 := bucket13 k12.1 k12.2
  have k14 := bucket14 k13.1 k13.2
  have k15 := bucket15 k14.1 k14.2
  have k16 := bucket16 k15.1 k15.2
  have k17 := bucket17 k16.1 k16.2
  have k18 := bucket18 k17.1 k17.2
  have k19 := bucket19 k18.1 k18.2
  have k20 := bucket20 k19.1 k19.2
  have k21 := bucket21 k20.1 k20.2
  have k22 := bucket22 k21.1 k21.2
  have k23 := bucket23 k22.1 k22.2
  have k24 := bucket24 k23.1 k23.2
  have k25 := bucket25 k24.1 k24.2
  have k26 := bucket26 k25.1 k25.2
  have k27 := bucket27 k26.1 k26.2
  have k28 := bucket28 k27.1 k27.2
  have k29 := bucket29 k28.1 k28.2
  have k30 := bucket30 k29.1 k29.2
  have k31 := bucket31 k30.1 k30.2
  have l := last_bias _ k31.1 k31.2
  simp only [after_two] at l
  unfold V
  simp only [List.flatten_cons, List.flatten_nil, List.append_nil, after_two]
  exact l
end

end Cert.KernelIdeal.Attn
end
-- ==== Proof.Bucket.lean ====
/-
  The distance buckets of the relative positions: every one is below 32.
-/
module

public import proofs.«01_k».proof.Proof.HostEnds
public import proofs.«01_k».proof.Proof.UnitIdeal

@[expose] public section
set_option maxRecDepth 16384
noncomputable section
namespace Cert.KernelIdeal.Attn

open Idealize.ShloMosaic Idealize.ShloMosaic.TcCoe Idealize.ShloMosaic.Tactic
open Cert.KernelIdeal Cert.KernelIdeal.Gen

theorem toInt_small (a : ℕ) (ha : a < 2 ^ 31) : (BitVec.ofNat 32 a).toInt = (a : ℤ) := by
  rw [BitVec.toInt_ofNat']; exact Int.bmod_eq_of_le (by omega) (by omega)

/-- The difference of two numbers, cut off at zero. -/
theorem sub_max (a b : ℕ) (ha : a < 2 ^ 30) (hb : b < 2 ^ 30) :
    IntOp.maxsi (BitVec.ofNat 32 a - BitVec.ofNat 32 b) (BitVec.ofNat 32 0) = BitVec.ofNat 32 (a - b) := by
  have e : (BitVec.ofNat 32 a - BitVec.ofNat 32 b).toInt = (a : ℤ) - b := by
    rw [BitVec.toInt_sub, toInt_small a (by omega), toInt_small b (by omega)]
    exact Int.bmod_eq_of_le (by omega) (by omega)
  unfold IntOp.maxsi
  rw [BitVec.slt_eq_decide, e, toInt_small 0 (by omega)]
  by_cases h : b < a
  · rw [if_pos (by simp; omega)]
    apply BitVec.eq_of_toInt_eq
    rw [e, toInt_small _ (by omega)]; omega
  · rw [if_neg (by simp; omega)]
    congr 1; omega

theorem dist_at (a : Fin 128) (b : Fin 256) : distV (ix2 a b) = BitVec.ofNat 32 (4 * (a.val + 128 - b.val)) := by
  have ha := a.isLt
  have hb := b.isLt
  pointwise [distV, relV]
  show IntOp.maxsi (BitVec.ofNat 32 a.val + BitVec.ofNat 32 128 - BitVec.ofNat 32 b.val) (BitVec.ofNat 32 0) * BitVec.ofNat 32 4 = _
  rw [← BitVec.ofNat_add, sub_max _ _ (by omega) (by omega), ← BitVec.ofNat_mul, mul_comm]

/-- The exact bucket of a large distance is between 16 and 31. -/
theorem large_lt (d : ℕ) (h16 : 16 ≤ d) (hd : d ≤ 1020) : ∃ j : Fin 32,
    IntOp.minsi (IntOp.addi (16#32) (Ideal.fptosi 32 (Ideal.div (Ideal.log (Ideal.div (((d : ℝ)) : EReal) (Ideal.ofBits .f32 0x41800000#32)))
      (Ideal.ofBits .f32 0x409B43D5#32) * Ideal.ofBits .f32 0x41800000#32))) 31#32 = BitVec.ofNat 32 j.val := by
  have h1 : (Ideal.ofBits .f32 0x41800000#32 : EReal) = ((16 : ℝ) : EReal) := by
    simp [Ideal.ofBits, Ideal.ieee]; rw [← EReal.coe_mul]; norm_num
  obtain ⟨C, hC, h2⟩ : ∃ C : ℝ, 1 ≤ C ∧ (Ideal.ofBits .f32 0x409B43D5#32 : EReal) = (C : EReal) := by
    refine ⟨_, ?_, by simp [Ideal.ofBits, Ideal.ieee]; rfl⟩
    norm_num
  have hdR : (16 : ℝ) ≤ d := by exact_mod_cast h16
  have hdR' : (d : ℝ) ≤ 1020 := by exact_mod_cast hd
  rw [h1, h2, Ideal.div_coe (show (16 : ℝ) ≠ 0 by norm_num), ← EReal.coe_mul, Ideal.log_coe, if_neg (by linarith), Ideal.div_coe (show C ≠ 0 by linarith), ← EReal.coe_mul, ← EReal.coe_mul]
  set x : ℝ := Real.log (d * (1 / 16)) * (1 / C) * 16 with hx
  have hl0 : 0 ≤ Real.log (d * (1 / 16)) := Real.log_nonneg (by linarith)
  have hl1 : Real.log (d * (1 / 16)) ≤ 64 := by
    have := Real.log_le_sub_one_of_pos (x := d * (1 / 16)) (by linarith)
    linarith
  have hC0 : 0 ≤ 1 / C := by positivity
  have hC1 : 1 / C ≤ 1 := by rw [div_le_one (by linarith)]; exact hC
  have hx0 : 0 ≤ x := by positivity
  have hx1 : x ≤ 1024 := by
    have : Real.log (d * (1 / 16)) * (1 / C) ≤ 64 := by nlinarith
    rw [hx]; linarith
  obtain ⟨n, hn⟩ : ∃ n : ℕ, ⌊x⌋ = (n : ℤ) := ⟨⌊x⌋.toNat, (Int.toNat_of_nonneg (Int.floor_nonneg.mpr hx0)).symm⟩
  have hn1 : n ≤ 1024 := by
    have h : (n : ℤ) ≤ 1024 := by
      rw [← hn]; exact_mod_cast (Int.floor_le x).trans hx1
    exact_mod_cast h
  have e : Ideal.fptosi 32 (x : EReal) = BitVec.ofNat 32 n := by
    rw [Ideal.fptosi, Ideal.toIntClamped_coe, if_pos hx0, hn, show max (-((2 ^ (32 - 1) : ℕ) : ℤ)) (min (((2 ^ (32 - 1) : ℕ) : ℤ) - 1) (n : ℤ)) = (n : ℤ) by omega]
    exact BitVec.ofInt_natCast 32 n
  rw [e]
  unfold IntOp.minsi IntOp.addi
  rw [show (16#32 : BitVec 32) = BitVec.ofNat 32 16 from rfl, ← BitVec.ofNat_add, show (31#32 : BitVec 32) = BitVec.ofNat 32 31 from rfl,
    BitVec.slt_eq_decide, toInt_small _ (by omega), toInt_small _ (by omega)]
  by_cases h : 16 + n < 31
  · exact ⟨⟨16 + n, by omega⟩, by rw [if_pos (by simp; omega)]⟩
  · exact ⟨⟨31, by omega⟩, by rw [if_neg (by simp; omega)]⟩

theorem bucket_lt (a : Fin 128) (b : Fin 256) : ∃ j : Fin 32, bucketV Ideal (ix2 a b) = BitVec.ofNat 32 j.val := by
  have ha := a.isLt
  have hb := b.isLt
  pointwise [bucketV, largeV]
  rw [dist_at]
  generalize hd : 4 * (a.val + 128 - b.val) = d
  have hd' : d ≤ 1020 := by omega
  rw [show (16#32 : BitVec 32) = BitVec.ofNat 32 16 from rfl, select_slt _ _ (by omega) (by omega)]
  by_cases h : d < 16
  · exact ⟨⟨d, by omega⟩, by rw [if_pos h]⟩
  · rw [if_neg h]
    have e : IntOp.maxsi (BitVec.ofNat 32 d) 1#32 = BitVec.ofNat 32 d := by
      unfold IntOp.maxsi
      rw [show (1#32 : BitVec 32) = BitVec.ofNat 32 1 from rfl, BitVec.slt_eq_decide, toInt_small _ (by omega), toInt_small _ (by omega), if_pos (by simp; omega)]
    rw [e]
    have es : (FloatOps.sitofp .f32 (BitVec.ofNat 32 d) : Ideal .f32) = ((d : ℝ) : EReal) := by
      show (((BitVec.ofNat 32 d).toInt : ℝ) : EReal) = _
      rw [toInt_small _ (by omega)]; simp
    rw [es]
    exact large_lt d (by omega) hd'

end Cert.KernelIdeal.Attn
end
-- ==== Proof.RefTiles.lean ====
/-
  The reference's queries, and the keys and values of a tile, at an index.
-/
module

public import proofs.«01_k».proof.Proof.Gen.ReferenceIdeal.Read
public import proofs.«01_k».proof.Proof.Softmax
public import Idealize.ShloMosaic.Lib.Pointwise
public import Idealize.ShloMosaic.Lib.Pipeline.ValueKit

@[expose] public section
set_option maxRecDepth 16384
set_option maxHeartbeats 1000000
noncomputable section
namespace Cert.ReferenceIdeal.Attn

open Idealize.ShloMosaic Idealize.ShloMosaic.TcCoe Idealize.ShloMosaic.Tactic
open Cert.ReferenceIdeal Cert.ReferenceIdeal.Gen Cert.ReferenceIdeal.Read
open Cert.Attn (mx)

variable (x0 : Vec Ideal S4x4x1024x3072 .f32) (x1 : Vec Ideal S32x16 .f32)

theorem v3_at (b r : Fin 4) (h : Fin 16) (l : Fin 1024) (d : Fin 64) :
    (val_main_v3 (F := Ideal) x0 : Vec Ideal S4x4x16x1024x64 .f32) (ix5 b r h l d) = x0 (ix4 b r l ⟨h.val * 64 + d.val, by omega⟩) := by
  pointwise [val_main_v3, val_main_v2, val_main_v1, val_main_v0]

theorem v5_at (b r : Fin 4) (h : Fin 16) (l : Fin 1024) (d : Fin 64) :
    (val_main_v5 (F := Ideal) x0 : Vec Ideal S4x4x16x1024x64 .f32) (ix5 b r h l d) = x0 (ix4 b r l ⟨1024 + h.val * 64 + d.val, by omega⟩) := by
  pointwise [val_main_v5, val_main_v4, val_main_v1, val_main_v0]

theorem v7_at (b r : Fin 4) (h : Fin 16) (l : Fin 1024) (d : Fin 64) :
    (val_main_v7 (F := Ideal) x0 : Vec Ideal S4x4x16x1024x64 .f32) (ix5 b r h l d) = x0 (ix4 b r l ⟨2048 + h.val * 64 + d.val, by omega⟩) := by
  pointwise [val_main_v7, val_main_v6, val_main_v1, val_main_v0]

/-- A tile's queries. -/
theorem v8_at (b r : Fin 4) (h : Fin 16) (n : Fin 8) (a : Fin 128) (d : Fin 64) :
    (val_main_v8 (F := Ideal) x0 : Vec Ideal S4x4x16x8x128x64 .f32) (ix6 b r h n a d) = x0 (ix4 b r ⟨n.val * 128 + a.val, by omega⟩ ⟨h.val * 64 + d.val, by omega⟩) := by
  pointwise [val_main_v8]
  exact v3_at x0 b r h ⟨n.val * 128 + a.val, by omega⟩ d

/-- A tile's keys, where there are any. -/
theorem v13_at (b r : Fin 4) (h : Fin 16) (n : Fin 8) (k : Fin 256) (d : Fin 64) (hk : 128 ≤ n.val * 128 + k.val) :
    (val_main_v13 (F := Ideal) x0 : Vec Ideal S4x4x16x8x256x64 .f32) (ix6 b r h n k d)
      = x0 (ix4 b r ⟨n.val * 128 + k.val - 128, by omega⟩ ⟨1024 + h.val * 64 + d.val, by omega⟩) := by
  pointwise [val_main_v13, val_main_v12, val_main_v11, val_main_v10, val_main_v9]
  split
  · split
    · exact v5_at x0 b r h ⟨n.val * 128 + k.val - 128, by omega⟩ d
    · omega
  · refine (v5_at x0 b r h ⟨n.val * 128 + (k.val - 128), by omega⟩ d).trans ?_
    exact congrArg (fun q : Fin 1024 => x0 (ix4 b r q ⟨1024 + h.val * 64 + d.val, by omega⟩)) (Fin.ext (by show n.val * 128 + (k.val - 128) = n.val * 128 + k.val - 128; omega))

/-- A tile's values, where there are any. -/
theorem v18_at (b r : Fin 4) (h : Fin 16) (n : Fin 8) (k : Fin 256) (d : Fin 64) (hk : 128 ≤ n.val * 128 + k.val) :
    (val_main_v18 (F := Ideal) x0 : Vec Ideal S4x4x16x8x256x64 .f32) (ix6 b r h n k d)
      = x0 (ix4 b r ⟨n.val * 128 + k.val - 128, by omega⟩ ⟨2048 + h.val * 64 + d.val, by omega⟩) := by
  pointwise [val_main_v18, val_main_v17, val_main_v16, val_main_v15, val_main_v14]
  split
  · split
    · exact v7_at x0 b r h ⟨n.val * 128 + k.val - 128, by omega⟩ d
    · omega
  · refine (v7_at x0 b r h ⟨n.val * 128 + (k.val - 128), by omega⟩ d).trans ?_
    exact congrArg (fun q : Fin 1024 => x0 (ix4 b r q ⟨2048 + h.val * 64 + d.val, by omega⟩)) (Fin.ext (by show n.val * 128 + (k.val - 128) = n.val * 128 + k.val - 128; omega))

/-- The products of queries and keys. -/
theorem v19_at (b r : Fin 4) (h : Fin 16) (n : Fin 8) (a : Fin 128) (k : Fin 256) (hk : 128 ≤ n.val * 128 + k.val) :
    (val_main_v19 (F := Ideal) x0 : Vec Ideal S4x4x16x8x128x256 .f32) (ix6 b r h n a k)
      = ∑ d : Fin 64, x0 (ix4 b r ⟨n.val * 128 + a.val, by omega⟩ ⟨h.val * 64 + d.val, by omega⟩)
          * x0 (ix4 b r ⟨n.val * 128 + k.val - 128, by omega⟩ ⟨1024 + h.val * 64 + d.val, by omega⟩) := by
  pointwise [val_main_v19]
  exact Finset.sum_congr rfl fun d _ => congrArg₂ (· * ·) (v8_at x0 b r h n a d) (v13_at x0 b r h n k d hk)

end Cert.ReferenceIdeal.Attn
end
-- ==== Proof.RefScores.lean ====
/-
  The reference's mask, its gathered bias and its scores, at an index.
-/
module

public import proofs.«01_k».proof.Proof.Gen.ReferenceIdeal.Read
public import proofs.«01_k».proof.Proof.Softmax
public import Idealize.ShloMosaic.Lib.Pointwise
public import Idealize.ShloMosaic.Lib.Pipeline.ValueKit

@[expose] public section
set_option maxRecDepth 16384
set_option maxHeartbeats 1000000
noncomputable section
namespace Cert.ReferenceIdeal.Attn

open Idealize.ShloMosaic Idealize.ShloMosaic.TcCoe Idealize.ShloMosaic.Tactic
open Cert.ReferenceIdeal Cert.ReferenceIdeal.Gen Cert.ReferenceIdeal.Read
open Cert.Attn (mx)

variable (x0 : Vec Ideal S4x4x1024x3072 .f32) (x1 : Vec Ideal S32x16 .f32)

/-- The mask: the window's, and that there is such a key. -/
theorem v51_at (n : Fin 8) (a : Fin 128) (k : Fin 256) :
    (val_main_v51 (F := Ideal) : IVec S8x128x256 1) (ix3 n a k)
      = IntOp.andi ((val_main_v45 (F := Ideal) : IVec S128x256 1) (ix2 a k)) (if 128 ≤ n.val * 128 + k.val then 1#1 else 0#1) := by
  have hn := n.isLt
  have hk := k.isLt
  pointwise [val_main_v51, val_main_v50, val_main_v49, val_main_v48, val_main_v47, val_main_v46, val_main_v40, val_main_v39, val_main_v38, val_main_v37,
    val_main_v36, val_main_v35, val_main_v34, val_main_v33, val_main_v32, val_main_v31, val_main_v30, val_main_v29, val_main_v25, val_main_v24, val_main_v23, val_main_v22, val_main_c_1, val_main_c_2, val_main_c_3, val_main_c_6]
  congr 1
  have e : IntOp.subi (IntOp.addi (IntOp.muli (BitVec.ofNat 32 n.val) 128#32) (BitVec.ofNat 32 k.val)) 128#32
      = BitVec.ofInt 32 (n.val * 128 + k.val - 128) := by
    apply BitVec.eq_of_toInt_eq
    show (BitVec.ofNat 32 n.val * BitVec.ofNat 32 128 + BitVec.ofNat 32 k.val - BitVec.ofNat 32 128).toInt = _
    rw [← BitVec.ofNat_mul, ← BitVec.ofNat_add, BitVec.toInt_sub, BitVec.toInt_ofNat', BitVec.toInt_ofNat', BitVec.toInt_ofInt,
      Int.bmod_eq_of_le (n := ((n.val * 128 + k.val : ℕ) : ℤ)) (by omega) (by omega), Int.bmod_eq_of_le (n := ((128 : ℕ) : ℤ)) (by omega) (by omega)]
    push_cast
    rfl
  rw [e]
  unfold IntOp.cmpi
  show BitVec.ofBool ((0#32 : BitVec 32).sle _) = _
  rw [BitVec.sle_eq_decide, BitVec.toInt_ofInt, Int.bmod_eq_of_le (by omega) (by omega)]
  by_cases hc : 128 ≤ n.val * 128 + k.val
  · rw [if_pos hc, show (0#32 : BitVec 32).toInt = 0 from rfl, decide_eq_true (by omega)]; rfl
  · rw [if_neg hc, show (0#32 : BitVec 32).toInt = 0 from rfl, decide_eq_false (by omega)]; rfl

/-- The table's rows gathered at in-range row numbers. -/
theorem gather_at (idx : IVec S128x256x1 32) (a : Fin 128) (k : Fin 256) (h : Fin 16) (j : Fin 32) (hj : idx (ix3 a k 0) = BitVec.ofNat 32 j.val) :
    Host.gather gather_S32x16_S128x256x1_S128x256x16_2_0_n_n_0_2_116 x1 idx (ix3 a k h) = x1 (ix2 j h) := by
  unfold Host.gather
  congr 1
  funext q
  refine Fin.ext ?_
  show gather_S32x16_S128x256x1_S128x256x16_2_0_n_n_0_2_116.start (ix3 a k h) idx q + gather_S32x16_S128x256x1_S128x256x16_2_0_n_n_0_2_116.batchCoord (ix3 a k h) q
      + gather_S32x16_S128x256x1_S128x256x16_2_0_n_n_0_2_116.offCoord (ix3 a k h) q = _
  have h01 : q = 0 ∨ q = 1 := by
    match q with
    | ⟨0, _⟩ => exact Or.inl rfl
    | ⟨1, _⟩ => exact Or.inr rfl
  have hj' : (BitVec.ofNat 32 j.val).toInt = (j.val : ℤ) := by
    have := j.isLt
    rw [BitVec.toInt_ofNat']; exact Int.bmod_eq_of_le (by omega) (by omega)
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 a k h) ⟨List.idxOf (0 : Fin 2) gather_S32x16_S128x256x1_S128x256x16_2_0_n_n_0_2_116.startIndexMap,
        List.idxOf_lt_length_iff.2 (List.mem_singleton.mpr rfl)⟩ = ix3 a k 0 := by
      funext b; refine Fin.ext ?_
      match b with
      | ⟨0, _⟩ => rfl
      | ⟨1, _⟩ => rfl
      | ⟨2, _⟩ => rfl
    rw [hsi, hj, hj']
    show min (j.val : ℤ).toNat (32 - 1) = j.val
    have := j.isLt
    omega
  · unfold GatherDims.start
    rw [dif_neg (show ¬ (1 : Fin 2) ∈ gather_S32x16_S128x256x1_S128x256x16_2_0_n_n_0_2_116.startIndexMap from by decide)]
    simp only [Nat.zero_add]
    unfold GatherDims.offCoord
    rw [dif_pos (by decide)]
    rfl

/-- The bias of a query row and a key column. -/
theorem v80_at (a : Fin 128) (k : Fin 256) (h : Fin 16) (j : Fin 32) (hj : (val_main_v73 (F := Ideal) : IVec S128x256 32) (ix2 a k) = BitVec.ofNat 32 j.val) :
    (val_main_v80 (F := Ideal) x1 : Vec Ideal S128x256x16 .f32) (ix3 a k h) = x1 (ix2 j h) := by
  refine gather_at x1 (val_main_v79 (F := Ideal)) a k h j ?_
  pointwise [val_main_v79, val_main_v78, val_main_v77, val_main_v76, val_main_v75, val_main_v74, val_main_c_16, val_main_c_17]
  refine Eq.trans ?_ hj
  rw [hj]
  have hl : (BitVec.ofNat 32 j.val).slt 0#32 = false := by
    have := j.isLt
    rw [BitVec.slt_eq_decide, BitVec.toInt_ofNat', show ((j.val : ℤ)).bmod (2 ^ 32) = j.val from Int.bmod_eq_of_le (by omega) (by omega)]
    simp
  unfold Scalar.select IntOp.cmpi
  simp [hl]

/-- The scores. -/
theorem v86_at (b r : Fin 4) (h : Fin 16) (n : Fin 8) (a : Fin 128) (k : Fin 256) :
    (val_main_v86 (F := Ideal) x0 x1 : Vec Ideal S4x4x16x8x128x256 .f32) (ix6 b r h n a k)
      = Scalar.select ((val_main_v51 (F := Ideal) : IVec S8x128x256 1) (ix3 n a k))
          ((val_main_v19 (F := Ideal) x0 : Vec Ideal S4x4x16x8x128x256 .f32) (ix6 b r h n a k) * Ideal.ofBits .f32 0x3E000000#32
            + (val_main_v80 (F := Ideal) x1 : Vec Ideal S128x256x16 .f32) (ix3 a k h)) (⊥ : EReal) := by
  pointwise [val_main_v86, val_main_call3_v0, val_main_call3_v1, val_main_call3_v2, val_main_v85, val_main_v84, val_main_v83, val_main_v82, val_main_v81, val_main_cst, val_main_cst_18,
    val_main_v20, val_main_v21]
  refine congrArg (Scalar.select _ _) ?_
  show (Ideal.ofBits .f32 0xFF800000#32 : EReal) = ⊥
  simp [Ideal.ofBits, Ideal.ieee]

end Cert.ReferenceIdeal.Attn
end
-- ==== Proof.RefRows.lean ====
/-
  The reference's maximum, weights and sum of a row of scores.
-/
module

public import proofs.«01_k».proof.Proof.Gen.ReferenceIdeal.Read
public import proofs.«01_k».proof.Proof.Softmax
public import Idealize.ShloMosaic.Lib.Pointwise
public import Idealize.ShloMosaic.Lib.Pipeline.ValueKit

@[expose] public section
set_option maxRecDepth 16384
set_option maxHeartbeats 1000000
noncomputable section
namespace Cert.ReferenceIdeal.Attn

open Idealize.ShloMosaic Idealize.ShloMosaic.TcCoe Idealize.ShloMosaic.Tactic
open Cert.ReferenceIdeal Cert.ReferenceIdeal.Gen Cert.ReferenceIdeal.Read
open Cert.Attn (mx)

variable (x0 : Vec Ideal S4x4x1024x3072 .f32) (x1 : Vec Ideal S32x16 .f32)

/-- The index of a row's score. -/
theorem row_fiber (h : S4x4x16x8x128x256.ReducesTo [5] S4x4x16x8x128) (b r : Fin 4) (hd : Fin 16) (n : Fin 8) (a : Fin 128) (i : S4x4x16x8x128x256.Idx) :
    h.drop i = ix5 b r hd n a ↔ ∃ k : Fin 256, ix6 b r hd n a k = i := by
  constructor
  · intro e
    refine ⟨i 5, ?_⟩
    funext q; apply Fin.ext
    match q with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext q; apply Fin.ext
    match q with
    | ⟨0, _⟩ => rfl
    | ⟨1, _⟩ => rfl
    | ⟨2, _⟩ => rfl
    | ⟨3, _⟩ => rfl
    | ⟨4, _⟩ => rfl

/-- A row's largest score. -/
theorem v87_at (b r : Fin 4) (h : Fin 16) (n : Fin 8) (a : Fin 128) :
    (val_main_v87 (F := Ideal) x0 x1 : Vec Ideal S4x4x16x8x128 .f32) (ix5 b r h n a)
      = mx (fun k : Fin 256 => (val_main_v86 (F := Ideal) x0 x1 : Vec Ideal S4x4x16x8x128x256 .f32) (ix6 b r h n a k)) := by
  pointwise [val_main_v87, val_main_cst_19]
  rw [show (Ideal.ofBits .f32 0xFF800000#32 : EReal) = ⊥ from by simp [Ideal.ofBits, Ideal.ieee]]
  exact Finset.fold_filter_eq_fold_of_fiber _ _ (fun k : Fin 256 => ix6 b r h n a k) (fun _ _ e => congrFun e 5) (fun i => row_fiber _ b r h n a i) _ _

/-- A row's weights. -/
theorem v91_at (b r : Fin 4) (h : Fin 16) (n : Fin 8) (a : Fin 128) (k : Fin 256) :
    (val_main_v91 (F := Ideal) x0 x1 : Vec Ideal S4x4x16x8x128x256 .f32) (ix6 b r h n a k)
      = Ideal.exp ((val_main_v86 (F := Ideal) x0 x1 : Vec Ideal S4x4x16x8x128x256 .f32) (ix6 b r h n a k)
          - (val_main_v87 (F := Ideal) x0 x1 : Vec Ideal S4x4x16x8x128 .f32) (ix5 b r h n a)) := by
  pointwise [val_main_v91, val_main_v90, val_main_v89, val_main_v88]

/-- A row's sum of weights. -/
theorem v92_at (b r : Fin 4) (h : Fin 16) (n : Fin 8) (a : Fin 128) :
    (val_main_v92 (F := Ideal) x0 x1 : Vec Ideal S4x4x16x8x128 .f32) (ix5 b r h n a)
      = ∑ k : Fin 256, (val_main_v91 (F := Ideal) x0 x1 : Vec Ideal S4x4x16x8x128x256 .f32) (ix6 b r h n a k) := by
  refine (val_main_v92_apply x0 x1 (ix5 b r h n a)).trans ?_
  rw [show (val_main_cst_20 (F := Ideal) : Vec Ideal S_ .f32) _ = (0 : EReal) from by
    pointwise [val_main_cst_20], zero_add]
  refine Finset.sum_congr rfl fun k _ => congrArg _ (funext fun q => Fin.ext ?_)
  match q with
  | ⟨0, _⟩ => rfl
  | ⟨1, _⟩ => rfl
  | ⟨2, _⟩ => rfl
  | ⟨3, _⟩ => rfl
  | ⟨4, _⟩ => rfl
  | ⟨5, _⟩ => rfl

end Cert.ReferenceIdeal.Attn
end
-- ==== Proof.RefResults.lean ====
/-
  The reference's two results at an index.
-/
module

public import proofs.«01_k».proof.Proof.Gen.ReferenceIdeal.Read
public import proofs.«01_k».proof.Proof.Softmax
public import Idealize.ShloMosaic.Lib.Pointwise
public import Idealize.ShloMosaic.Lib.Pipeline.ValueKit
public import Idealize.ShloMosaic.Lib.ValueIdxRank6

@[expose] public section
set_option maxRecDepth 16384
set_option maxHeartbeats 1000000
noncomputable section
namespace Cert.ReferenceIdeal.Attn

open Idealize.ShloMosaic Idealize.ShloMosaic.TcCoe Idealize.ShloMosaic.Tactic
open Cert.ReferenceIdeal Cert.ReferenceIdeal.Gen Cert.ReferenceIdeal.Read
open Cert.Attn (mx)

variable (x0 : Vec Ideal S4x4x1024x3072 .f32) (x1 : Vec Ideal S32x16 .f32)

theorem v96_at (b r : Fin 4) (h : Fin 16) (n : Fin 8) (a : Fin 128) (d : Fin 64) :
    (val_main_v96 (F := Ideal) x0 x1 : Vec Ideal S4x4x16x8x128x64 .f32) (ix6 b r h n a d)
      = Ideal.div (∑ k : Fin 256, (val_main_v91 (F := Ideal) x0 x1 : Vec Ideal S4x4x16x8x128x256 .f32) (ix6 b r h n a k)
            * (val_main_v18 (F := Ideal) x0 : Vec Ideal S4x4x16x8x256x64 .f32) (ix6 b r h n k d))
          ((val_main_v92 (F := Ideal) x0 x1 : Vec Ideal S4x4x16x8x128 .f32) (ix5 b r h n a)) := by
  pointwise [val_main_v96, val_main_v95, val_main_v94, val_main_v93]

theorem v100_at (b r : Fin 4) (h : Fin 16) (l : Fin 1024) (d : Fin 64) :
    (val_main_v100 (F := Ideal) x0 x1 : Vec Ideal S4x4x16x1024x64 .f32) (ix5 b r h l d)
      = (val_main_v96 (F := Ideal) x0 x1 : Vec Ideal S4x4x16x8x128x64 .f32) (ix6 b r h ⟨l.val / 128, by omega⟩ ⟨l.val % 128, by omega⟩ d) := by
  pointwise [val_main_v100]

theorem v101_at (b r : Fin 4) (l : Fin 1024) (h : Fin 16) (d : Fin 64) :
    (val_main_v101 (F := Ideal) x0 x1 : Vec Ideal S4x4x1024x16x64 .f32) (ix5 b r l h d)
      = (val_main_v100 (F := Ideal) x0 x1 : Vec Ideal S4x4x16x1024x64 .f32) (ix5 b r h l d) := by
  pointwise [val_main_v101]

theorem v102_at (b r : Fin 4) (l : Fin 1024) (c : Fin 1024) :
    (val_main_v102 (F := Ideal) x0 x1 : Vec Ideal S4x4x1024x1024 .f32) (ix4 b r l c)
      = (val_main_v101 (F := Ideal) x0 x1 : Vec Ideal S4x4x1024x16x64 .f32) (ix5 b r l ⟨c.val / 64, by omega⟩ ⟨c.val % 64, by omega⟩) := by
  pointwise [val_main_v102]

/-- The output. -/
theorem v105_at (b r : Fin 4) (l : Fin 1024) (c : Fin 1024) :
    (val_main_v105 (F := Ideal) x0 x1 : Vec Ideal S4x4x1024x1024 .bf16) (ix4 b r l c)
      = Ideal.div (∑ k : Fin 256, (val_main_v91 (F := Ideal) x0 x1 : Vec Ideal S4x4x16x8x128x256 .f32) (ix6 b r ⟨c.val / 64, by omega⟩ ⟨l.val / 128, by omega⟩ ⟨l.val % 128, by omega⟩ k)
            * (val_main_v18 (F := Ideal) x0 : Vec Ideal S4x4x16x8x256x64 .f32) (ix6 b r ⟨c.val / 64, by omega⟩ ⟨l.val / 128, by omega⟩ k ⟨c.val % 64, by omega⟩))
          ((val_main_v92 (F := Ideal) x0 x1 : Vec Ideal S4x4x16x8x128 .f32) (ix5 b r ⟨c.val / 64, by omega⟩ ⟨l.val / 128, by omega⟩ ⟨l.val % 128, by omega⟩)) := by
  pointwise [val_main_v105]
  exact (v102_at x0 x1 b r l c).trans ((v101_at x0 x1 b r l _ _).trans ((v100_at x0 x1 b r _ l _).trans (v96_at x0 x1 b r _ _ _ _)))

theorem v97_at (b r : Fin 4) (h : Fin 16) (n : Fin 8) (a : Fin 128) :
    (val_main_v97 (F := Ideal) x0 x1 : Vec Ideal S4x4x16x8x128 .f32) (ix5 b r h n a) = (val_main_v87 (F := Ideal) x0 x1 : Vec Ideal S4x4x16x8x128 .f32) (ix5 b r h n a) := by
  unfold val_main_v97
  refine (shapeCast_apply _ _ (ix5 b r h n a) (ix6 b r h n a 0) ?_).trans ?_
  · rewrite [Shape.rowMajor_val_five, Shape.rowMajor_val_six]
    show ((((b.val * 4 + r.val) * 16 + h.val) * 8 + n.val) * 128 + a.val) * 1 + 0 = (((b.val * 4 + r.val) * 16 + h.val) * 8 + n.val) * 128 + a.val
    omega
  · pointwise [val_main_v88]

theorem add_log (p q : FVec Ideal S4x4x16x8x128 .f32) (i : S4x4x16x8x128.Idx) : addf p (Host.log q) i = (p i + Ideal.log (q i) : EReal) := rfl

/-- A row's log-sum-exp. -/
theorem v99_at (b r : Fin 4) (h : Fin 16) (n : Fin 8) (a : Fin 128) :
    (val_main_v99 (F := Ideal) x0 x1 : Vec Ideal S4x4x16x8x128 .f32) (ix5 b r h n a)
      = (val_main_v87 (F := Ideal) x0 x1 : Vec Ideal S4x4x16x8x128 .f32) (ix5 b r h n a) + Ideal.log ((val_main_v92 (F := Ideal) x0 x1 : Vec Ideal S4x4x16x8x128 .f32) (ix5 b r h n a)) := by
  unfold val_main_v99 val_main_v98
  refine (add_log _ _ _).trans ?_
  rw [v97_at]

theorem v103_at (b r : Fin 4) (h : Fin 16) (l : Fin 1024) :
    (val_main_v103 (F := Ideal) x0 x1 : Vec Ideal S4x4x16x1024 .f32) (ix4 b r h l)
      = (val_main_v99 (F := Ideal) x0 x1 : Vec Ideal S4x4x16x8x128 .f32) (ix5 b r h ⟨l.val / 128, by omega⟩ ⟨l.val % 128, by omega⟩) := by
  pointwise [val_main_v103]

theorem v104_at (b r : Fin 4) (l : Fin 1024) (h : Fin 16) :
    (val_main_v104 (F := Ideal) x0 x1 : Vec Ideal S4x4x1024x16 .f32) (ix4 b r l h)
      = (val_main_v99 (F := Ideal) x0 x1 : Vec Ideal S4x4x16x8x128 .f32) (ix5 b r h ⟨l.val / 128, by omega⟩ ⟨l.val % 128, by omega⟩) := by
  pointwise [val_main_v104]
  exact v103_at x0 x1 b r h l

/-- The log-sum-exp: a head a lane, zeros beyond. -/
theorem v106_at (b r : Fin 4) (l : Fin 1024) (c : Fin 128) :
    (val_main_v106 (F := Ideal) x0 x1 : Vec Ideal S4x4x1024x128 .f32) (ix4 b r l c)
      = if h : c.val < 16 then (val_main_v104 (F := Ideal) x0 x1 : Vec Ideal S4x4x1024x16 .f32) (ix4 b r l ⟨c.val, h⟩) else (0 : EReal) := by
  pointwise [val_main_v106, val_main_call4_v0, val_main_c_21]
  split
  · rfl
  · show (((0#32 : BitVec 32).toInt : ℝ) : EReal) = 0
    simp

end Cert.ReferenceIdeal.Attn
end
-- ==== Proof.Equal.lean ====
/-
  The kernel's two arrays are the reference's, over the extended reals.
-/
module

public import proofs.«01_k».proof.Proof.Whole
public import proofs.«01_k».proof.Proof.Bucket
public import proofs.«01_k».proof.Proof.RefTiles
public import proofs.«01_k».proof.Proof.RefScores
public import proofs.«01_k».proof.Proof.RefRows
public import proofs.«01_k».proof.Proof.RefResults

@[expose] public section
set_option maxRecDepth 16384
noncomputable section
namespace Cert.KernelIdeal.Attn

open Idealize.ShloMosaic Idealize.ShloMosaic.TcCoe Idealize.ShloMosaic.Tactic
open Cert.KernelIdeal Cert.KernelIdeal.Gen
open Cert.Attn (mx avg l2e l2e_pos)
open Cert.ReferenceIdeal.Read Cert.ReferenceIdeal.Attn

/-! ### The two programs' masks and buckets -/

theorem valid_eq : (val_main_v45 (F := Ideal) : IVec S128x256 1) = validV := rfl

theorem bucket_eq : (val_main_v73 (F := Ideal) : IVec S128x256 32) = bucketV Ideal := rfl

variable (X : Vec Ideal S4x4x1024x3072 .f32) (A : Vec Ideal S32x16 .f32)

/-- The bucket of a query row and a key column. -/
def buck (a : Fin 128) (k : Fin 256) : Fin 32 := (bucket_lt a k).choose

theorem buck_spec (a : Fin 128) (k : Fin 256) : bucketV Ideal (ix2 a k) = BitVec.ofNat 32 (buck a k).val := (bucket_lt a k).choose_spec

/-! ### The kernel's inputs -/

theorem one_lit : (Ideal.ofBits .f32 0x3F800000#32 : EReal) = ((1 : ℝ) : EReal) := by
  simp [Ideal.ofBits, Ideal.ieee]; rw [← EReal.coe_mul]; norm_num

theorem log2e_at : (log2eV (F := Ideal) ix0 : EReal) = (l2e : EReal) := by
  show Ideal.div (Ideal.ofBits .f32 0x3F800000#32) (Ideal.log (Ideal.ofBits .f32 0x40000000#32)) = _
  have h2 : (Ideal.ofBits .f32 0x40000000#32 : EReal) = ((2 : ℝ) : EReal) := by
    simp [Ideal.ofBits, Ideal.ieee]; rw [← EReal.coe_mul]; norm_num
  rw [one_lit, h2, Ideal.log_coe, if_neg (by norm_num), Ideal.div_coe Cert.Attn.log_two_pos.ne', ← EReal.coe_mul, one_mul, l2e]

theorem eighth_lit : (Ideal.ofBits .f32 0x3E000000#32 : EReal) = ((1 / 8 : ℝ) : EReal) := by
  simp [Ideal.ofBits, Ideal.ieee]; rw [← EReal.coe_mul]; norm_num

theorem qs_at (b r : Fin 4) (l : Fin 1024) (c : Fin 3072) :
    (qsV X : Vec Ideal S4x4x1024x3072 .bf16) (ix4 b r l c) = X (ix4 b r l c) * (if c.val < 1024 then (((1 / 8 : ℝ) : EReal) * (l2e : EReal)) else 1) := by
  have hc := c.isLt
  pointwise [qsV, scaleV]
  rw [eighth_lit, log2e_at, show (1024#32 : BitVec 32) = BitVec.ofNat 32 1024 from rfl, select_slt _ _ (by omega) (by omega)]

theorem bias_at (h : Fin 16) (a : Fin 128) (k : Fin 256) :
    (biasV validV (chain A (bucketV Ideal) 32) : Vec Ideal S16x128x256 .f32) (ix3 h a k)
      = Scalar.select (validV (ix2 a k)) (A (ix2 (buck a k) h) * (l2e : EReal)) ⊥ := by
  pointwise [biasV]
  rw [chain_of_eq A (bucketV Ideal) (buck a k) h a k (buck_spec a k) 32 (buck a k).isLt (le_refl _)]
  rw [log2e_at, neg_inf_eq]

/-! ### Scores, weights and results -/

/-- The kernel's bias array. -/
def BI : Vec Ideal S16x128x256 .f32 := biasV validV (chain A (bucketV Ideal) 32)

/-- The reference's scores of a query row. -/
def SR (b r : Fin 4) (h : Fin 16) (l : Fin 1024) : Fin 256 → EReal := fun k =>
  (val_main_v86 (F := Ideal) X A : Vec Ideal Cert.ReferenceIdeal.S4x4x16x8x128x256 .f32) (ix6 b r h ⟨l.val / 128, by omega⟩ ⟨l.val % 128, by omega⟩ k)

/-- Where there is no such key the reference's score is minus infinity. -/
theorem SR_masked (b r : Fin 4) (h : Fin 16) (l : Fin 1024) (k : Fin 256) (hk : ¬ 128 ≤ l.val / 128 * 128 + k.val) : SR X A b r h l k = ⊥ := by
  unfold SR
  rw [v86_at, v51_at, if_neg hk]
  unfold Scalar.select IntOp.andi
  rw [BitVec.and_zero]
  rfl

/-- A product of a scaled query and a key. -/
theorem term_eq (x y : EReal) : x * (((1 / 8 : ℝ) : EReal) * (l2e : EReal)) * (y * 1) = ((1 / 8 * l2e : ℝ) : EReal) * (x * y) := by
  rw [mul_one, ← EReal.coe_mul, mul_comm x, mul_assoc]

/-- The kernel's scores are the reference's, scaled. -/
theorem score_eq (b r : Fin 4) (h : Fin 16) (l : Fin 1024) (k : Fin 256) : S2 (qsV X) (BI A) b r h l k = (l2e : EReal) * SR X A b r h l k := by
  have hl := l.isLt
  have hh := h.isLt
  have hkk := k.isLt
  by_cases hk : 128 ≤ l.val / 128 * 128 + k.val
  · unfold S2 BI SR
    rw [bias_at, if_neg (by omega), add_zero, v86_at, v51_at, if_pos hk, valid_eq]
    have ea : (md 128 l.val : Fin 128) = ⟨l.val % 128, by omega⟩ := rfl
    rw [ea]
    generalize validV (ix2 (⟨l.val % 128, by omega⟩ : Fin 128) k) = v
    have hv : v = 0#1 ∨ v = 1#1 := by
      rcases BitVec.eq_zero_or_eq_one v with h | h
      · exact Or.inl h
      · exact Or.inr h
    rcases hv with rfl | rfl
    · show _ + (⊥ : EReal) = (l2e : EReal) * ⊥
      rw [EReal.add_bot, EReal.coe_mul_bot_of_pos l2e_pos]
    · show _ + A (ix2 _ h) * (l2e : EReal) = (l2e : EReal) * (_ * _ + _)
      rw [v19_at X b r h ⟨l.val / 128, by omega⟩ ⟨l.val % 128, by omega⟩ k hk, v80_at A ⟨l.val % 128, by omega⟩ k h (buck ⟨l.val % 128, by omega⟩ k) (by rw [bucket_eq]; exact buck_spec _ k), eighth_lit,
        EReal.left_distrib_of_nonneg_of_ne_top (by exact_mod_cast l2e_pos.le) (EReal.coe_ne_top l2e), mul_comm (A _) (l2e : EReal)]
      congr 1
      rw [mul_comm _ (((1 / 8 : ℝ) : EReal)), ← mul_assoc, ← EReal.coe_mul, mul_comm l2e, Cert.Attn.pos_mul_sum (by have := l2e_pos; positivity)]
      refine Finset.sum_congr rfl fun e _ => ?_
      have he := e.isLt
      rw [qs_at, qs_at, if_pos (by rw [md_val]; omega), if_neg (by rw [md_val]; omega), term_eq]
      refine congrArg₂ (fun p q => _ * (p * q)) (congrArg X ?_) (congrArg X ?_)
      · exact congrArg₂ (fun (p : Fin 1024) (q : Fin 3072) => ix4 b r p q) (Fin.ext (by show l.val = l.val / 128 * 128 + l.val % 128; omega))
          (Fin.ext (by show (64 * h.val + e.val) % 3072 = h.val * 64 + e.val; omega))
      · refine congrArg₂ (fun (p : Fin 1024) (q : Fin 3072) => ix4 b r p q) (Fin.ext ?_)
          (Fin.ext (by show (1024 + 64 * h.val + e.val) % 3072 = 1024 + h.val * 64 + e.val; omega))
        unfold krow
        rw [if_neg (by omega), md_val]
        show _ = l.val / 128 * 128 + k.val - 128
        omega
  · rw [SR_masked X A b r h l k hk]
    unfold S2
    rw [if_pos (by omega), EReal.add_bot, EReal.coe_mul_bot_of_pos l2e_pos]

theorem scores_eq (b r : Fin 4) (h : Fin 16) (l : Fin 1024) : S2 (qsV X) (BI A) b r h l = fun k => (l2e : EReal) * SR X A b r h l k :=
  funext fun k => score_eq X A b r h l k

/-- The reference's weights of a query row. -/
def WR (b r : Fin 4) (h : Fin 16) (l : Fin 1024) : Fin 256 → EReal := fun k => Ideal.exp (SR X A b r h l k - mx (SR X A b r h l))

theorem weights_eq (b r : Fin 4) (h : Fin 16) (l : Fin 1024) : W2 (qsV X) (BI A) b r h l = WR X A b r h l := by
  funext k
  unfold W2
  rw [scores_eq]
  exact Cert.Attn.weight_scale (SR X A b r h l) k

theorem v91_row (b r : Fin 4) (h : Fin 16) (l : Fin 1024) (k : Fin 256) :
    (val_main_v91 (F := Ideal) X A : Vec Ideal Cert.ReferenceIdeal.S4x4x16x8x128x256 .f32) (ix6 b r h ⟨l.val / 128, by omega⟩ ⟨l.val % 128, by omega⟩ k) = WR X A b r h l k := by
  rw [v91_at, v87_at]; rfl

theorem v92_row (b r : Fin 4) (h : Fin 16) (l : Fin 1024) :
    (val_main_v92 (F := Ideal) X A : Vec Ideal Cert.ReferenceIdeal.S4x4x16x8x128 .f32) (ix5 b r h ⟨l.val / 128, by omega⟩ ⟨l.val % 128, by omega⟩) = ∑ k, WR X A b r h l k := by
  rw [v92_at]
  exact Finset.sum_congr rfl fun k _ => v91_row X A b r h l k

/-- The output arrays agree. -/
theorem out_eq : G6 (qsV X) (BI A) = (val_main_v105 (F := Ideal) X A : Vec Ideal S4x4x1024x1024 .bf16) := by
  funext y
  obtain ⟨b, r, l, c, rfl⟩ : ∃ (b r : Fin 4) (l c : Fin 1024), y = ix4 b r l c := ⟨y 0, y 1, y 2, y 3, funext fun q => by match q with
    | ⟨0, _⟩ => rfl
    | ⟨1, _⟩ => rfl
    | ⟨2, _⟩ => rfl
    | ⟨3, _⟩ => rfl⟩
  have hc := c.isLt
  have hl := l.isLt
  rw [v105_at X A b r l c, v92_row]
  show avg (W2 (qsV X) (BI A) b r (md 16 (c.val / 64)) l) (fun k => qsV X (ix4 b r (krow (l.val / 128) k) (md 3072 (2048 + c.val)))) = _
  have eh : (md 16 (c.val / 64) : Fin 16) = ⟨c.val / 64, by omega⟩ := Fin.ext (by show c.val / 64 % 16 = c.val / 64; omega)
  rw [eh, weights_eq]
  refine (Cert.Attn.avg_congr _ _ (fun k => (val_main_v18 (F := Ideal) X : Vec Ideal Cert.ReferenceIdeal.S4x4x16x8x256x64 .f32)
    (ix6 b r ⟨c.val / 64, by omega⟩ ⟨l.val / 128, by omega⟩ k ⟨c.val % 64, by omega⟩)) fun k => ?_).trans ?_
  · have hkk := k.isLt
    by_cases hk : 128 ≤ l.val / 128 * 128 + k.val
    · right
      rw [v18_at X b r ⟨c.val / 64, by omega⟩ ⟨l.val / 128, by omega⟩ k ⟨c.val % 64, by omega⟩ hk, qs_at, if_neg (by rw [md_val]; omega), mul_one]
      refine congrArg X (congrArg₂ (fun (p : Fin 1024) (q : Fin 3072) => ix4 b r p q) (Fin.ext ?_)
          (Fin.ext (by show (2048 + c.val) % 3072 = 2048 + c.val / 64 * 64 + c.val % 64; omega)))
      unfold krow
      rw [if_neg (by omega), md_val]
      show _ = l.val / 128 * 128 + k.val - 128
      omega
    · left
      unfold WR
      rw [SR_masked X A b r _ l k hk, Cert.Attn.weight_masked]
  · unfold avg
    refine congrArg (fun z => Ideal.div z _) (Finset.sum_congr rfl fun k _ => ?_)
    rw [v91_row]

/-- The log-sum-exp arrays agree. -/
theorem lse_eq : G7 (qsV X) (BI A) = (val_main_v106 (F := Ideal) X A : Vec Ideal S4x4x1024x128 .f32) := by
  funext y
  obtain ⟨b, r, l, c, rfl⟩ : ∃ (b r : Fin 4) (l : Fin 1024) (c : Fin 128), y = ix4 b r l c := ⟨y 0, y 1, y 2, y 3, funext fun q => by match q with
    | ⟨0, _⟩ => rfl
    | ⟨1, _⟩ => rfl
    | ⟨2, _⟩ => rfl
    | ⟨3, _⟩ => rfl⟩
  have hl := l.isLt
  rw [v106_at X A b r l c]
  show (if c.val < 16 then mx (S2 (qsV X) (BI A) b r (md 16 c.val) l) * ((Real.log 2 : ℝ) : EReal) + Ideal.log (∑ k, W2 (qsV X) (BI A) b r (md 16 c.val) l k) else 0) = _
  by_cases hc : c.val < 16
  · rw [if_pos hc, dif_pos hc, v104_at, v99_at, v92_row, v87_at]
    have eh : (md 16 c.val : Fin 16) = ⟨c.val, hc⟩ := Fin.ext (by show c.val % 16 = c.val; omega)
    rw [eh, weights_eq, scores_eq, Cert.Attn.mx_scale l2e_pos, Cert.Attn.unscale]
    rfl
  · rw [if_neg hc, dif_neg hc]

end Cert.KernelIdeal.Attn
end
-- ==== Proof.Mid.lean ====
/-
  The second group's projection.
-/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import Idealize.ShloMosaic.Lib.StableHlo.RunRead

@[expose] public section
set_option maxRecDepth 16384
noncomputable section
namespace Cert.Kernel2Ideal.Mid

open Idealize.ShloMosaic Idealize.ShloMosaic.TcCoe Idealize.ShloMosaic.Tactic
open Idealize.SL Idealize.SL.Sem
open Idealize.ShloMosaic.Pipeline (Dat Cfg Window)
open Cert.Kernel2Ideal Cert.Kernel2Ideal.Gen

/-- Which block each window stages at a point. -/
theorem idx : ∀ t : Fin grid0.N,
    (win0_0.index t 0 = t.val ∧ win0_0.index t 1 = 0) ∧ (win0_1.index t 0 = 0 ∧ win0_1.index t 1 = 1)
    ∧ (win0_2.index t 0 = t.val / 4 ∧ win0_2.index t 1 = 0 ∧ win0_2.index t 2 = t.val % 4 ∧ win0_2.index t 3 = 0) := by
  decide +kernel

/-- The blocks written back cover the output. -/
theorem covers : (cfg0.win 2).Covers := by decide +kernel

/-! ### The rows' columns, kept 128 at a time -/

/-- The block's columns, 128 to a plane. -/
def planes (x0 : Vec Ideal S1024x1024 .f32) : Vec Ideal S8x1024x128 .f32 := fun y =>
  x0 (ix2 (y 1) ⟨128 * (y 0).val + (y 2).val, by have h0 := (y 0).isLt; have h2 := (y 2).isLt; change (y 0).val < 8 at h0; change (y 2).val < 128 at h2; omega⟩)

/-- What the eight stores leave. -/
theorem planes_eq (c : Dev nD) (a2 h2) (x0 : Vec Ideal S1024x1024 .f32) :
    View.canon (kernelRun0_A.sl.HS1_8 (F := Ideal) c a2 h2 x0) = planes x0 := by
  funext y
  unfold kernelRun0_A.sl.HS1_8
  canon_tiles x h
  all_goals (
    simp only [kernelRun0_A.sl.v101, kernelRun0_A.sl.v104, kernelRun0_A.sl.v106, kernelRun0_A.sl.v109, kernelRun0_A.sl.v111, kernelRun0_A.sl.v114, kernelRun0_A.sl.v76, kernelRun0_A.sl.v79, kernelRun0_A.sl.v81, kernelRun0_A.sl.v84, kernelRun0_A.sl.v86, kernelRun0_A.sl.v89, kernelRun0_A.sl.v91, kernelRun0_A.sl.v94, kernelRun0_A.sl.v96, kernelRun0_A.sl.v99, View.readAt_eq_ld, Memref.IsWhole.read_unread]
    pointwise [planes]
    blk_ext)

/-- Two indices with the same coordinates. -/
theorem pair_ext {n m : ℕ} {a b : Fin n} {c d : Fin m} (h : a.val = b.val) (h' : c.val = d.val) : ix2 a c = ix2 b d := by
  rw [Fin.ext h, Fin.ext h']

/-- A strided read of them. -/
theorem read_planes (c : Dev nD) (a2 h2) (v : View sig .tc .vmem S8x1024x128 .f32) (x0 : Vec Ideal S1024x1024 .f32) (k r : ℕ) (hk : k < 8) (hr : r < 4)
    (inb : ∀ a, (![1, 256, 128] : Fin 3 → ℕ) a = 0 ∨ (![k, r, 0] : Fin 3 → ℕ) a + (![1, 4, 1] : Fin 3 → ℕ) a * ((![1, 256, 128] : Fin 3 → ℕ) a - 1) < S8x1024x128.size a) (p : Fin 256) (l : Fin 128) :
    v.readCov (kernelRun0_A.sl.HS1_8 (F := Ideal) c a2 h2 x0) { off := ![k, r, 0], size := ![1, 256, 128], stride := ![1, 4, 1], inb := inb } (ix3 0 p l)
      = x0 (ix2 ⟨4 * p.val + r, by omega⟩ ⟨128 * k + l.val, by omega⟩) := by
  rw [View.readCov_eq_canon', planes_eq]
  refine congrArg x0 (pair_ext ?_ ?_)
  · show r + 4 * p.val = 4 * p.val + r
    omega
  · show 128 * (k + 1 * 0) + (0 + 1 * l.val) = 128 * k + l.val
    omega

/-- The block's rows, residue by residue. -/
def rows (x0 : Vec Ideal S1024x1024 .f32) : Vec Ideal S1024x1024 .bf16 := fun y =>
  x0 (ix2 ⟨4 * ((y 0).val % 256) + (y 0).val / 256, by have h0 := (y 0).isLt; change (y 0).val < 1024 at h0; omega⟩ (y 1))

set_option maxHeartbeats 2000000 in
/-- What the rows' stores leave. -/
theorem rows_eq (c : Dev nD) (a2 h2 a6) (x0 : Vec Ideal S1024x1024 .f32) :
    View.canon (kernelRun0_A.sl.HS0_4 (F := Ideal) c a2 h2 a6 x0) = rows x0 := by
  funext y
  unfold kernelRun0_A.sl.HS0_4
  canon_tiles x h
  all_goals (
    simp only [kernelRun0_A.sl.r, kernelRun0_A.sl.r_1, kernelRun0_A.sl.v115, kernelRun0_A.sl.v116, kernelRun0_A.sl.v117, kernelRun0_A.sl.v118, kernelRun0_A.sl.v119, kernelRun0_A.sl.v120, kernelRun0_A.sl.v121, kernelRun0_A.sl.v122, kernelRun0_A.sl.v123, kernelRun0_A.sl.v124, kernelRun0_A.sl.v125, kernelRun0_A.sl.v126, kernelRun0_A.sl.v127, kernelRun0_A.sl.v129, kernelRun0_A.sl.v136, kernelRun0_A.sl.v138, kernelRun0_A.sl.v140, kernelRun0_A.sl.v142, kernelRun0_A.sl.v144, kernelRun0_A.sl.v146, kernelRun0_A.sl.v148, kernelRun0_A.sl.v150, kernelRun0_A.sl.v157, kernelRun0_A.sl.v159, kernelRun0_A.sl.v161, kernelRun0_A.sl.v163, kernelRun0_A.sl.v165, kernelRun0_A.sl.v167, kernelRun0_A.sl.v169, kernelRun0_A.sl.v171, kernelRun0_A.sl.v178, kernelRun0_A.sl.v180, kernelRun0_A.sl.v182, kernelRun0_A.sl.v184, kernelRun0_A.sl.v186, kernelRun0_A.sl.v188, kernelRun0_A.sl.v190, kernelRun0_A.sl.v192, read_planes]
    pointwise [planes, rows, k0_pay20, k0_pay21, k0_pay22, k0_pay23, k0_pay24, k0_pay25]
    repeat' split
    all_goals (
      refine (read_planes _ _ _ _ _ _ _ (by decide) (by decide) _ _ _).trans ?_
      refine congrArg x0 (pair_ext ?_ ?_)
      · show _ = 4 * ((y 0).val % 256) + (y 0).val / 256
        rw [h0]; simp only []; omega
      · show _ = (y 1).val
        rw [h1]; simp only []; omega))

/-- The rows as the products read them. -/
theorem v3_eq (c : Dev nD) (a2 h2 a5 a6) (x0 : Vec Ideal S1024x1024 .f32) :
    (kernelRun0_A.sl.v3 (F := Ideal) c a2 h2 a5 a6 x0 : Vec Ideal S1024x1024 .bf16) = rows x0 := by
  unfold kernelRun0_A.sl.v3
  rw [View.readCov_eq_canon', rows_eq]
  funext y
  refine congrArg (rows x0) (funext fun z => Fin.ext ?_)
  match z with
  | ⟨0, _⟩ => show 0 + 1 * (y 0).val = (y 0).val; omega
  | ⟨1, _⟩ => show 0 + 1 * (y 1).val = (y 1).val; omega

set_option maxHeartbeats 2000000 in
/-- What the body leaves: the block's rows times the weights. -/
theorem out_at (c : Dev nD) (i : grid0.Coords) (a2 h2 a3 h3 a4 h4 a5 h5 a6 h6 hc)
    (x0 : Vec Ideal S1024x1024 .f32) (x1 : Vec Ideal S1024x3072 .bf16) (z0 : Fin 1) (r : Fin 4) (a : Fin 256) (j : Fin 3072) :
    (out0_A_2 c i a2 h2 a3 h3 a4 h4 a5 h5 a6 h6 hc x0 x1 : Vec Ideal S1x4x256x3072 .bf16) (ix4 z0 r a j) = (∑ e : Fin 1024, x0 (ix2 ⟨4 * a.val + r.val, by omega⟩ e) * x1 (ix2 e j) : EReal) := by
  unfold out0_A_2
  dsimp only [kernelRun0_A]
  rw [View.read_writes_junk_eq_canon]
  have hr : ∀ (q : Fin 1024) (hq : q.val = 256 * r.val + a.val) (e : Fin 1024), rows x0 (ix2 q e) = x0 (ix2 ⟨4 * a.val + r.val, by omega⟩ e) := fun q hq e =>
    congrArg x0 (pair_ext (by show 4 * (q.val % 256) + q.val / 256 = _; rw [hq]; simp only []; omega) rfl)
  simp only [kernelRun0_A.sl.r_2, kernelRun0_A.sl.r_3, v3_eq, View.readAt_eq_ld, Memref.IsWhole.read_unread]
  generalize rows x0 = R at hr
  canon_tiles x g
  all_goals (
    pointwise [k0_pay1, k0_pay2, k0_pay3, k0_pay4, k0_pay26, k0_pay27, k0_pay28, k0_pay29, k0_pay30, k0_pay31, k0_pay32, k0_pay33, k0_pay34, k0_pay35, k0_pay36, k0_pay37]
    refine Finset.sum_congr rfl fun e _ => ?_
    refine congr (congrArg _ (hr _ ?_ e)) (congrArg x1 (pair_ext rfl ?_))
    · have t1 : r.val = _ := g1
      have t2 : a.val = _ := g2
      rw [t1, t2]; simp only []; omega
    · exact g3.symm)

/-- The rows by the group's columns, as an array of the arguments: residue by residue. -/
def G (x : Vec Ideal S4x4096x1024 .f32) (w : Vec Ideal S1024x9216 .f32) : Vec Ideal S4x4x1024x3072 .bf16 := fun y =>
  (∑ e : Fin 1024, x (ix3 (y 0) ⟨(y 2).val * 4 + (y 1).val, by have h1 := (y 1).isLt; have h2 := (y 2).isLt; change (y 1).val < 4 at h1; change (y 2).val < 1024 at h2; omega⟩ e)
    * w (ix2 e ⟨3072 + (y 3).val, by have := (y 3).isLt; change (y 3).val < 3072 at this; omega⟩) : EReal)

/-- Two indices with the same coordinates. -/
theorem triple_ext {n m k : ℕ} {a b : Fin n} {c d : Fin m} {e : Fin k} (h : a.val = b.val) (h' : c.val = d.val) : ix3 a c e = ix3 b d e := by
  rw [Fin.ext h, Fin.ext h']

variable (M : (ℓ : Loc nD τ sig) → Buf (Elt Ideal) ℓ) (c : Dev nD)

/-- The flattened rows. -/
def xV (x : Vec Ideal S4x4096x1024 .f32) : Vec Ideal S16384x1024 .f32 := shapeCast S16384x1024 x shapeCasts_S4x4096x1024_S16384x1024

theorem xV_at (x : Vec Ideal S4x4096x1024 .f32) (r : Fin 16384) (e : Fin 1024) : xV x (ix2 r e) = x (ix3 ⟨r.val / 4096, by omega⟩ ⟨r.val % 4096, by omega⟩ e) := by
  refine shapeCast_apply _ _ _ _ ?_
  rw [Shape.rowMajor_val_three, Shape.rowMajor_val_two]
  show (r.val / 4096 * 4096 + r.val % 4096) * 1024 + e.val = r.val * 1024 + e.val
  omega

theorem V0 : (V M c main_v0 : Vec Ideal S16384x1024 .f32) = xV (M (c, main_arg0)) := by
  after_reads_simp
  rfl

/-- The weights, cast. -/
def wV (w : FVec Ideal S1024x9216 .f32) : FVec Ideal S1024x9216 .bf16 := truncf .bf16 w bitsLt_bf16_f32

theorem wV_at (w : FVec Ideal S1024x9216 .f32) (e : Fin 1024) (j : Fin 9216) : wV w (ix2 e j) = w (ix2 e j) := rfl

theorem V1 : (V M c main_v1 : FVec Ideal S1024x9216 .bf16) = wV (M (c, main_arg1)) := by
  after_reads_simp
  rfl

/-- The rows' block at a point. -/
theorem iblk0 (t : Fin cfg0.N) (X : Vec Ideal S16384x1024 .f32) (hX : V M c main_v0 = X) (a : Fin 1024) (e : Fin 1024) (ht : t.val < 16) :
    (iblk M c 0 t : Vec Ideal S1024x1024 .f32) (ix2 a e) = X (ix2 ⟨1024 * t.val + a.val, by omega⟩ e) := by
  subst hX
  have hi := (idx t).1
  blk_ext [iblk, hi]

/-- The weights' block is the group's columns. -/
theorem iblk1 (t : Fin cfg0.N) (W : Vec Ideal S1024x9216 .bf16) (hW : V M c main_v1 = W) (a : Fin 1024) (e : Fin 3072) :
    (iblk M c 1 t : Vec Ideal S1024x3072 .bf16) (ix2 a e) = W (ix2 a ⟨3072 + e.val, by omega⟩) := by
  subst hW
  have hi := (idx t).2.1
  blk_ext [iblk, hi]

/-- What a point writes back. -/
theorem out_whole (t : Fin cfg0.N) (ht : t.val < 16) (y : S1x4x256x3072.Idx) (hy1 : (y 1).val < 4) (hy2 : (y 2).val < 256) :
    (outsAt0 M c t : Vec Ideal S1x4x256x3072 .bf16) y
      = G (M (c, main_arg0)) (M (c, main_arg1)) (ix4 ⟨t.val / 4, by omega⟩ ⟨(y 1).val, hy1⟩ ⟨256 * (t.val % 4) + (y 2).val, by omega⟩ (y 3)) := by
  idx_vars y
  unfold outsAt0
  refine (out_at _ _ _ _ _ _ _ _ _ _ _ _ _ _ _ _ _ _ _ ).trans ?_
  unfold G
  refine Finset.sum_congr rfl fun e _ => ?_
  rw [iblk0 M c t _ (V0 M c) _ _ ht, iblk1 M c t _ (V1 M c), wV_at, xV_at]
  refine congr (congrArg _ (congrArg (M (c, Proc.tc.devRef main_arg0)) (triple_ext ?_ ?_))) rfl
  · show (1024 * t.val + (4 * y2.val + y1.val)) / 4096 = t.val / 4
    omega
  · show (1024 * t.val + (4 * y2.val + y1.val)) % 4096 = (256 * (t.val % 4) + y2.val) * 4 + y1.val
    omega

/-- The reference's stage is that product. -/
theorem ref_eq (x : Vec Ideal S4x4096x1024 .f32) (w : Vec Ideal S1024x9216 .f32) : Cert.Reference2Ideal.Read.val_main_v6 (F := Ideal) x w = G x w := by
  funext y
  idx_vars y
  pointwise [Cert.Reference2Ideal.Read.val_main_v6, Cert.Reference2Ideal.Read.val_main_v5, Cert.Reference2Ideal.Read.val_main_v4, Cert.Reference2Ideal.Read.val_main_v3, Cert.Reference2Ideal.Read.val_main_v2, Cert.Reference2Ideal.Read.val_main_v1, Cert.Reference2Ideal.Read.val_main_v0, G]

/-- The output array after the region. -/
theorem arr : (dats M 0 c).arrAt 2 cfg0.N = G (M (c, main_arg0)) (M (c, main_arg1)) := by
  generalize hG : G (M (c, main_arg0)) (M (c, main_arg1)) = g
  refine Dat.arrAt_eq_of_covers (dats M 0 c) 2 g covers fun t _ y => ?_
  have ht : t.val < 16 := t.isLt
  have hy := out_whole M c t ht y (y 1).isLt (y 2).isLt
  rw [hG] at hy
  rw [after0_2]
  generalize outsAt0 M c t = f at hy ⊢
  refine Eq.trans (b := f y) rfl (hy.trans ?_)
  clear hy hG
  have hi := (idx t).2.2
  blk_ext [hi]

end Cert.Kernel2Ideal.Mid
end
-- ==== Proof.Near.lean ====
/-
  The first group's projection.
-/
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise
public import Idealize.ShloMosaic.Lib.StableHlo.RunRead

@[expose] public section
set_option maxRecDepth 16384
noncomputable section
namespace Cert.Kernel3Ideal.Near

open Idealize.ShloMosaic Idealize.ShloMosaic.TcCoe Idealize.ShloMosaic.Tactic
open Idealize.SL Idealize.SL.Sem
open Idealize.ShloMosaic.Pipeline (Dat Cfg Window)
open Cert.Kernel3Ideal Cert.Kernel3Ideal.Gen

/-- Which block each window stages at a point. -/
theorem idx : ∀ t : Fin grid0.N,
    (win0_0.index t 0 = t.val ∧ win0_0.index t 1 = 0) ∧ (win0_1.index t 0 = 0 ∧ win0_1.index t 1 = 0)
    ∧ (win0_2.index t 0 = t.val / 4 ∧ win0_2.index t 1 = 0 ∧ win0_2.index t 2 = t.val % 4 ∧ win0_2.index t 3 = 0) := by
  decide +kernel

/-- The blocks written back cover the output. -/
theorem covers : (cfg0.win 2).Covers := by decide +kernel

/-- What the body leaves: the block's rows times the weights. -/
theorem out_at (c : Dev nD) (i : grid0.Coords) (a2 h2 a3 h3 a4 h4 a5 h5 a6 h6 hc)
    (x0 : Vec Ideal S1024x1024 .f32) (x1 : Vec Ideal S1024x3072 .bf16) (z0 z1 : Fin 1) (a : Fin 1024) (j : Fin 3072) :
    (out0_A_2 c i a2 h2 a3 h3 a4 h4 a5 h5 a6 h6 hc x0 x1 : Vec Ideal S1x1x1024x3072 .bf16) (ix4 z0 z1 a j) = (∑ e : Fin 1024, x0 (ix2 a e) * x1 (ix2 e j) : EReal) := by
  unfold out0_A_2
  frame_out
  clear h2 h3
  canon_tiles x h
  all_goals (
    open_payloads; pointwise
    have e0 : a = ⟨(x 2).val, x2_lt⟩ := Fin.ext h2
    have e1 := Fin.ext (show j.val = (⟨_, by first | exact h3.symm.trans_lt j.isLt | exact h3 ▸ j.isLt⟩ : Fin 3072).val from h3)
    rw [e0, e1]
    rfl)

/-- The rows by the group's columns, as an array of the arguments: residue by residue. -/
def G (x : Vec Ideal S4x4096x1024 .f32) (w : Vec Ideal S1024x9216 .f32) : Vec Ideal S4x1x4096x3072 .bf16 := fun y =>
  (∑ e : Fin 1024, x (ix3 (y 0) ⟨(y 2).val * 1 + (y 1).val, by have h1 := (y 1).isLt; have h2 := (y 2).isLt; change (y 1).val < 1 at h1; change (y 2).val < 4096 at h2; omega⟩ e)
    * w (ix2 e ⟨0 + (y 3).val, by have := (y 3).isLt; change (y 3).val < 3072 at this; omega⟩) : EReal)

/-- Two indices with the same coordinates. -/
theorem triple_ext {n m k : ℕ} {a b : Fin n} {c d : Fin m} {e : Fin k} (h : a.val = b.val) (h' : c.val = d.val) : ix3 a c e = ix3 b d e := by
  rw [Fin.ext h, Fin.ext h']

variable (M : (ℓ : Loc nD τ sig) → Buf (Elt Ideal) ℓ) (c : Dev nD)

/-- The flattened rows. -/
def xV (x : Vec Ideal S4x4096x1024 .f32) : Vec Ideal S16384x1024 .f32 := shapeCast S16384x1024 x shapeCasts_S4x4096x1024_S16384x1024

theorem xV_at (x : Vec Ideal S4x4096x1024 .f32) (r : Fin 16384) (e : Fin 1024) : xV x (ix2 r e) = x (ix3 ⟨r.val / 4096, by omega⟩ ⟨r.val % 4096, by omega⟩ e) := by
  refine shapeCast_apply _ _ _ _ ?_
  rw [Shape.rowMajor_val_three, Shape.rowMajor_val_two]
  show (r.val / 4096 * 4096 + r.val % 4096) * 1024 + e.val = r.val * 1024 + e.val
  omega

theorem V0 : (V M c main_v0 : Vec Ideal S16384x1024 .f32) = xV (M (c, main_arg0)) := by
  after_reads_simp
  rfl

/-- The weights, cast. -/
def wV (w : FVec Ideal S1024x9216 .f32) : FVec Ideal S1024x9216 .bf16 := truncf .bf16 w bitsLt_bf16_f32

theorem wV_at (w : FVec Ideal S1024x9216 .f32) (e : Fin 1024) (j : Fin 9216) : wV w (ix2 e j) = w (ix2 e j) := rfl

theorem V1 : (V M c main_v1 : FVec Ideal S1024x9216 .bf16) = wV (M (c, main_arg1)) := by
  after_reads_simp
  rfl

/-- The rows' block at a point. -/
theorem iblk0 (t : Fin cfg0.N) (X : Vec Ideal S16384x1024 .f32) (hX : V M c main_v0 = X) (a : Fin 1024) (e : Fin 1024) (ht : t.val < 16) :
    (iblk M c 0 t : Vec Ideal S1024x1024 .f32) (ix2 a e) = X (ix2 ⟨1024 * t.val + a.val, by omega⟩ e) := by
  subst hX
  have hi := (idx t).1
  blk_ext [iblk, hi]

/-- The weights' block is the group's columns. -/
theorem iblk1 (t : Fin cfg0.N) (W : Vec Ideal S1024x9216 .bf16) (hW : V M c main_v1 = W) (a : Fin 1024) (e : Fin 3072) :
    (iblk M c 1 t : Vec Ideal S1024x3072 .bf16) (ix2 a e) = W (ix2 a ⟨0 + e.val, by omega⟩) := by
  subst hW
  have hi := (idx t).2.1
  blk_ext [iblk, hi]

/-- What a point writes back. -/
theorem out_whole (t : Fin cfg0.N) (ht : t.val < 16) (y : S1x1x1024x3072.Idx) (hy1 : (y 1).val < 1) (hy2 : (y 2).val < 1024) :
    (outsAt0 M c t : Vec Ideal S1x1x1024x3072 .bf16) y
      = G (M (c, main_arg0)) (M (c, main_arg1)) (ix4 ⟨t.val / 4, by omega⟩ ⟨(y 1).val, hy1⟩ ⟨1024 * (t.val % 4) + (y 2).val, by omega⟩ (y 3)) := by
  idx_vars y
  unfold outsAt0
  refine (out_at _ _ _ _ _ _ _ _ _ _ _ _ _ _ _ _ _ _ _ ).trans ?_
  unfold G
  refine Finset.sum_congr rfl fun e _ => ?_
  rw [iblk0 M c t _ (V0 M c) _ _ ht, iblk1 M c t _ (V1 M c), wV_at, xV_at]
  refine congr (congrArg _ (congrArg (M (c, Proc.tc.devRef main_arg0)) (triple_ext ?_ ?_))) rfl
  · show (1024 * t.val + y2.val) / 4096 = t.val / 4
    omega
  · show (1024 * t.val + y2.val) % 4096 = (1024 * (t.val % 4) + y2.val) * 1 + y1.val
    omega

/-- The reference's stage is that product. -/
theorem ref_eq (x : Vec Ideal S4x4096x1024 .f32) (w : Vec Ideal S1024x9216 .f32) : Cert.Reference3Ideal.Read.val_main_v6 (F := Ideal) x w = G x w := by
  funext y
  idx_vars y
  pointwise [Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, G]

/-- The output array after the region. -/
theorem arr : (dats M 0 c).arrAt 2 cfg0.N = G (M (c, main_arg0)) (M (c, main_arg1)) := by
  generalize hG : G (M (c, main_arg0)) (M (c, main_arg1)) = g
  refine Dat.arrAt_eq_of_covers (dats M 0 c) 2 g covers fun t _ y => ?_
  have ht : t.val < 16 := t.isLt
  have hy := out_whole M c t ht y (y 1).isLt (y 2).isLt
  rw [hG] at hy
  rw [after0_2]
  generalize outsAt0 M c t = f at hy ⊢
  refine Eq.trans (b := f y) rfl (hy.trans ?_)
  clear hy hG
  have hi := (idx t).2.2
  blk_ext [hi]

end Cert.Kernel3Ideal.Near
end
-- ==== Proof.Far.lean ====
/-
  The third group's projection.
-/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.StableHlo.RunRead

@[expose] public section
set_option maxRecDepth 16384
noncomputable section
namespace Cert.Kernel4Ideal.Far

open Idealize.ShloMosaic Idealize.ShloMosaic.TcCoe Idealize.ShloMosaic.Tactic
open Idealize.SL Idealize.SL.Sem
open Idealize.ShloMosaic.Pipeline (Dat Cfg Window)
open Cert.Kernel4Ideal Cert.Kernel4Ideal.Gen

/-- Which block each window stages at a point. -/
theorem idx : ∀ t : Fin grid0.N,
    (win0_0.index t 0 = t.val ∧ win0_0.index t 1 = 0) ∧ (win0_1.index t 0 = 0 ∧ win0_1.index t 1 = 2)
    ∧ (win0_2.index t 0 = t.val / 4 ∧ win0_2.index t 1 = 0 ∧ win0_2.index t 2 = t.val % 4 ∧ win0_2.index t 3 = 0) := by
  decide +kernel

/-- The blocks written back cover the output. -/
theorem covers : (cfg0.win 2).Covers := by decide +kernel

/-! ### The rows' columns, kept 128 at a time -/

/-- The block's columns, 128 to a plane. -/
def planes (x0 : Vec Ideal S1024x1024 .f32) : Vec Ideal S8x1024x128 .f32 := fun y =>
  x0 (ix2 (y 1) ⟨128 * (y 0).val + (y 2).val, by have h0 := (y 0).isLt; have h2 := (y 2).isLt; change (y 0).val < 8 at h0; change (y 2).val < 128 at h2; omega⟩)

/-- What the eight stores leave. -/
theorem planes_eq (c : Dev nD) (a2 h2) (x0 : Vec Ideal S1024x1024 .f32) :
    View.canon (kernelRun0_A.sl.HS1_8 (F := Ideal) c a2 h2 x0) = planes x0 := by
  funext y
  unfold kernelRun0_A.sl.HS1_8
  canon_tiles x h
  all_goals (
    simp only [kernelRun0_A.sl.v256, kernelRun0_A.sl.v259, kernelRun0_A.sl.v261, kernelRun0_A.sl.v264, kernelRun0_A.sl.v266, kernelRun0_A.sl.v269, kernelRun0_A.sl.v271, kernelRun0_A.sl.v274, kernelRun0_A.sl.v276, kernelRun0_A.sl.v279, kernelRun0_A.sl.v281, kernelRun0_A.sl.v284, kernelRun0_A.sl.v286, kernelRun0_A.sl.v289, kernelRun0_A.sl.v291, kernelRun0_A.sl.v294, View.readAt_eq_ld, Memref.IsWhole.read_unread]
    pointwise [planes]
    blk_ext)

/-- Two indices with the same coordinates. -/
theorem pair_ext {n m : ℕ} {a b : Fin n} {c d : Fin m} (h : a.val = b.val) (h' : c.val = d.val) : ix2 a c = ix2 b d := by
  rw [Fin.ext h, Fin.ext h']

/-- A strided read of them. -/
theorem read_planes (c : Dev nD) (a2 h2) (v : View sig .tc .vmem S8x1024x128 .f32) (x0 : Vec Ideal S1024x1024 .f32) (k r : ℕ) (hk : k < 8) (hr : r < 16)
    (inb : ∀ a, (![1, 64, 128] : Fin 3 → ℕ) a = 0 ∨ (![k, r, 0] : Fin 3 → ℕ) a + (![1, 16, 1] : Fin 3 → ℕ) a * ((![1, 64, 128] : Fin 3 → ℕ) a - 1) < S8x1024x128.size a) (p : Fin 64) (l : Fin 128) :
    v.readCov (kernelRun0_A.sl.HS1_8 (F := Ideal) c a2 h2 x0) { off := ![k, r, 0], size := ![1, 64, 128], stride := ![1, 16, 1], inb := inb } (ix3 0 p l)
      = x0 (ix2 ⟨16 * p.val + r, by omega⟩ ⟨128 * k + l.val, by omega⟩) := by
  rw [View.readCov_eq_canon', planes_eq]
  refine congrArg x0 (pair_ext ?_ ?_)
  · show r + 16 * p.val = 16 * p.val + r
    omega
  · show 128 * (k + 1 * 0) + (0 + 1 * l.val) = 128 * k + l.val
    omega

/-- The block's rows, residue by residue. -/
def rows (x0 : Vec Ideal S1024x1024 .f32) : Vec Ideal S1024x1024 .bf16 := fun y =>
  x0 (ix2 ⟨16 * ((y 0).val % 64) + (y 0).val / 64, by have h0 := (y 0).isLt; change (y 0).val < 1024 at h0; omega⟩ (y 1))

set_option maxHeartbeats 2000000 in
/-- What the rows' stores leave. -/
theorem rows_eq (c : Dev nD) (a2 h2 a6) (x0 : Vec Ideal S1024x1024 .f32) :
    View.canon (kernelRun0_A.sl.HS0_16 (F := Ideal) c a2 h2 a6 x0) = rows x0 := by
  funext y
  unfold kernelRun0_A.sl.HS0_16
  canon_tiles x h
  all_goals (
    simp only [kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_35, kernelRun0_A.sl.r_4, kernelRun0_A.sl.r_5, kernelRun0_A.sl.r_6, kernelRun0_A.sl.r_7, kernelRun0_A.sl.r_8, kernelRun0_A.sl.r_9, kernelRun0_A.sl.v295, kernelRun0_A.sl.v296, kernelRun0_A.sl.v297, kernelRun0_A.sl.v298, kernelRun0_A.sl.v299, kernelRun0_A.sl.v300, kernelRun0_A.sl.v301, kernelRun0_A.sl.v302, kernelRun0_A.sl.v303, kernelRun0_A.sl.v304, kernelRun0_A.sl.v305, kernelRun0_A.sl.v306, kernelRun0_A.sl.v307, kernelRun0_A.sl.v309, kernelRun0_A.sl.v316, kernelRun0_A.sl.v318, kernelRun0_A.sl.v320, kernelRun0_A.sl.v322, kernelRun0_A.sl.v324, kernelRun0_A.sl.v326, kernelRun0_A.sl.v328, kernelRun0_A.sl.v330, kernelRun0_A.sl.v337, kernelRun0_A.sl.v339, kernelRun0_A.sl.v341, kernelRun0_A.sl.v343, kernelRun0_A.sl.v345, kernelRun0_A.sl.v347, kernelRun0_A.sl.v349, kernelRun0_A.sl.v351, kernelRun0_A.sl.v358, kernelRun0_A.sl.v360, kernelRun0_A.sl.v362, kernelRun0_A.sl.v364, kernelRun0_A.sl.v366, kernelRun0_A.sl.v368, kernelRun0_A.sl.v370, kernelRun0_A.sl.v372, kernelRun0_A.sl.v379, kernelRun0_A.sl.v381, kernelRun0_A.sl.v383, kernelRun0_A.sl.v385, kernelRun0_A.sl.v387, kernelRun0_A.sl.v389, kernelRun0_A.sl.v391, kernelRun0_A.sl.v393, kernelRun0_A.sl.v400, kernelRun0_A.sl.v402, kernelRun0_A.sl.v404, kernelRun0_A.sl.v406, kernelRun0_A.sl.v408, kernelRun0_A.sl.v410, kernelRun0_A.sl.v412, kernelRun0_A.sl.v414, kernelRun0_A.sl.v421, kernelRun0_A.sl.v423, kernelRun0_A.sl.v425, kernelRun0_A.sl.v427, kernelRun0_A.sl.v429, kernelRun0_A.sl.v431, kernelRun0_A.sl.v433, kernelRun0_A.sl.v435, kernelRun0_A.sl.v442, kernelRun0_A.sl.v444, kernelRun0_A.sl.v446, kernelRun0_A.sl.v448, kernelRun0_A.sl.v450, kernelRun0_A.sl.v452, kernelRun0_A.sl.v454, kernelRun0_A.sl.v456, kernelRun0_A.sl.v463, kernelRun0_A.sl.v465, kernelRun0_A.sl.v467, kernelRun0_A.sl.v469, kernelRun0_A.sl.v471, kernelRun0_A.sl.v473, kernelRun0_A.sl.v475, kernelRun0_A.sl.v477, kernelRun0_A.sl.v484, kernelRun0_A.sl.v486, kernelRun0_A.sl.v488, kernelRun0_A.sl.v490, kernelRun0_A.sl.v492, kernelRun0_A.sl.v494, kernelRun0_A.sl.v496, kernelRun0_A.sl.v498, kernelRun0_A.sl.v505, kernelRun0_A.sl.v507, kernelRun0_A.sl.v509, kernelRun0_A.sl.v511, kernelRun0_A.sl.v513, kernelRun0_A.sl.v515, kernelRun0_A.sl.v517, kernelRun0_A.sl.v519, kernelRun0_A.sl.v526, kernelRun0_A.sl.v528, kernelRun0_A.sl.v530, kernelRun0_A.sl.v532, kernelRun0_A.sl.v534, kernelRun0_A.sl.v536, kernelRun0_A.sl.v538, kernelRun0_A.sl.v540, kernelRun0_A.sl.v547, kernelRun0_A.sl.v549, kernelRun0_A.sl.v551, kernelRun0_A.sl.v553, kernelRun0_A.sl.v555, kernelRun0_A.sl.v557, kernelRun0_A.sl.v559, kernelRun0_A.sl.v561, kernelRun0_A.sl.v568, kernelRun0_A.sl.v570, kernelRun0_A.sl.v572, kernelRun0_A.sl.v574, kernelRun0_A.sl.v576, kernelRun0_A.sl.v578, kernelRun0_A.sl.v580, kernelRun0_A.sl.v582, kernelRun0_A.sl.v589, kernelRun0_A.sl.v591, kernelRun0_A.sl.v593, kernelRun0_A.sl.v595, kernelRun0_A.sl.v597, kernelRun0_A.sl.v599, kernelRun0_A.sl.v601, kernelRun0_A.sl.v603, kernelRun0_A.sl.v610, kernelRun0_A.sl.v612, kernelRun0_A.sl.v614, kernelRun0_A.sl.v616, kernelRun0_A.sl.v618, kernelRun0_A.sl.v620, kernelRun0_A.sl.v622, kernelRun0_A.sl.v624, read_planes]
    pointwise [planes, rows, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71]
    repeat' split
    all_goals (
      refine (read_planes _ _ _ _ _ _ _ (by decide) (by decide) _ _ _).trans ?_
      refine congrArg x0 (pair_ext ?_ ?_)
      · show _ = 16 * ((y 0).val % 64) + (y 0).val / 64
        rw [h0]; simp only []; omega
      · show _ = (y 1).val
        rw [h1]; simp only []; omega))

/-- The rows as the products read them. -/
theorem v3_eq (c : Dev nD) (a2 h2 a5 a6) (x0 : Vec Ideal S1024x1024 .f32) :
    (kernelRun0_A.sl.v3 (F := Ideal) c a2 h2 a5 a6 x0 : Vec Ideal S1024x1024 .bf16) = rows x0 := by
  unfold kernelRun0_A.sl.v3
  rw [View.readCov_eq_canon', rows_eq]
  funext y
  refine congrArg (rows x0) (funext fun z => Fin.ext ?_)
  match z with
  | ⟨0, _⟩ => show 0 + 1 * (y 0).val = (y 0).val; omega
  | ⟨1, _⟩ => show 0 + 1 * (y 1).val = (y 1).val; omega

set_option maxHeartbeats 2000000 in
/-- What the body leaves: the block's rows times the weights. -/
theorem out_at (c : Dev nD) (i : grid0.Coords) (a2 h2 a3 h3 a4 h4 a5 h5 a6 h6 hc)
    (x0 : Vec Ideal S1024x1024 .f32) (x1 : Vec Ideal S1024x3072 .bf16) (z0 : Fin 1) (r : Fin 16) (a : Fin 64) (j : Fin 3072) :
    (out0_A_2 c i a2 h2 a3 h3 a4 h4 a5 h5 a6 h6 hc x0 x1 : Vec Ideal S1x16x64x3072 .bf16) (ix4 z0 r a j) = (∑ e : Fin 1024, x0 (ix2 ⟨16 * a.val + r.val, by omega⟩ e) * x1 (ix2 e j) : EReal) := by
  unfold out0_A_2
  dsimp only [kernelRun0_A]
  rw [View.read_writes_junk_eq_canon]
  have hr : ∀ (q : Fin 1024) (hq : q.val = 64 * r.val + a.val) (e : Fin 1024), rows x0 (ix2 q e) = x0 (ix2 ⟨16 * a.val + r.val, by omega⟩ e) := fun q hq e =>
    congrArg x0 (pair_ext (by show 16 * (q.val % 64) + q.val / 64 = _; rw [hq]; simp only []; omega) rfl)
  simp only [kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, v3_eq, View.readAt_eq_ld, Memref.IsWhole.read_unread]
  generalize rows x0 = R at hr
  canon_tiles x g
  all_goals (
    pointwise [k0_pay1, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay2, k0_pay3, k0_pay4, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99]
    refine Finset.sum_congr rfl fun e _ => ?_
    refine congr (congrArg _ (hr _ ?_ e)) (congrArg x1 (pair_ext rfl ?_))
    · have t1 : r.val = _ := g1
      have t2 : a.val = _ := g2
      rw [t1, t2]; simp only []; omega
    · exact g3.symm)

/-- The rows by the group's columns, as an array of the arguments: residue by residue. -/
def G (x : Vec Ideal S4x4096x1024 .f32) (w : Vec Ideal S1024x9216 .f32) : Vec Ideal S4x16x256x3072 .bf16 := fun y =>
  (∑ e : Fin 1024, x (ix3 (y 0) ⟨(y 2).val * 16 + (y 1).val, by have h1 := (y 1).isLt; have h2 := (y 2).isLt; change (y 1).val < 16 at h1; change (y 2).val < 256 at h2; omega⟩ e)
    * w (ix2 e ⟨6144 + (y 3).val, by have := (y 3).isLt; change (y 3).val < 3072 at this; omega⟩) : EReal)

/-- Two indices with the same coordinates. -/
theorem triple_ext {n m k : ℕ} {a b : Fin n} {c d : Fin m} {e : Fin k} (h : a.val = b.val) (h' : c.val = d.val) : ix3 a c e = ix3 b d e := by
  rw [Fin.ext h, Fin.ext h']

variable (M : (ℓ : Loc nD τ sig) → Buf (Elt Ideal) ℓ) (c : Dev nD)

/-- The flattened rows. -/
def xV (x : Vec Ideal S4x4096x1024 .f32) : Vec Ideal S16384x1024 .f32 := shapeCast S16384x1024 x shapeCasts_S4x4096x1024_S16384x1024

theorem xV_at (x : Vec Ideal S4x4096x1024 .f32) (r : Fin 16384) (e : Fin 1024) : xV x (ix2 r e) = x (ix3 ⟨r.val / 4096, by omega⟩ ⟨r.val % 4096, by omega⟩ e) := by
  refine shapeCast_apply _ _ _ _ ?_
  rw [Shape.rowMajor_val_three, Shape.rowMajor_val_two]
  show (r.val / 4096 * 4096 + r.val % 4096) * 1024 + e.val = r.val * 1024 + e.val
  omega

theorem V0 : (V M c main_v0 : Vec Ideal S16384x1024 .f32) = xV (M (c, main_arg0)) := by
  after_reads_simp
  rfl

/-- The weights, cast. -/
def wV (w : FVec Ideal S1024x9216 .f32) : FVec Ideal S1024x9216 .bf16 := truncf .bf16 w bitsLt_bf16_f32

theorem wV_at (w : FVec Ideal S1024x9216 .f32) (e : Fin 1024) (j : Fin 9216) : wV w (ix2 e j) = w (ix2 e j) := rfl

theorem V1 : (V M c main_v1 : FVec Ideal S1024x9216 .bf16) = wV (M (c, main_arg1)) := by
  after_reads_simp
  rfl

/-- The rows' block at a point. -/
theorem iblk0 (t : Fin cfg0.N) (X : Vec Ideal S16384x1024 .f32) (hX : V M c main_v0 = X) (a : Fin 1024) (e : Fin 1024) (ht : t.val < 16) :
    (iblk M c 0 t : Vec Ideal S1024x1024 .f32) (ix2 a e) = X (ix2 ⟨1024 * t.val + a.val, by omega⟩ e) := by
  subst hX
  have hi := (idx t).1
  blk_ext [iblk, hi]

/-- The weights' block is the group's columns. -/
theorem iblk1 (t : Fin cfg0.N) (W : Vec Ideal S1024x9216 .bf16) (hW : V M c main_v1 = W) (a : Fin 1024) (e : Fin 3072) :
    (iblk M c 1 t : Vec Ideal S1024x3072 .bf16) (ix2 a e) = W (ix2 a ⟨6144 + e.val, by omega⟩) := by
  subst hW
  have hi := (idx t).2.1
  blk_ext [iblk, hi]

/-- What a point writes back. -/
theorem out_whole (t : Fin cfg0.N) (ht : t.val < 16) (y : S1x16x64x3072.Idx) (hy1 : (y 1).val < 16) (hy2 : (y 2).val < 64) :
    (outsAt0 M c t : Vec Ideal S1x16x64x3072 .bf16) y
      = G (M (c, main_arg0)) (M (c, main_arg1)) (ix4 ⟨t.val / 4, by omega⟩ ⟨(y 1).val, hy1⟩ ⟨64 * (t.val % 4) + (y 2).val, by omega⟩ (y 3)) := by
  idx_vars y
  unfold outsAt0
  refine (out_at _ _ _ _ _ _ _ _ _ _ _ _ _ _ _ _ _ _ _ ).trans ?_
  unfold G
  refine Finset.sum_congr rfl fun e _ => ?_
  rw [iblk0 M c t _ (V0 M c) _ _ ht, iblk1 M c t _ (V1 M c), wV_at, xV_at]
  refine congr (congrArg _ (congrArg (M (c, Proc.tc.devRef main_arg0)) (triple_ext ?_ ?_))) rfl
  · show (1024 * t.val + (16 * y2.val + y1.val)) / 4096 = t.val / 4
    omega
  · show (1024 * t.val + (16 * y2.val + y1.val)) % 4096 = (64 * (t.val % 4) + y2.val) * 16 + y1.val
    omega

/-- The reference's stage is that product. -/
theorem ref_eq (x : Vec Ideal S4x4096x1024 .f32) (w : Vec Ideal S1024x9216 .f32) : Cert.Reference4Ideal.Read.val_main_v6 (F := Ideal) x w = G x w := by
  funext y
  idx_vars y
  pointwise [Cert.Reference4Ideal.Read.val_main_v6, Cert.Reference4Ideal.Read.val_main_v5, Cert.Reference4Ideal.Read.val_main_v4, Cert.Reference4Ideal.Read.val_main_v3, Cert.Reference4Ideal.Read.val_main_v2, Cert.Reference4Ideal.Read.val_main_v1, Cert.Reference4Ideal.Read.val_main_v0, G]

/-- The output array after the region. -/
theorem arr : (dats M 0 c).arrAt 2 cfg0.N = G (M (c, main_arg0)) (M (c, main_arg1)) := by
  generalize hG : G (M (c, main_arg0)) (M (c, main_arg1)) = g
  refine Dat.arrAt_eq_of_covers (dats M 0 c) 2 g covers fun t _ y => ?_
  have ht : t.val < 16 := t.isLt
  have hy := out_whole M c t ht y (y 1).isLt (y 2).isLt
  rw [hG] at hy
  rw [after0_2]
  generalize outsAt0 M c t = f at hy ⊢
  refine Eq.trans (b := f y) rfl (hy.trans ?_)
  clear hy hG
  have hi := (idx t).2.2
  blk_ext [hi]

end Cert.Kernel4Ideal.Far
end
-- ==== Proof.Chan.lean ====
/-
  The third mixer's projection: the kernel's array is the product of the rows by the first 4096 columns of the weights.
-/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise
public import Idealize.ShloMosaic.Lib.StableHlo.RunRead

@[expose] public section
set_option maxRecDepth 16384
noncomputable section
namespace Cert.Kernel5Ideal.Chan

open Idealize.ShloMosaic Idealize.ShloMosaic.TcCoe Idealize.ShloMosaic.Tactic
open Idealize.SL Idealize.SL.Sem
open Idealize.ShloMosaic.Pipeline (Dat Cfg Window)
open Cert.Kernel5Ideal Cert.Kernel5Ideal.Gen

/-- Which block each window stages at a point. -/
theorem idx : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0) := by
  decide +kernel

/-- The blocks written back cover the output. -/
theorem covers : (cfg0.win 2).Covers := by decide +kernel

/-- What the body leaves: the block's rows times the weights. -/
theorem out_at (x0 : Vec Ideal S1024x1024 .f32) (x1 : Vec Ideal S1024x4096 .bf16) (i : Fin 1024) (j : Fin 4096) :
    (out0_2 x0 x1 : Vec Ideal S1024x4096 .bf16) (ix2 i j) = (∑ e : Fin 1024, x0 (ix2 i e) * x1 (ix2 e j) : EReal) := by
  unfold out0_2
  canon_tiles x h
  all_goals (
    open_payloads; pointwise
    have e0 : i = ⟨(x 0).val, x0_lt⟩ := Fin.ext h0
    have e1 := Fin.ext (show j.val = (⟨_, by first | exact h1.symm.trans_lt j.isLt | exact h1 ▸ j.isLt⟩ : Fin 4096).val from h1)
    rw [e0, e1]
    rfl)

variable (M : (ℓ : Loc nD τ sig) → Buf (Elt Ideal) ℓ) (c : Dev nD)

/-- The product as an array of the arguments. -/
def G (x : Vec Ideal S4x4096x1024 .f32) (w : Vec Ideal S1024x4112 .f32) : Vec Ideal S16384x4096 .bf16 := fun y =>
  (∑ e : Fin 1024, x (ix3 ⟨(y 0).val / 4096, by have := (y 0).isLt; change (y 0).val < 16384 at this; omega⟩ ⟨(y 0).val % 4096, by omega⟩ e)
    * w (ix2 e ⟨(y 1).val, by have := (y 1).isLt; change (y 1).val < 4096 at this; omega⟩) : EReal)

theorem V0 : (V M c main_v0 : Vec Ideal S16384x1024 .f32) = shapeCast S16384x1024 (M (c, main_arg0) : Vec Ideal S4x4096x1024 .f32) shapeCasts_S4x4096x1024_S16384x1024 := by
  after_reads_simp
  rfl

/-- The weights' first 4096 columns. -/
def wV (w : FVec Ideal S1024x4112 .f32) : FVec Ideal S1024x4096 .bf16 :=
  truncf .bf16 (extractStridedSlice S1024x4096 ![0, 0] w slices_S1024x4112_S1024x4096_0_0) bitsLt_bf16_f32

theorem wV_at (w : FVec Ideal S1024x4112 .f32) (e : Fin 1024) (j : Fin 4096) : wV w (ix2 e j) = w (ix2 e ⟨j.val, by omega⟩) := by
  pointwise [wV]

/-- A row of the flattened array. -/
theorem rows_at (x : Vec Ideal S4x4096x1024 .f32) (r : Fin 16384) (e : Fin 1024) :
    shapeCast S16384x1024 x shapeCasts_S4x4096x1024_S16384x1024 (ix2 r e) = x (ix3 ⟨r.val / 4096, by omega⟩ ⟨r.val % 4096, by omega⟩ e) := by
  refine shapeCast_apply _ _ _ _ ?_
  rw [Shape.rowMajor_val_three, Shape.rowMajor_val_two]
  show (r.val / 4096 * 4096 + r.val % 4096) * 1024 + e.val = r.val * 1024 + e.val
  omega

theorem V2 : (V M c main_v2 : FVec Ideal S1024x4096 .bf16) = wV (M (c, main_arg1)) := by
  after_reads_simp
  rfl

/-- The rows' block at a point. -/
theorem iblk0 (t : Fin cfg0.N) (X : Vec Ideal S16384x1024 .f32) (hX : V M c main_v0 = X) (a : Fin 1024) (e : Fin 1024) (ht : t.val < 16) :
    (iblk M c 0 t : Vec Ideal S1024x1024 .f32) (ix2 a e) = X (ix2 ⟨1024 * t.val + a.val, by omega⟩ e) := by
  subst hX
  have hi := (idx t).1
  blk_ext [iblk, hi]

/-- The weights' block is the whole array. -/
theorem iblk1 (t : Fin cfg0.N) (W : Vec Ideal S1024x4096 .bf16) (hW : V M c main_v2 = W) (a : Fin 1024) (e : Fin 4096) :
    (iblk M c 1 t : Vec Ideal S1024x4096 .bf16) (ix2 a e) = W (ix2 a e) := by
  subst hW
  have hi := (idx t).2.1
  blk_ext [iblk, hi]

/-- What a point writes back. -/
theorem out_whole (t : Fin cfg0.N) (ht : t.val < 16) (y : S1024x4096.Idx) :
    (out0_2 (iblk M c 0 t) (iblk M c 1 t) : Vec Ideal S1024x4096 .bf16) y
      = G (M (c, main_arg0)) (M (c, main_arg1)) (ix2 ⟨1024 * t.val + (y 0).val, by have := (y 0).isLt; change (y 0).val < 1024 at this; omega⟩ (y 1)) := by
  idx_vars y
  rw [out_at]
  unfold G
  refine Finset.sum_congr rfl fun e _ => ?_
  rw [iblk0 M c t _ (V0 M c) _ _ ht, iblk1 M c t _ (V2 M c)]
  rw [wV_at]
  exact congrArg (· * _) (rows_at _ _ _)

/-- The reference's stage is that product. -/
theorem ref_eq (x : Vec Ideal S4x4096x1024 .f32) (w : Vec Ideal S1024x4112 .f32) : Cert.Reference5Ideal.Read.val_main_v3 (F := Ideal) x w = G x w := by
  funext y
  idx_vars y
  pointwise [Cert.Reference5Ideal.Read.val_main_v3, Cert.Reference5Ideal.Read.val_main_v2, Cert.Reference5Ideal.Read.val_main_v1, Cert.Reference5Ideal.Read.val_main_v0, G]

/-- The output array after the region. -/
theorem arr : (dats M 0 c).arrAt 2 cfg0.N = G (M (c, main_arg0)) (M (c, main_arg1)) := by
  generalize hG : G (M (c, main_arg0)) (M (c, main_arg1)) = g
  refine Dat.arrAt_eq_of_covers (dats M 0 c) 2 g covers fun t _ y => ?_
  have ht : t.val < 16 := t.isLt
  have hy := out_whole M c t ht y
  rw [hG] at hy
  rw [after0_2]
  generalize out0_2 (iblk M c 0 t) (iblk M c 1 t) = f at hy ⊢
  refine Eq.trans (b := f y) rfl (hy.trans ?_)
  clear hy hG
  have hi := (idx t).2.2
  blk_ext [hi]

end Cert.Kernel5Ideal.Chan
end
-- ==== Proof.Gate.lean ====
/-
  The gating mixer, up to its output projection.
-/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.StableHlo.RunRead

@[expose] public section
set_option maxRecDepth 16384
noncomputable section
namespace Cert.Kernel6Ideal.Gate

open Idealize.ShloMosaic Idealize.ShloMosaic.TcCoe Idealize.ShloMosaic.Tactic
open Idealize.SL Idealize.SL.Sem
open Idealize.ShloMosaic.Pipeline (Dat Cfg Window)
open Cert.Kernel6Ideal Cert.Kernel6Ideal.Gen

/-- Which block each window stages at a point. -/
theorem idx : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0 ∧ win0_5.index t 2 = 0)
    ∧ (win0_6.index t 0 = 0 ∧ win0_6.index t 1 = 0) ∧ (win0_7.index t 0 = t.val ∧ win0_7.index t 1 = 0) := by
  decide +kernel

/-- The blocks written back cover the output. -/
theorem covers : (cfg0.win 7).Covers := by decide +kernel

/-! ### The entries -/

/-- Two indices with the same coordinates. -/
theorem pair_ext {n m : ℕ} {a b : Fin n} {c d : Fin m} (h : a.val = b.val) (h' : c.val = d.val) : ix2 a c = ix2 b d := by
  rw [Fin.ext h, Fin.ext h']

/-- Two indices with the same coordinates. -/
theorem triple_ext {n m k : ℕ} {a b : Fin n} {c d : Fin m} {e f : Fin k} (h : a.val = b.val) (h' : c.val = d.val) (h'' : e.val = f.val) : ix3 a c e = ix3 b d f := by
  rw [Fin.ext h, Fin.ext h', Fin.ext h'']

/-- The gelu, in its tanh form. -/
def gelu (a : EReal) : EReal :=
  Ideal.ofBits .f32 0x3F000000#32 * a * (1 + Ideal.tanh (Ideal.ofBits .f32 0x3F4C422A#32 * (a + Ideal.ofBits .f32 0x3D372713#32 * (a * a * a))))

/-- An entry of a row after the normalisation. -/
def normed (f : Fin 2048 → EReal) (g b : EReal) (j : Fin 2048) : EReal :=
  (f j - Ideal.div (∑ x, f x) (Ideal.ofBits .f32 0x45000000#32))
    * Ideal.rsqrt (Ideal.div (∑ x, (f x - Ideal.div (∑ x, f x) (Ideal.ofBits .f32 0x45000000#32)) * (f x - Ideal.div (∑ x, f x) (Ideal.ofBits .f32 0x45000000#32)))
        (Ideal.ofBits .f32 0x45000000#32) + Ideal.ofBits .f32 0x3727C5AC#32) * g + b

theorem pay6_at (v2 : FVec Ideal S512x1024 .bf16) (w : Vec Ideal S1024x512 .bf16) (a b : Fin 512) :
    k0_pay6 v2 w (ix2 a b) = gelu (∑ e : Fin 1024, v2 (ix2 a e) * w (ix2 e b)) := by
  pointwise [k0_pay6, gelu]

theorem pay5_at (x0 : FVec Ideal S512x1024 .f32) (w : Vec Ideal S1024x2048 .bf16) (g b : Vec Ideal S1x2048 .f32) (a : Fin 512) (j : Fin 2048) :
    k0_pay5 (k0_pay3 b) (k0_pay4 x0 w g) (ix2 a j) = normed (fun j => gelu (∑ e : Fin 1024, x0 (ix2 a e) * w (ix2 e j))) (g (ix2 0 j)) (b (ix2 0 j)) j := by
  unfold normed
  simp only [gelu]
  pointwise [k0_pay5, k0_pay3, k0_pay4, k0_pay2]

/-- The normalised second half of a block. -/
def nB (x0 : Vec Ideal S512x1024 .f32) (x2 : Vec Ideal S1024x2048 .bf16) (x3 x4 : Vec Ideal S1x2048 .f32) : Vec Ideal S512x2048 .bf16 := fun y =>
  normed (fun j => gelu (∑ e : Fin 1024, x0 (ix2 (y 0) e) * x2 (ix2 e j))) (x3 (ix2 0 (y 1))) (x4 (ix2 0 (y 1))) (y 1)

/-- What the block's working array holds. -/
theorem kept_eq (c : Dev nD) (a1 h1 a3 h3 a4 h4 a5 h5) (x0 : Vec Ideal S512x1024 .f32) (x2 : Vec Ideal S1024x2048 .bf16) (x3 x4 : Vec Ideal S1x2048 .f32) :
    View.canon (kernelRun0_A.sl.HS0_1 (F := Ideal) c a1 h1 a3 h3 a4 h4 a5 h5 x0 x2 x3 x4) = nB x0 x2 x3 x4 := by
  funext y
  unfold kernelRun0_A.sl.HS0_1
  canon_tiles x g
  idx_vars x
  idx_vars y
  simp only [kernelRun0_A.sl.r_1, kernelRun0_A.sl.r_2, View.readAt_eq_ld, Memref.IsWhole.read_unread]
  rw [pay5_at]
  have e0 : y0 = _ := Fin.ext g0
  have e1 : y1 = _ := Fin.ext g1
  subst e0 e1
  unfold nB
  pointwise [k0_pay2]

theorem pay32 (v w) : k0_pay32 (F := Ideal) v w = k0_pay6 v w := rfl
theorem pay58 (v w) : k0_pay58 (F := Ideal) v w = k0_pay6 v w := rfl
theorem pay85 (v w) : k0_pay85 (F := Ideal) (k0_pay83 v w) (k0_pay84 v w) = k0_pay6 v w := rfl

/-- What a point writes back, as a function of the blocks. -/
def oB (x0 : Vec Ideal S512x1024 .f32) (x1 x2 : Vec Ideal S1024x2048 .bf16) (x3 x4 : Vec Ideal S1x2048 .f32) (x5 : Vec Ideal S16x128x128 .bf16) (x6 : Vec Ideal S128x2048 .f32) :
    Vec Ideal S512x2048 .bf16 := fun y =>
  have h0 : (y 0).val < 512 := (y 0).isLt
  have h1 : (y 1).val < 2048 := (y 1).isLt
  gelu (∑ e : Fin 1024, x0 (ix2 (y 0) e) * x1 (ix2 e (y 1)))
    * ((∑ s : Fin 128, x5 (ix3 ⟨(y 1).val / 128, by omega⟩ ⟨(y 0).val % 128, by omega⟩ s) * nB x0 x2 x3 x4 (ix2 ⟨128 * ((y 0).val / 128) + s.val, by omega⟩ (y 1)))
      + x6 (ix2 ⟨(y 0).val % 128, by omega⟩ (y 1)))

/-- One of its entries, read off a stored piece. -/
theorem oB_of (x0 : Vec Ideal S512x1024 .f32) (x1 x2 : Vec Ideal S1024x2048 .bf16) (x3 x4 : Vec Ideal S1x2048 .f32) (x5 : Vec Ideal S16x128x128 .bf16) (x6 : Vec Ideal S128x2048 .f32)
    (N : Vec Ideal S512x2048 .bf16) (hN : nB x0 x2 x3 x4 = N) (y : S512x2048.Idx) (h0 : (y 0).val < 512) (h1 : (y 1).val < 2048)
    (p : Fin 512) (q q' : Fin 2048) (u : Fin 16) (v v' : Fin 128) (f : Fin 128 → EReal)
    (hp : (y 0).val = p.val) (hq : (y 1).val = q.val) (hq' : (y 1).val = q'.val) (hu : u.val = (y 1).val / 128) (hv : v.val = (y 0).val % 128) (hv' : v'.val = (y 0).val % 128)
    (hf : ∀ s : Fin 128, f s = N (ix2 ⟨128 * ((y 0).val / 128) + s.val, by omega⟩ (y 1))) :
    gelu (∑ e : Fin 1024, x0 (ix2 p e) * x1 (ix2 e q)) * ((∑ s : Fin 128, x5 (ix3 u v s) * f s) + x6 (ix2 v' q')) = oB x0 x1 x2 x3 x4 x5 x6 y := by
  refine congrArg₂ (· * ·) (congrArg gelu (Finset.sum_congr rfl fun e _ => congrArg₂ (· * ·) (congrArg x0 (pair_ext hp.symm rfl)) (congrArg x1 (pair_ext rfl hq.symm)))) ?_
  refine congrArg₂ (· + ·) (Finset.sum_congr rfl fun s _ => congrArg₂ (· * ·) (congrArg x5 (triple_ext hu hv rfl)) ((hf s).trans (congrFun hN _).symm)) (congrArg x6 (pair_ext hv' hq'.symm))

set_option maxHeartbeats 16000000 in
theorem out_at (c : Dev nD) (i : grid0.Coords) (a1 h1 a2 h2 a3 h3 a4 h4 a5 h5 a6 h6 a7 h7 a8 h8 a9 h9)
    (x0 : Vec Ideal S512x1024 .f32) (x1 x2 : Vec Ideal S1024x2048 .bf16) (x3 x4 : Vec Ideal S1x2048 .f32) (x5 : Vec Ideal S16x128x128 .bf16) (x6 : Vec Ideal S128x2048 .f32) :
    out0_A_7 c i a1 h1 a2 h2 a3 h3 a4 h4 a5 h5 a6 h6 a7 h7 a8 h8 a9 h9 x0 x1 x2 x3 x4 x5 x6 = oB x0 x1 x2 x3 x4 x5 x6 := by
  funext y
  unfold out0_A_7
  dsimp only [kernelRun0_A]
  rw [View.read_writes_junk_eq_canon]
  simp only [kernelRun0_A.sl.r_2, kernelRun0_A.sl.r_1, kernelRun0_A.sl.r_5, kernelRun0_A.sl.v66, kernelRun0_A.sl.v65, kernelRun0_A.sl.v64, kernelRun0_A.sl.v63, kernelRun0_A.sl.r, kernelRun0_A.sl.r_4, kernelRun0_A.sl.r_6, kernelRun0_A.sl.v106, kernelRun0_A.sl.v105, kernelRun0_A.sl.v104, kernelRun0_A.sl.v103, kernelRun0_A.sl.v146, kernelRun0_A.sl.v145, kernelRun0_A.sl.v144, kernelRun0_A.sl.v143, kernelRun0_A.sl.r_8, kernelRun0_A.sl.r_7, kernelRun0_A.sl.v186, kernelRun0_A.sl.v185, kernelRun0_A.sl.v184, kernelRun0_A.sl.v183, kernelRun0_A.sl.r_10, kernelRun0_A.sl.r_9, kernelRun0_A.sl.r_3, kernelRun0_A.sl.r_13, kernelRun0_A.sl.r_12, kernelRun0_A.sl.v242, kernelRun0_A.sl.v241, kernelRun0_A.sl.v240, kernelRun0_A.sl.v239, kernelRun0_A.sl.v282, kernelRun0_A.sl.v281, kernelRun0_A.sl.v280, kernelRun0_A.sl.v279, kernelRun0_A.sl.r_14, kernelRun0_A.sl.v322, kernelRun0_A.sl.v321, kernelRun0_A.sl.v320, kernelRun0_A.sl.v319, kernelRun0_A.sl.r_17, kernelRun0_A.sl.r_11, kernelRun0_A.sl.r_16, kernelRun0_A.sl.r_15, kernelRun0_A.sl.v362, kernelRun0_A.sl.v361, kernelRun0_A.sl.v360, kernelRun0_A.sl.v359, kernelRun0_A.sl.r_19, kernelRun0_A.sl.r_18, kernelRun0_A.sl.v418, kernelRun0_A.sl.v417, kernelRun0_A.sl.v416, kernelRun0_A.sl.v415, kernelRun0_A.sl.r_22, kernelRun0_A.sl.r_20, kernelRun0_A.sl.r_21, kernelRun0_A.sl.v458, kernelRun0_A.sl.v457, kernelRun0_A.sl.v456, kernelRun0_A.sl.v455, kernelRun0_A.sl.r_24, kernelRun0_A.sl.r_23, kernelRun0_A.sl.v498, kernelRun0_A.sl.v497, kernelRun0_A.sl.v496, kernelRun0_A.sl.v495, kernelRun0_A.sl.r_26, kernelRun0_A.sl.r_25, kernelRun0_A.sl.r_28, kernelRun0_A.sl.v538, kernelRun0_A.sl.v537, kernelRun0_A.sl.v536, kernelRun0_A.sl.v535, kernelRun0_A.sl.r_27, kernelRun0_A.sl.v594, kernelRun0_A.sl.v593, kernelRun0_A.sl.v592, kernelRun0_A.sl.v591, kernelRun0_A.sl.r_30, kernelRun0_A.sl.r_29, kernelRun0_A.sl.r_33, kernelRun0_A.sl.r_32, kernelRun0_A.sl.v634, kernelRun0_A.sl.v633, kernelRun0_A.sl.v632, kernelRun0_A.sl.v631, kernelRun0_A.sl.r_35, kernelRun0_A.sl.r_31, kernelRun0_A.sl.r_34, kernelRun0_A.sl.r_37, kernelRun0_A.sl.v674, kernelRun0_A.sl.v673, kernelRun0_A.sl.v672, kernelRun0_A.sl.v671, kernelRun0_A.sl.r_36, kernelRun0_A.sl.cst_447, kernelRun0_A.sl.r_39, kernelRun0_A.sl.r_38, kernelRun0_A.sl.v714, kernelRun0_A.sl.v713, kernelRun0_A.sl.v712, kernelRun0_A.sl.v711, kernelRun0_A.sl.r_41, kernelRun0_A.sl.r_40, View.readCov_eq_canon', kept_eq, View.readAt_eq_ld, Memref.IsWhole.read_unread, pay32, pay58, pay85]
  generalize hN : nB x0 x2 x3 x4 = N
  clear h1 h2 h3 h4 h5 h6 h7 h8 h9
  have y0_lt : (y 0).val < 512 := (y 0).isLt
  have y1_lt : (y 1).val < 2048 := (y 1).isLt
  canon_tiles x g
  all_goals (
    pointwise [k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106]
    simp only [pay85, pay6_at]
    pointwise [k0_pay2]
    refine oB_of _ _ _ _ _ _ _ N hN y y0_lt y1_lt _ _ _ _ _ _ _ ?_ ?_ ?_ ?_ ?_ ?_ ?_
    rotate_left 6
    · intro s
      repeat' split
      all_goals first | omega | refine congrArg N (pair_ext ?_ ?_)
      all_goals first | (simp only []; omega) | omega
    all_goals first | (simp only [] ; omega) | omega | (simp; omega))

end Cert.Kernel6Ideal.Gate
end
-- ==== Proof.Mixer.lean ====
/-
  The gating mixer as a function of its arguments, for the kernel and for the reference.
-/
module

public import proofs.«01_k».proof.Proof.Gate

@[expose] public section
set_option maxRecDepth 16384
noncomputable section
namespace Cert.Kernel6Ideal.Gate

open Idealize.ShloMosaic Idealize.ShloMosaic.TcCoe Idealize.ShloMosaic.Tactic
open Idealize.SL Idealize.SL.Sem
open Idealize.ShloMosaic.Pipeline (Dat Cfg Window)
open Cert.Kernel6Ideal Cert.Kernel6Ideal.Gen

/-! ### The mixer -/

/-- The input projection with the gelu. -/
def U (x : Vec Ideal S4x4096x1024 .f32) (w : Vec Ideal S1024x4096 .f32) (r : Fin 16384) (j : Fin 4096) : EReal :=
  gelu (∑ e : Fin 1024, x (ix3 ⟨r.val / 4096, by omega⟩ ⟨r.val % 4096, by omega⟩ e) * w (ix2 e j))

/-- Its second half, normalised. -/
def Nm (x : Vec Ideal S4x4096x1024 .f32) (w : Vec Ideal S1024x4096 .f32) (g b : Vec Ideal S2048 .f32) (r : Fin 16384) (j : Fin 2048) : EReal :=
  normed (fun j => U x w r ⟨2048 + j.val, by omega⟩) (g (ix1 j)) (b (ix1 j)) j

/-- The causal weights. -/
abbrev Wc (ws : Vec Ideal S16x128x128 .f32) : Vec Ideal S16x128x128 .f32 := Cert.Reference6Ideal.Read.val_main_v43 (F := Ideal) ws

/-- The product of the halves. -/
def G (x : Vec Ideal S4x4096x1024 .f32) (w : Vec Ideal S1024x4096 .f32) (g b : Vec Ideal S2048 .f32) (ws : Vec Ideal S16x128x128 .f32) (bs : Vec Ideal S16x128 .f32) :
    Vec Ideal S16384x2048 .bf16 := fun y =>
  have h0 : (y 0).val < 16384 := (y 0).isLt
  have h1 : (y 1).val < 2048 := (y 1).isLt
  U x w (y 0) ⟨(y 1).val, by omega⟩
    * ((∑ s : Fin 128, Wc ws (ix3 ⟨(y 1).val / 128, by omega⟩ ⟨(y 0).val % 128, by omega⟩ s) * Nm x w g b ⟨128 * ((y 0).val / 128) + s.val, by omega⟩ (y 1))
      + bs (ix2 ⟨(y 1).val / 128, by omega⟩ ⟨(y 0).val % 128, by omega⟩))

/-! ### The reference -/

theorem ref13 (x : Vec Ideal S4x4096x1024 .f32) (w : Vec Ideal S1024x4096 .f32) (n : Fin 4) (r : Fin 4096) (j : Fin 4096) :
    Cert.Reference6Ideal.Read.val_main_v13 (F := Ideal) x w (ix3 n r j) = gelu (∑ e : Fin 1024, x (ix3 n r e) * w (ix2 e j)) := by
  unfold gelu
  rw [mul_assoc (Ideal.ofBits .f32 0x3F000000#32), mul_left_comm]
  pointwise [Cert.Reference6Ideal.Read.val_main_v13, Cert.Reference6Ideal.Read.val_main_v12, Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_cst, Cert.Reference6Ideal.Read.val_main_cst_0, Cert.Reference6Ideal.Read.val_main_cst_1, Cert.Reference6Ideal.Read.val_main_cst_2]

theorem ref37 (x : Vec Ideal S4x4096x1024 .f32) (w : Vec Ideal S1024x4096 .f32) (g b : Vec Ideal S2048 .f32) (n : Fin 4) (r : Fin 4096) (j : Fin 2048) :
    Cert.Reference6Ideal.Read.val_main_v37 (F := Ideal) x w g b (ix3 n r j) = normed (fun j => Cert.Reference6Ideal.Read.val_main_v13 (F := Ideal) x w (ix3 n r ⟨2048 + j.val, by omega⟩)) (g (ix1 j)) (b (ix1 j)) j := by
  unfold normed
  pointwise [Cert.Reference6Ideal.Read.val_main_v37, Cert.Reference6Ideal.Read.val_main_v36, Cert.Reference6Ideal.Read.val_main_v35, Cert.Reference6Ideal.Read.val_main_v34, Cert.Reference6Ideal.Read.val_main_v33, Cert.Reference6Ideal.Read.val_main_v32, Cert.Reference6Ideal.Read.val_main_v31, Cert.Reference6Ideal.Read.val_main_v30, Cert.Reference6Ideal.Read.val_main_v29, Cert.Reference6Ideal.Read.val_main_v28, Cert.Reference6Ideal.Read.val_main_v27, Cert.Reference6Ideal.Read.val_main_v26, Cert.Reference6Ideal.Read.val_main_v25, Cert.Reference6Ideal.Read.val_main_v24, Cert.Reference6Ideal.Read.val_main_v23, Cert.Reference6Ideal.Read.val_main_v22, Cert.Reference6Ideal.Read.val_main_v21, Cert.Reference6Ideal.Read.val_main_v20, Cert.Reference6Ideal.Read.val_main_v19, Cert.Reference6Ideal.Read.val_main_v18, Cert.Reference6Ideal.Read.val_main_v17, Cert.Reference6Ideal.Read.val_main_v16, Cert.Reference6Ideal.Read.val_main_v15, Cert.Reference6Ideal.Read.val_main_cst_3, Cert.Reference6Ideal.Read.val_main_cst_4, Cert.Reference6Ideal.Read.val_main_cst_5, Cert.Reference6Ideal.Read.val_main_cst_6, Cert.Reference6Ideal.Read.val_main_cst_7]

theorem ref54 (x : Vec Ideal S4x4096x1024 .f32) (w : Vec Ideal S1024x4096 .f32) (g b : Vec Ideal S2048 .f32) (ws : Vec Ideal S16x128x128 .f32) (bs : Vec Ideal S16x128 .f32) (r : Fin 16384) (j : Fin 2048) :
    Cert.Reference6Ideal.Read.val_main_v54 (F := Ideal) x w g b ws bs (ix2 r j)
      = Cert.Reference6Ideal.Read.val_main_v13 (F := Ideal) x w (ix3 ⟨r.val / 4096, by omega⟩ ⟨r.val % 4096, by omega⟩ ⟨j.val, by omega⟩)
        * ((∑ s : Fin 128, Cert.Reference6Ideal.Read.val_main_v37 (F := Ideal) x w g b (ix3 ⟨r.val / 4096, by omega⟩ ⟨r.val % 4096 / 128 * 128 + s.val, by omega⟩ j)
            * Wc ws (ix3 ⟨j.val / 128, by omega⟩ ⟨r.val % 4096 % 128, by omega⟩ s))
          + bs (ix2 ⟨j.val / 128, by omega⟩ ⟨r.val % 4096 % 128, by omega⟩)) := by
  pointwise [Cert.Reference6Ideal.Read.val_main_v54, Cert.Reference6Ideal.Read.val_main_v53, Cert.Reference6Ideal.Read.val_main_v52, Cert.Reference6Ideal.Read.val_main_v51, Cert.Reference6Ideal.Read.val_main_v50, Cert.Reference6Ideal.Read.val_main_v49, Cert.Reference6Ideal.Read.val_main_v48, Cert.Reference6Ideal.Read.val_main_v47, Cert.Reference6Ideal.Read.val_main_v46, Cert.Reference6Ideal.Read.val_main_v45, Cert.Reference6Ideal.Read.val_main_v44, Cert.Reference6Ideal.Read.val_main_v38, Cert.Reference6Ideal.Read.val_main_v14]

/-- The reference's stage is the mixer. -/
theorem ref_eq (x : Vec Ideal S4x4096x1024 .f32) (w : Vec Ideal S1024x4096 .f32) (g b : Vec Ideal S2048 .f32) (ws : Vec Ideal S16x128x128 .f32) (bs : Vec Ideal S16x128 .f32) :
    Cert.Reference6Ideal.Read.val_main_v54 (F := Ideal) x w g b ws bs = G x w g b ws bs := by
  funext y
  idx_vars y
  refine (ref54 x w g b ws bs y0 y1).trans ?_
  unfold G
  refine congrArg₂ (· * ·) (ref13 _ _ _ _ _) (congrArg₂ (· + ·) (Finset.sum_congr rfl fun s _ => (mul_comm _ _).trans (congrArg₂ (· * ·) (congrArg _ (triple_ext rfl ?_ rfl)) ((ref37 _ _ _ _ _ _ _).trans ?_))) (congrArg bs (pair_ext rfl ?_)))
  · show y0.val % 4096 % 128 = y0.val % 128
    omega
  · refine congrArg (fun f => normed f (g (ix1 y1)) (b (ix1 y1)) y1) (funext fun j => (ref13 _ _ _ _ _).trans (congrArg gelu (Finset.sum_congr rfl fun e _ => congrArg (· * _) (congrArg x (triple_ext ?_ ?_ rfl)))))
    · show y0.val / 4096 = (128 * (y0.val / 128) + s.val) / 4096
      omega
    · show y0.val % 4096 / 128 * 128 + s.val = (128 * (y0.val / 128) + s.val) % 4096
      omega
  · show y0.val % 4096 % 128 = y0.val % 128
    omega

/-! ### The kernel -/

variable (M : (ℓ : Loc nD τ sig) → Buf (Elt Ideal) ℓ) (c : Dev nD)

/-- The flattened rows. -/
def xV (x : Vec Ideal S4x4096x1024 .f32) : Vec Ideal S16384x1024 .f32 := shapeCast S16384x1024 x shapeCasts_S4x4096x1024_S16384x1024

theorem xV_at (x : Vec Ideal S4x4096x1024 .f32) (r : Fin 16384) (e : Fin 1024) : xV x (ix2 r e) = x (ix3 ⟨r.val / 4096, by omega⟩ ⟨r.val % 4096, by omega⟩ e) := by
  refine shapeCast_apply _ _ _ _ ?_
  rw [Shape.rowMajor_val_three, Shape.rowMajor_val_two]
  show (r.val / 4096 * 4096 + r.val % 4096) * 1024 + e.val = r.val * 1024 + e.val
  omega

theorem V0 : (V M c main_v0 : Vec Ideal S16384x1024 .f32) = xV (M (c, main_arg0)) := by
  after_reads_simp
  rfl

/-- The weights' first half. -/
def uV (w : FVec Ideal S1024x4096 .f32) : FVec Ideal S1024x2048 .bf16 := truncf .bf16 (extractStridedSlice S1024x2048 ![0, 0] w slices_S1024x4096_S1024x2048_0_0) bitsLt_bf16_f32

theorem uV_at (w : FVec Ideal S1024x4096 .f32) (e : Fin 1024) (j : Fin 2048) : uV w (ix2 e j) = w (ix2 e ⟨j.val, by omega⟩) := by
  pointwise [uV]

theorem V2 : (V M c main_v2 : FVec Ideal S1024x2048 .bf16) = uV (M (c, main_arg1)) := by
  after_reads_simp
  rfl

/-- The weights' second half. -/
def vV (w : FVec Ideal S1024x4096 .f32) : FVec Ideal S1024x2048 .bf16 := truncf .bf16 (extractStridedSlice S1024x2048 ![0, 2048] w slices_S1024x4096_S1024x2048_0_2048) bitsLt_bf16_f32

theorem vV_at (w : FVec Ideal S1024x4096 .f32) (e : Fin 1024) (j : Fin 2048) : vV w (ix2 e j) = w (ix2 e ⟨2048 + j.val, by omega⟩) := by
  pointwise [vV]

theorem V4 : (V M c main_v4 : FVec Ideal S1024x2048 .bf16) = vV (M (c, main_arg1)) := by
  after_reads_simp
  rfl

/-- A vector as one row. -/
def rV (g : Vec Ideal S2048 .f32) : Vec Ideal S1x2048 .f32 := shapeCast S1x2048 g shapeCasts_S2048_S1x2048

theorem rV_at (g : Vec Ideal S2048 .f32) (j : Fin 2048) : rV g (ix2 0 j) = g (ix1 j) := by
  pointwise [rV]

theorem V14 : (V M c main_v14 : Vec Ideal S1x2048 .f32) = rV (M (c, main_arg2)) := by
  after_reads_simp
  rfl

theorem V15 : (V M c main_v15 : Vec Ideal S1x2048 .f32) = rV (M (c, main_arg3)) := by
  after_reads_simp
  rfl

/-- The causal weights, cast. -/
theorem V10 : (V M c main_v10 : Vec Ideal S16x128x128 .bf16) = Wc (M (c, main_arg4)) := by
  after_reads_simp
  rfl

/-- The bias, repeated over its group's columns. -/
def bV (bs : Vec Ideal S16x128 .f32) : Vec Ideal S128x2048 .f32 :=
  shapeCast S128x2048 (broadcastInDim S128x16x128 ![0, 1] bcast_S128x16_S128x16x128_0_1 (transpose S128x16 [1, 0] bs transposes_S16x128_S128x16_1_0) : Vec Ideal S128x16x128 .f32) shapeCasts_S128x16x128_S128x2048

theorem bV_at (bs : Vec Ideal S16x128 .f32) (a : Fin 128) (j : Fin 2048) : bV bs (ix2 a j) = bs (ix2 ⟨j.val / 128, by omega⟩ a) := by
  pointwise [bV]

theorem V13 : (V M c main_v13 : Vec Ideal S128x2048 .f32) = bV (M (c, main_arg5)) := by
  after_reads_simp
  rfl

theorem iblk0 (t : Fin cfg0.N) (ht : t.val < 32) (a : Fin 512) (e : Fin 1024) :
    (iblk M c 0 t : Vec Ideal S512x1024 .f32) (ix2 a e) = xV (M (c, main_arg0)) (ix2 ⟨512 * t.val + a.val, by omega⟩ e) := by
  rw [← V0 M c]
  have hi := (idx t).1
  blk_ext [iblk, hi]

theorem iblk1 (t : Fin cfg0.N) (a : Fin 1024) (e : Fin 2048) : (iblk M c 1 t : Vec Ideal S1024x2048 .bf16) (ix2 a e) = uV (M (c, main_arg1)) (ix2 a e) := by
  rw [← V2 M c]
  have hi := (idx t).2.1
  blk_ext [iblk, hi]

theorem iblk2 (t : Fin cfg0.N) (a : Fin 1024) (e : Fin 2048) : (iblk M c 2 t : Vec Ideal S1024x2048 .bf16) (ix2 a e) = vV (M (c, main_arg1)) (ix2 a e) := by
  rw [← V4 M c]
  have hi := (idx t).2.2.1
  blk_ext [iblk, hi]

theorem iblk3 (t : Fin cfg0.N) (a : Fin 1) (e : Fin 2048) : (iblk M c 3 t : Vec Ideal S1x2048 .f32) (ix2 a e) = rV (M (c, main_arg2)) (ix2 a e) := by
  rw [← V14 M c]
  have hi := (idx t).2.2.2.1
  blk_ext [iblk, hi]

theorem iblk4 (t : Fin cfg0.N) (a : Fin 1) (e : Fin 2048) : (iblk M c 4 t : Vec Ideal S1x2048 .f32) (ix2 a e) = rV (M (c, main_arg3)) (ix2 a e) := by
  rw [← V15 M c]
  have hi := (idx t).2.2.2.2.1
  blk_ext [iblk, hi]

theorem iblk5 (t : Fin cfg0.N) (u : Fin 16) (a b : Fin 128) : (iblk M c 5 t : Vec Ideal S16x128x128 .bf16) (ix3 u a b) = Wc (M (c, main_arg4)) (ix3 u a b) := by
  rw [← V10 M c]
  have hi := (idx t).2.2.2.2.2.1
  blk_ext [iblk, hi]

theorem iblk6 (t : Fin cfg0.N) (a : Fin 128) (e : Fin 2048) : (iblk M c 6 t : Vec Ideal S128x2048 .f32) (ix2 a e) = bV (M (c, main_arg5)) (ix2 a e) := by
  rw [← V13 M c]
  have hi := (idx t).2.2.2.2.2.2.1
  blk_ext [iblk, hi]

/-- The normalised half from its entries. -/
theorem nB_of (x0 : Vec Ideal S512x1024 .f32) (x2 : Vec Ideal S1024x2048 .bf16) (x3 x4 : Vec Ideal S1x2048 .f32) (a : Fin 512) (j : Fin 2048)
    {X : Fin 1024 → EReal} {W : Fin 1024 → Fin 2048 → EReal} {g b : EReal}
    (h0 : ∀ e, x0 (ix2 a e) = X e) (h2 : ∀ e j, x2 (ix2 e j) = W e j) (h3 : x3 (ix2 0 j) = g) (h4 : x4 (ix2 0 j) = b) :
    nB x0 x2 x3 x4 (ix2 a j) = normed (fun j => gelu (∑ e : Fin 1024, X e * W e j)) g b j := by
  show normed (fun j => gelu (∑ e : Fin 1024, x0 (ix2 a e) * x2 (ix2 e j))) (x3 (ix2 0 j)) (x4 (ix2 0 j)) j = _
  simp only [h0, h2, h3, h4]

/-- The normalised half at a point. -/
theorem norm_whole (t : Fin cfg0.N) (ht : t.val < 32) (a : Fin 512) (j : Fin 2048) (r : Fin 16384) (hr : r.val = 512 * t.val + a.val) :
    nB (iblk M c 0 t) (iblk M c 2 t) (iblk M c 3 t) (iblk M c 4 t) (ix2 a j) = Nm (M (c, main_arg0)) (M (c, main_arg1)) (M (c, main_arg2)) (M (c, main_arg3)) r j := by
  have hr' : r = ⟨512 * t.val + a.val, by omega⟩ := Fin.ext hr
  rw [hr']
  exact nB_of _ _ _ _ a j (fun e => (iblk0 M c t ht a e).trans (xV_at _ _ _)) (fun e j => (iblk2 M c t e j).trans (vV_at _ _ _))
    ((iblk3 M c t 0 j).trans (rV_at _ _)) ((iblk4 M c t 0 j).trans (rV_at _ _))

/-- What a point writes back. -/
theorem out_whole (t : Fin cfg0.N) (ht : t.val < 32) (y : S512x2048.Idx) (hy : (y 0).val < 512) :
    (outsAt0 M c t : Vec Ideal S512x2048 .bf16) y
      = G (M (c, main_arg0)) (M (c, main_arg1)) (M (c, main_arg2)) (M (c, main_arg3)) (M (c, main_arg4)) (M (c, main_arg5)) (ix2 ⟨512 * t.val + (y 0).val, by omega⟩ (y 1)) := by
  idx_vars y
  unfold outsAt0
  rw [out_at]
  unfold oB G
  refine congrArg₂ (· * ·) (congrArg gelu (Finset.sum_congr rfl fun e _ => ?_)) (congrArg₂ (· + ·) (Finset.sum_congr rfl fun s _ => congrArg₂ (· * ·) ?_ ?_) ?_)
  · exact congrArg₂ (· * ·) ((iblk0 M c t ht y0 e).trans (xV_at _ _ _)) ((iblk1 M c t e y1).trans (uV_at _ _ _))
  · rw [iblk5]
    refine congrArg _ (triple_ext rfl ?_ rfl)
    show y0.val % 128 = (512 * t.val + y0.val) % 128
    omega
  · refine norm_whole M c t ht _ _ _ ?_
    show 128 * ((512 * t.val + y0.val) / 128) + s.val = 512 * t.val + (128 * (y0.val / 128) + s.val)
    omega
  · refine ((iblk6 M c t _ y1).trans (bV_at _ _ _)).trans ?_
    refine congrArg _ (pair_ext rfl ?_)
    show y0.val % 128 = (512 * t.val + y0.val) % 128
    omega

/-- The output array after the region. -/
theorem arr : (dats M 0 c).arrAt 7 cfg0.N = G (M (c, main_arg0)) (M (c, main_arg1)) (M (c, main_arg2)) (M (c, main_arg3)) (M (c, main_arg4)) (M (c, main_arg5)) := by
  generalize hG : G (M (c, main_arg0)) (M (c, main_arg1)) (M (c, main_arg2)) (M (c, main_arg3)) (M (c, main_arg4)) (M (c, main_arg5)) = g
  refine Dat.arrAt_eq_of_covers (dats M 0 c) 7 g covers fun t _ y => ?_
  have ht : t.val < 32 := t.isLt
  have hy := out_whole M c t ht y (y 0).isLt
  rw [hG] at hy
  rw [after0_7]
  generalize outsAt0 M c t = f at hy ⊢
  refine Eq.trans (b := f y) rfl (hy.trans ?_)
  clear hy hG
  have hi := (idx t).2.2.2.2.2.2.2
  blk_ext [hi]

end Cert.Kernel6Ideal.Gate
end
-- ==== Proof.Last.lean ====
/-
  The last normalisation: the residual, the halves of the experts' result, and the mean and variance of each row.
-/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.StableHlo.RunRead

@[expose] public section
set_option maxRecDepth 16384
noncomputable section
namespace Cert.Kernel7Ideal.Last

open Idealize.ShloMosaic Idealize.ShloMosaic.TcCoe Idealize.ShloMosaic.Tactic
open Idealize.SL Idealize.SL.Sem
open Idealize.ShloMosaic.Pipeline (Dat Cfg Window)
open Cert.Kernel7Ideal Cert.Kernel7Ideal.Gen

/-- Which block each window stages at a point. -/
theorem idx : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) := by
  decide +kernel

/-- The blocks written back cover the output. -/
theorem covers : (cfg0.win 5).Covers := by decide +kernel

/-! ### The entries -/

/-- Two halves side by side. -/
def side (lo hi : Fin 512 → EReal) (j : Fin 1024) : EReal := if h : j.val < 512 then lo ⟨j.val, h⟩ else hi ⟨j.val - 512, by omega⟩

/-- A row of the residual: the input, scaled, and the halves. -/
def resid (x : Fin 1024 → EReal) (lo hi : Fin 512 → EReal) (j : Fin 1024) : EReal := Ideal.ofBits .f32 0x3FD744FD#32 * x j + side lo hi j

/-- An entry of a row after the normalisation. -/
def normed (f : Fin 1024 → EReal) (g b : EReal) (j : Fin 1024) : EReal :=
  (f j - Ideal.div (∑ x, f x) (Ideal.ofBits .f32 0x44800000#32))
    * Ideal.rsqrt (Ideal.div (∑ x, (f x - Ideal.div (∑ x, f x) (Ideal.ofBits .f32 0x44800000#32)) * (f x - Ideal.div (∑ x, f x) (Ideal.ofBits .f32 0x44800000#32)))
        (Ideal.ofBits .f32 0x44800000#32) + Ideal.ofBits .f32 0x3727C5AC#32) * g + b

/-- What the body leaves. -/
theorem out_at (x0 : Vec Ideal S1024x1024 .f32) (x1 x2 : Vec Ideal S1024x512 .f32) (x3 x4 : Vec Ideal S1x1024 .f32) (i j : Fin 1024) :
    (out0_5 x0 x1 x2 x3 x4 : Vec Ideal S1024x1024 .f32) (ix2 i j)
      = normed (resid (fun e => x0 (ix2 i e)) (fun e => x1 (ix2 i e)) (fun e => x2 (ix2 i e))) (x3 (ix2 0 j)) (x4 (ix2 0 j)) j := by
  unfold out0_5
  simp only [normed, resid, side]
  canon_tiles x h
  all_goals (
    have e0 : i = x 0 := Fin.ext (by first | exact h0 | (rw [h0]; simp))
    have e1 : j = x 1 := Fin.ext (by first | exact h1 | (rw [h1]; simp))
    subst e0 e1
    open_payloads; pointwise)

/-- The normalised rows as an array of the arguments. -/
def G (x : Vec Ideal S4x4096x1024 .f32) (lo hi : Vec Ideal S16384x512 .f32) (g b : Vec Ideal S1024 .f32) : Vec Ideal S16384x1024 .f32 := fun y =>
  have h0 : (y 0).val < 16384 := (y 0).isLt
  normed (resid (fun e => x (ix3 ⟨(y 0).val / 4096, by omega⟩ ⟨(y 0).val % 4096, by omega⟩ e)) (fun e => lo (ix2 (y 0) e)) (fun e => hi (ix2 (y 0) e)))
    (g (ix1 (y 1))) (b (ix1 (y 1))) (y 1)

/-! ### The reference -/

theorem ref4 (x : Vec Ideal S4x4096x1024 .f32) (lo hi : Vec Ideal S16384x512 .f32) (n : Fin 4) (r : Fin 4096) (j : Fin 1024) :
    Cert.Reference7Ideal.Read.val_main_v4 (F := Ideal) x lo hi (ix3 n r j)
      = resid (fun e => x (ix3 n r e)) (fun e => lo (ix2 ⟨n.val * 4096 + r.val, by omega⟩ e)) (fun e => hi (ix2 ⟨n.val * 4096 + r.val, by omega⟩ e)) j := by
  simp only [resid, side]
  pointwise [Cert.Reference7Ideal.Read.val_main_v4, Cert.Reference7Ideal.Read.val_main_v3, Cert.Reference7Ideal.Read.val_main_v2, Cert.Reference7Ideal.Read.val_main_v1, Cert.Reference7Ideal.Read.val_main_v0, Cert.Reference7Ideal.Read.val_main_cst]

theorem ref26 (x : Vec Ideal S4x4096x1024 .f32) (lo hi : Vec Ideal S16384x512 .f32) (g b : Vec Ideal S1024 .f32) (n : Fin 4) (r : Fin 4096) (j : Fin 1024) :
    Cert.Reference7Ideal.Read.val_main_v26 (F := Ideal) x lo hi g b (ix3 n r j) = normed (fun j => Cert.Reference7Ideal.Read.val_main_v4 (F := Ideal) x lo hi (ix3 n r j)) (g (ix1 j)) (b (ix1 j)) j := by
  unfold normed
  pointwise [Cert.Reference7Ideal.Read.val_main_v26, Cert.Reference7Ideal.Read.val_main_v25, Cert.Reference7Ideal.Read.val_main_v24, Cert.Reference7Ideal.Read.val_main_v23, Cert.Reference7Ideal.Read.val_main_v22, Cert.Reference7Ideal.Read.val_main_v21, Cert.Reference7Ideal.Read.val_main_v20, Cert.Reference7Ideal.Read.val_main_v19, Cert.Reference7Ideal.Read.val_main_v18, Cert.Reference7Ideal.Read.val_main_v17, Cert.Reference7Ideal.Read.val_main_v16, Cert.Reference7Ideal.Read.val_main_v15, Cert.Reference7Ideal.Read.val_main_v14, Cert.Reference7Ideal.Read.val_main_v13, Cert.Reference7Ideal.Read.val_main_v12, Cert.Reference7Ideal.Read.val_main_v11, Cert.Reference7Ideal.Read.val_main_v10, Cert.Reference7Ideal.Read.val_main_v9, Cert.Reference7Ideal.Read.val_main_v8, Cert.Reference7Ideal.Read.val_main_v7, Cert.Reference7Ideal.Read.val_main_v6, Cert.Reference7Ideal.Read.val_main_v5, Cert.Reference7Ideal.Read.val_main_cst_0, Cert.Reference7Ideal.Read.val_main_cst_1, Cert.Reference7Ideal.Read.val_main_cst_2, Cert.Reference7Ideal.Read.val_main_cst_3, Cert.Reference7Ideal.Read.val_main_cst_4]

theorem ref27 (x : Vec Ideal S4x4096x1024 .f32) (lo hi : Vec Ideal S16384x512 .f32) (g b : Vec Ideal S1024 .f32) (r : Fin 16384) (j : Fin 1024) :
    Cert.Reference7Ideal.Read.val_main_v27 (F := Ideal) x lo hi g b (ix2 r j) = Cert.Reference7Ideal.Read.val_main_v26 (F := Ideal) x lo hi g b (ix3 ⟨r.val / 4096, by omega⟩ ⟨r.val % 4096, by omega⟩ j) := by
  pointwise [Cert.Reference7Ideal.Read.val_main_v27]

/-- The reference's result is the normalised rows. -/
theorem ref_eq (x : Vec Ideal S4x4096x1024 .f32) (lo hi : Vec Ideal S16384x512 .f32) (g b : Vec Ideal S1024 .f32) :
    Cert.Reference7Ideal.Read.val_main_v27 (F := Ideal) x lo hi g b = G x lo hi g b := by
  funext y
  idx_vars y
  refine ((ref27 x lo hi g b y0 y1).trans (ref26 _ _ _ _ _ _ _ _)).trans ?_
  refine congrArg (fun f => normed f (g (ix1 y1)) (b (ix1 y1)) y1) (funext fun j => (ref4 _ _ _ _ _ _).trans ?_)
  have e : (⟨y0.val / 4096 * 4096 + y0.val % 4096, by omega⟩ : Fin 16384) = y0 := Fin.ext (by show y0.val / 4096 * 4096 + y0.val % 4096 = y0.val; omega)
  exact congrArg (fun r : Fin 16384 => resid (fun e => x (ix3 ⟨y0.val / 4096, by omega⟩ ⟨y0.val % 4096, by omega⟩ e)) (fun e => lo (ix2 r e)) (fun e => hi (ix2 r e)) j) e

/-! ### The kernel -/

variable (M : (ℓ : Loc nD τ sig) → Buf (Elt Ideal) ℓ) (c : Dev nD)

/-- The flattened rows. -/
def xV (x : Vec Ideal S4x4096x1024 .f32) : Vec Ideal S16384x1024 .f32 := shapeCast S16384x1024 x shapeCasts_S4x4096x1024_S16384x1024

theorem xV_at (x : Vec Ideal S4x4096x1024 .f32) (r : Fin 16384) (e : Fin 1024) : xV x (ix2 r e) = x (ix3 ⟨r.val / 4096, by omega⟩ ⟨r.val % 4096, by omega⟩ e) := by
  refine shapeCast_apply _ _ _ _ ?_
  rw [Shape.rowMajor_val_three, Shape.rowMajor_val_two]
  show (r.val / 4096 * 4096 + r.val % 4096) * 1024 + e.val = r.val * 1024 + e.val
  omega

theorem V0 : (V M c main_v0 : Vec Ideal S16384x1024 .f32) = xV (M (c, main_arg0)) := by
  after_reads_simp
  rfl

/-- A vector as one row. -/
def rV (g : Vec Ideal S1024 .f32) : Vec Ideal S1x1024 .f32 := shapeCast S1x1024 g shapeCasts_S1024_S1x1024

theorem rV_at (g : Vec Ideal S1024 .f32) (j : Fin 1024) : rV g (ix2 0 j) = g (ix1 j) := by
  pointwise [rV]

theorem V1 : (V M c main_v1 : Vec Ideal S1x1024 .f32) = rV (M (c, main_arg3)) := by
  after_reads_simp
  rfl

theorem V2 : (V M c main_v2 : Vec Ideal S1x1024 .f32) = rV (M (c, main_arg4)) := by
  after_reads_simp
  rfl

theorem iblk0 (t : Fin cfg0.N) (ht : t.val < 16) (a : Fin 1024) (e : Fin 1024) :
    (iblk M c 0 t : Vec Ideal S1024x1024 .f32) (ix2 a e) = xV (M (c, main_arg0)) (ix2 ⟨1024 * t.val + a.val, by omega⟩ e) := by
  rw [← V0 M c]
  have hi := (idx t).1
  blk_ext [iblk, hi]

theorem iblk1 (t : Fin cfg0.N) (ht : t.val < 16) (a : Fin 1024) (e : Fin 512) :
    (iblk M c 1 t : Vec Ideal S1024x512 .f32) (ix2 a e) = (M (c, main_arg1) : Vec Ideal S16384x512 .f32) (ix2 ⟨1024 * t.val + a.val, by omega⟩ e) := by
  rw [← V_main_arg1 M c]
  have hi := (idx t).2.1
  blk_ext [iblk, hi]

theorem iblk2 (t : Fin cfg0.N) (ht : t.val < 16) (a : Fin 1024) (e : Fin 512) :
    (iblk M c 2 t : Vec Ideal S1024x512 .f32) (ix2 a e) = (M (c, main_arg2) : Vec Ideal S16384x512 .f32) (ix2 ⟨1024 * t.val + a.val, by omega⟩ e) := by
  rw [← V_main_arg2 M c]
  have hi := (idx t).2.2.1
  blk_ext [iblk, hi]

theorem iblk3 (t : Fin cfg0.N) (a : Fin 1) (e : Fin 1024) : (iblk M c 3 t : Vec Ideal S1x1024 .f32) (ix2 a e) = rV (M (c, main_arg3)) (ix2 a e) := by
  rw [← V1 M c]
  have hi := (idx t).2.2.2.1
  blk_ext [iblk, hi]

theorem iblk4 (t : Fin cfg0.N) (a : Fin 1) (e : Fin 1024) : (iblk M c 4 t : Vec Ideal S1x1024 .f32) (ix2 a e) = rV (M (c, main_arg4)) (ix2 a e) := by
  rw [← V2 M c]
  have hi := (idx t).2.2.2.2.1
  blk_ext [iblk, hi]

/-- Equal entries give equal normalised rows. -/
theorem normed_congr {x x' : Fin 1024 → EReal} {lo lo' hi hi' : Fin 512 → EReal} {g g' b b' : EReal} (hx : ∀ e, x e = x' e) (hl : ∀ e, lo e = lo' e) (hh : ∀ e, hi e = hi' e)
    (hg : g = g') (hb : b = b') (j : Fin 1024) : normed (resid x lo hi) g b j = normed (resid x' lo' hi') g' b' j := by
  rw [funext hx, funext hl, funext hh, hg, hb]

/-- What a point writes back. -/
theorem out_whole (t : Fin cfg0.N) (ht : t.val < 16) (y : S1024x1024.Idx) (hy : (y 0).val < 1024) :
    (out0_5 (iblk M c 0 t) (iblk M c 1 t) (iblk M c 2 t) (iblk M c 3 t) (iblk M c 4 t) : Vec Ideal S1024x1024 .f32) y
      = G (M (c, main_arg0)) (M (c, main_arg1)) (M (c, main_arg2)) (M (c, main_arg3)) (M (c, main_arg4)) (ix2 ⟨1024 * t.val + (y 0).val, by omega⟩ (y 1)) := by
  idx_vars y
  refine (out_at _ _ _ _ _ y0 y1).trans ?_
  exact normed_congr (fun e => (iblk0 M c t ht y0 e).trans (xV_at _ _ _)) (fun e => iblk1 M c t ht y0 e) (fun e => iblk2 M c t ht y0 e)
    ((iblk3 M c t 0 y1).trans (rV_at _ _)) ((iblk4 M c t 0 y1).trans (rV_at _ _)) y1

/-- The output array after the region. -/
theorem arr : (dats M 0 c).arrAt 5 cfg0.N = G (M (c, main_arg0)) (M (c, main_arg1)) (M (c, main_arg2)) (M (c, main_arg3)) (M (c, main_arg4)) := by
  generalize hG : G (M (c, main_arg0)) (M (c, main_arg1)) (M (c, main_arg2)) (M (c, main_arg3)) (M (c, main_arg4)) = g
  refine Dat.arrAt_eq_of_covers (dats M 0 c) 5 g covers fun t _ y => ?_
  have ht : t.val < 16 := t.isLt
  have hy := out_whole M c t ht y (y 0).isLt
  rw [hG] at hy
  rw [after0_5]
  generalize out0_5 (iblk M c 0 t) (iblk M c 1 t) (iblk M c 2 t) (iblk M c 3 t) (iblk M c 4 t) = f at hy ⊢
  refine Eq.trans (b := f y) rfl (hy.trans ?_)
  clear hy hG
  have hi := (idx t).2.2.2.2.2
  blk_ext [hi]

end Cert.Kernel7Ideal.Last
end
-- ==== Proof.lean ====
/-
  The certificate's claims, put together: for each program the kernel's frame at both number systems, the reference's frame, the named
  constants where there are any, and the value equation.
-/
module

public import proofs.«01_k».proof.Defs
public import proofs.«01_k».proof.Proof.Gen.Kernel
public import proofs.«01_k».proof.Proof.Gen.Kernel.Frame.Runs
public import proofs.«01_k».proof.Proof.KernelFrame
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Body
public import proofs.«01_k».proof.Proof.Equal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Mid
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Near
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Far
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Chan
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Mixer
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Last

@[expose] public section

noncomputable section

namespace Cert.Proof

open Idealize.ShloMosaic Idealize.SL.Sem

/-- The reference runs, and changes no argument. -/
theorem frame_reference : @Cert.quiescent_ReferenceIdeal Cert.ReferenceIdeal.Gen.facts := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The two named constants are the table's. -/
theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

open Cert.KernelIdeal.Attn in
/-- The two programs' results are equal. -/
theorem algebraic : @Cert.algebraic_KernelIdeal_ReferenceIdeal Cert.KernelIdeal.Gen.facts Cert.ReferenceIdeal.Gen.facts := by
  intro m g m' g' _ hag
  refine ⟨fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (θ_run_and (run_main (F := Ideal) m g) (unchanged (F := Ideal) m g))
    have he := entry (F := Ideal) m c _ _ rfl rfl
    exact ⟨((h.1 c).1 6).trans ((arr6 m c _ _ he.1 he.2).trans (out_eq _ _)), ((h.1 c).1 7).trans ((arr7 m c _ _ he.1 he.2).trans (lse_eq _ _)), h.2 c⟩
  · refine (θ_run Cert.ReferenceIdeal.defs _ _).mono (fun r h c => ?_) (Cert.ReferenceIdeal.Value.run (F := Ideal) m' g')
    refine ⟨(h c).1.trans ((Cert.ReferenceIdeal.Read.val_main_v105_eq m' c).trans ?_), (h c).2.1.trans ((Cert.ReferenceIdeal.Read.val_main_v106_eq m' c).trans ?_), (h c).2.2⟩
    · rw [(hag c).1, (hag c).2]
    · rw [(hag c).1, (hag c).2]

/-- The reference for the queries, keys and values of the group with dilation 4 runs, and changes no argument. -/
theorem frame_reference2 : @Cert.quiescent_Reference2Ideal Cert.Reference2Ideal.Gen.facts := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- Kernel and reference give the same result: the queries, keys and values of the group with dilation 4. -/
theorem algebraic2 : @Cert.algebraic_Kernel2Ideal_Reference2Ideal Cert.Kernel2Ideal.Gen.facts Cert.Reference2Ideal.Gen.facts := by
  intro m g m' g' _ hag
  refine ⟨fun c => Cert.Reference2Ideal.Read.val_main_v6 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans ((Cert.Kernel2Ideal.Mid.arr m c).trans (Cert.Kernel2Ideal.Mid.ref_eq _ _).symm), (h c).2⟩)
      (Cert.Kernel2Ideal.Value.run_blocks (F := Ideal) m g)
  · refine (θ_run Cert.Reference2Ideal.defs _ _).mono (fun r h c => ⟨(h c).1.trans ((Cert.Reference2Ideal.Read.val_main_v6_eq _ _).trans ?_), (h c).2⟩) (Cert.Reference2Ideal.Value.run (F := Ideal) m' g')
    rw [(hag c).1, (hag c).2]

/-- The reference for the queries, keys and values of the group with dilation 1 runs, and changes no argument. -/
theorem frame_reference3 : @Cert.quiescent_Reference3Ideal Cert.Reference3Ideal.Gen.facts := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- Kernel and reference give the same result: the queries, keys and values of the group with dilation 1. -/
theorem algebraic3 : @Cert.algebraic_Kernel3Ideal_Reference3Ideal Cert.Kernel3Ideal.Gen.facts Cert.Reference3Ideal.Gen.facts := by
  intro m g m' g' _ hag
  refine ⟨fun c => Cert.Reference3Ideal.Read.val_main_v6 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans ((Cert.Kernel3Ideal.Near.arr m c).trans (Cert.Kernel3Ideal.Near.ref_eq _ _).symm), (h c).2⟩)
      (Cert.Kernel3Ideal.Value.run_blocks (F := Ideal) m g)
  · refine (θ_run Cert.Reference3Ideal.defs _ _).mono (fun r h c => ⟨(h c).1.trans ((Cert.Reference3Ideal.Read.val_main_v6_eq _ _).trans ?_), (h c).2⟩) (Cert.Reference3Ideal.Value.run (F := Ideal) m' g')
    rw [(hag c).1, (hag c).2]

/-- The reference for the queries, keys and values of the group with dilation 16 runs, and changes no argument. -/
theorem frame_reference4 : @Cert.quiescent_Reference4Ideal Cert.Reference4Ideal.Gen.facts := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- Kernel and reference give the same result: the queries, keys and values of the group with dilation 16. -/
theorem algebraic4 : @Cert.algebraic_Kernel4Ideal_Reference4Ideal Cert.Kernel4Ideal.Gen.facts Cert.Reference4Ideal.Gen.facts := by
  intro m g m' g' _ hag
  refine ⟨fun c => Cert.Reference4Ideal.Read.val_main_v6 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans ((Cert.Kernel4Ideal.Far.arr m c).trans (Cert.Kernel4Ideal.Far.ref_eq _ _).symm), (h c).2⟩)
      (Cert.Kernel4Ideal.Value.run_blocks (F := Ideal) m g)
  · refine (θ_run Cert.Reference4Ideal.defs _ _).mono (fun r h c => ⟨(h c).1.trans ((Cert.Reference4Ideal.Read.val_main_v6_eq _ _).trans ?_), (h c).2⟩) (Cert.Reference4Ideal.Value.run (F := Ideal) m' g')
    rw [(hag c).1, (hag c).2]

/-- The reference for the projection of the DeltaNet runs, and changes no argument. -/
theorem frame_reference5 : @Cert.quiescent_Reference5Ideal Cert.Reference5Ideal.Gen.facts := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- Kernel and reference give the same result: the projection of the DeltaNet. -/
theorem algebraic5 : @Cert.algebraic_Kernel5Ideal_Reference5Ideal Cert.Kernel5Ideal.Gen.facts Cert.Reference5Ideal.Gen.facts := by
  intro m g m' g' _ hag
  refine ⟨fun c => Cert.Reference5Ideal.Read.val_main_v3 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans ((Cert.Kernel5Ideal.Chan.arr m c).trans (Cert.Kernel5Ideal.Chan.ref_eq _ _).symm), (h c).2⟩)
      (Cert.Kernel5Ideal.Value.run_blocks (F := Ideal) m g)
  · refine (θ_run Cert.Reference5Ideal.defs _ _).mono (fun r h c => ⟨(h c).1.trans ((Cert.Reference5Ideal.Read.val_main_v3_eq _ _).trans ?_), (h c).2⟩) (Cert.Reference5Ideal.Value.run (F := Ideal) m' g')
    rw [(hag c).1, (hag c).2]

/-- The reference for the gating mixer up to its output projection runs, and changes no argument. -/
theorem frame_reference6 : @Cert.quiescent_Reference6Ideal Cert.Reference6Ideal.Gen.facts := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- Kernel and reference give the same result: the gating mixer up to its output projection. -/
theorem algebraic6 : @Cert.algebraic_Kernel6Ideal_Reference6Ideal Cert.Kernel6Ideal.Gen.facts Cert.Reference6Ideal.Gen.facts := by
  intro m g m' g' _ hag
  refine ⟨fun c => Cert.Reference6Ideal.Read.val_main_v54 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)), ?_, ?_⟩
  · exact (θ_run Cert.Kernel6Ideal.defs _ _).mono (fun r h c => ⟨(h c).1.trans ((Cert.Kernel6Ideal.Gate.arr m c).trans (Cert.Kernel6Ideal.Gate.ref_eq _ _ _ _ _ _).symm), (h c).2⟩)
      (Cert.Kernel6Ideal.Value.run_blocks (F := Ideal) m g)
  · refine (θ_run Cert.Reference6Ideal.defs _ _).mono (fun r h c => ⟨(h c).1.trans ((Cert.Reference6Ideal.Read.val_main_v54_eq m' c).trans ?_), (h c).2⟩) (Cert.Reference6Ideal.Value.run (F := Ideal) m' g')
    rw [(hag c).1, (hag c).2.1, (hag c).2.2.1, (hag c).2.2.2.1, (hag c).2.2.2.2.1, (hag c).2.2.2.2.2]

/-- The reference for the last normalisation runs, and changes no argument. -/
theorem frame_reference7 : @Cert.quiescent_Reference7Ideal Cert.Reference7Ideal.Gen.facts := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- Kernel and reference give the same result: the last normalisation. -/
theorem algebraic7 : @Cert.algebraic_Kernel7Ideal_Reference7Ideal Cert.Kernel7Ideal.Gen.facts Cert.Reference7Ideal.Gen.facts := by
  intro m g m' g' _ hag
  refine ⟨fun c => Cert.Reference7Ideal.Read.val_main_v27 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · exact (θ_run Cert.Kernel7Ideal.defs _ _).mono (fun r h c => ⟨(h c).1.trans ((Cert.Kernel7Ideal.Last.arr m c).trans (Cert.Kernel7Ideal.Last.ref_eq _ _ _ _ _).symm), (h c).2⟩)
      (Cert.Kernel7Ideal.Value.run_blocks (F := Ideal) m g)
  · refine (θ_run Cert.Reference7Ideal.defs _ _).mono (fun r h c => ⟨(h c).1.trans ((Cert.Reference7Ideal.Read.val_main_v27_eq m' c).trans ?_), (h c).2⟩) (Cert.Reference7Ideal.Value.run (F := Ideal) m' g')
    rw [(hag c).1, (hag c).2.1, (hag c).2.2.1, (hag c).2.2.2.1, (hag c).2.2.2.2]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  fun m ρ _ => Cert.Kernel.Attn.frame m ρ, fun m ρ _ => Cert.KernelIdeal.Attn.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  preserves, algebraic,
  trivial, algebraic2,
  trivial, algebraic3,
  trivial, algebraic4,
  trivial, algebraic5,
  trivial, algebraic6,
  trivial, algebraic7⟩

end Cert.Proof

end
